-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_roots_on_a_sphere [hPre_roots_on_a_sphere : Cert.Pre_roots_on_a_sphere.Facts] (m : (ℓ : Loc Cert.KernelIdeal.nD Cert.KernelIdeal.τ Cert.KernelIdeal.sig) → Buf (Elt Ideal) ℓ) : Prop :=
  ∀ c : Dev Cert.KernelIdeal.nD,
    (Cert.Pre_roots_on_a_sphere.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roots_on_a_sphere [hPre_roots_on_a_sphere : Cert.Pre_roots_on_a_sphere.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roots_on_a_sphere.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_roots_on_a_sphere [hKernelIdeal : Cert.KernelIdeal.Facts] [hPre_roots_on_a_sphere : Cert.Pre_roots_on_a_sphere.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roots_on_a_sphere m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_roots_on_a_sphere [hReferenceIdeal : Cert.ReferenceIdeal.Facts] [hPre_roots_on_a_sphere : Cert.Pre_roots_on_a_sphere.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roots_on_a_sphere m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_roots_on_a_sphere [hKernelIdeal : Cert.KernelIdeal.Facts] [hReferenceIdeal : Cert.ReferenceIdeal.Facts] [hPre_roots_on_a_sphere : Cert.Pre_roots_on_a_sphere.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roots_on_a_sphere m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v456) = v0 c
          ∧ r.2.mem ((c.tc : Thread Cert.ReferenceIdeal.nD Cert.ReferenceIdeal.τ).loc Cert.ReferenceIdeal.main_v426) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_roots_on_a_sphere : Cert.Pre_roots_on_a_sphere.Facts),
    quiescent_Kernel (hKernel := hKernel)
    ∧ quiescent_KernelIdeal (hKernelIdeal := hKernelIdeal)
    ∧ quiescent_KernelIdeal_pre_roots_on_a_sphere (hKernelIdeal := hKernelIdeal) (hPre_roots_on_a_sphere := hPre_roots_on_a_sphere)
    ∧ quiescent_ReferenceIdeal (hReferenceIdeal := hReferenceIdeal)
    ∧ quiescent_ReferenceIdeal_pre_roots_on_a_sphere (hReferenceIdeal := hReferenceIdeal) (hPre_roots_on_a_sphere := hPre_roots_on_a_sphere)
    ∧ preserves_Kernel_KernelIdeal
    ∧ algebraic_KernelIdeal_ReferenceIdeal_pre_roots_on_a_sphere (hKernelIdeal := hKernelIdeal) (hReferenceIdeal := hReferenceIdeal) (hPre_roots_on_a_sphere := hPre_roots_on_a_sphere)
-- ==== Pre_roots_on_a_sphere.lean ====
abbrev S16384x14 : Shape := ⟨2, ![16384, 14]⟩
abbrev S32x14 : Shape := ⟨2, ![32, 14]⟩
abbrev S32 : Shape := ⟨1, ![32]⟩
abbrev S8x32 : Shape := ⟨2, ![8, 32]⟩
abbrev S8 : Shape := ⟨1, ![8]⟩
abbrev S8x240x52 : Shape := ⟨3, ![8, 240, 52]⟩
abbrev S240x4 : Shape := ⟨2, ![240, 4]⟩
abbrev S7x240x4 : Shape := ⟨3, ![7, 240, 4]⟩
abbrev S_ : Shape := ⟨0, ![]⟩
abbrev S52x52 : Shape := ⟨2, ![52, 52]⟩
abbrev S52 : Shape := ⟨1, ![52]⟩
abbrev S240x8 : Shape := ⟨2, ![240, 8]⟩
abbrev S240 : Shape := ⟨1, ![240]⟩
abbrev S1 : Shape := ⟨1, ![1]⟩

class Facts : Prop where
  reducesTo_S240x8_S240_d1 : S240x8.ReducesTo [1] S240
  h_S_ : 0 < S_.numel
  slices_S240_S1_0 : S240.Slices ![0] S1
  shapeCasts_S1_S_ : S1.ShapeCasts S_
  bcast_S_S240 : S_.BroadcastsInDim S240 (![] : Fin 0 → Fin S240.rank)
  reducesTo_S240_S_d0 : S240.ReducesTo [0] S_

variable [Facts]

def fn {F : FTy → Type} [FloatOps F] (main_arg0 : FVec F S16384x14 .f32) (main_arg1 : FVec F S32x14 .f32) (main_arg2 : FVec F S32 .f32) (main_arg3 : FVec F S8x32 .f32) (main_arg4 : FVec F S8 .f32) (main_arg5 : FVec F S8x240x52 .f32) (main_arg6 : FVec F S240x4 .f32) (main_arg7 : FVec F S7x240x4 .f32) (main_arg8 : FVec F S_ .f32) (main_arg9 : FVec F S52x52 .f32) (main_arg10 : FVec F S52 .f32) (main_arg11 : FVec F S52x52 .f32) (main_arg12 : FVec F S52 .f32) (main_arg13 : FVec F S_ .f32) (main_arg14 : FVec F S240x8 .f32) : IVec S_ 1 :=
  let main_v0 : FVec F S240x8 .f32 := mulf main_arg14 main_arg14
  let main_cst : FVec F S_ .f32 := constant S_ .f32 0x00000000#32
  let main_v1 : FVec F S240 .f32 := (fun x v => Host.reduceAdd x v reducesTo_S240x8_S240_d1 h_S_) main_v0 main_cst
  let main_v2 : FVec F S1 .f32 := (extractStridedSlice S1 ![0] · slices_S240_S1_0) main_v1
  let main_v3 : FVec F S_ .f32 := shapeCast S_ main_v2 shapeCasts_S1_S_
  let main_v4 : FVec F S240 .f32 := broadcastInDim S240 ![] bcast_S_S240 main_v3
  let main_v5 : IVec S240 1 := cmpf .oeq main_v1 main_v4
  let main_c : IVec S_ 1 := constantI S_ 1 1#1
  let main_v6 : IVec S_ 1 := (fun x v => Host.reduce IntOp.andi x v reducesTo_S240_S_d0 h_S_) main_v5 main_c
  let main_v7 : FVec F S1 .f32 := (extractStridedSlice S1 ![0] · slices_S240_S1_0) main_v1
  let main_v8 : FVec F S_ .f32 := shapeCast S_ main_v7 shapeCasts_S1_S_
  let main_cst_0 : FVec F S_ .f32 := constant S_ .f32 0x7F800000#32
  let main_v9 : IVec S_ 1 := cmpf .olt main_v8 main_cst_0
  let main_v10 : IVec S_ 1 := andi main_v6 main_v9
  let main_cst_1 : FVec F S_ .f32 := constant S_ .f32 0xFF800000#32
  let main_v11 : IVec S_ 1 := cmpf .ogt main_arg8 main_cst_1
  let main_v12 : IVec S_ 1 := andi main_v10 main_v11
  main_v12
-- ==== Kernel.lean ====
abbrev S16384x14 : Shape := ⟨2, ![16384, 14]⟩
abbrev S32x14 : Shape := ⟨2, ![32, 14]⟩
abbrev S32 : Shape := ⟨1, ![32]⟩
abbrev S8x32 : Shape := ⟨2, ![8, 32]⟩
abbrev S8 : Shape := ⟨1, ![8]⟩
abbrev S8x240x52 : Shape := ⟨3, ![8, 240, 52]⟩
abbrev S240x4 : Shape := ⟨2, ![240, 4]⟩
abbrev S7x240x4 : Shape := ⟨3, ![7, 240, 4]⟩
abbrev S_ : Shape := ⟨0, ![]⟩
abbrev S52x52 : Shape := ⟨2, ![52, 52]⟩
abbrev S52 : Shape := ⟨1, ![52]⟩
abbrev S240x8 : Shape := ⟨2, ![240, 8]⟩
abbrev S1 : Shape := ⟨1, ![1]⟩
abbrev S1x8 : Shape := ⟨2, ![1, 8]⟩
abbrev S1x1 : Shape := ⟨2, ![1, 1]⟩
abbrev S240 : Shape := ⟨1, ![240]⟩
abbrev S240x1 : Shape := ⟨2, ![240, 1]⟩
abbrev S1x240x4 : Shape := ⟨3, ![1, 240, 4]⟩
abbrev S8x240x4 : Shape := ⟨3, ![8, 240, 4]⟩
abbrev S2 : Shape := ⟨1, ![2]⟩
abbrev S8x1 : Shape := ⟨2, ![8, 1]⟩
abbrev S8x1x1 : Shape := ⟨3, ![8, 1, 1]⟩
abbrev S8x240x1 : Shape := ⟨3, ![8, 240, 1]⟩
abbrev S8x240x57 : Shape := ⟨3, ![8, 240, 57]⟩
abbrev S8x57x240 : Shape := ⟨3, ![8, 57, 240]⟩
abbrev S14x16384 : Shape := ⟨2, ![14, 16384]⟩
abbrev S32x1 : Shape := ⟨2, ![32, 1]⟩
abbrev S8x240 : Shape := ⟨2, ![8, 240]⟩
abbrev S52x1 : Shape := ⟨2, ![52, 1]⟩
abbrev S52x16384 : Shape := ⟨2, ![52, 16384]⟩
abbrev S4x16384 : Shape := ⟨2, ![4, 16384]⟩
abbrev S14x8192 : Shape := ⟨2, ![14, 8192]⟩
abbrev S52x8192 : Shape := ⟨2, ![52, 8192]⟩
abbrev S4x8192 : Shape := ⟨2, ![4, 8192]⟩
abbrev S32x8192 : Shape := ⟨2, ![32, 8192]⟩
abbrev S8x8192 : Shape := ⟨2, ![8, 8192]⟩
abbrev S8192 : Shape := ⟨1, ![8192]⟩
abbrev S1x8192 : Shape := ⟨2, ![1, 8192]⟩
abbrev S56x8192 : Shape := ⟨2, ![56, 8192]⟩
abbrev S240x8192 : Shape := ⟨2, ![240, 8192]⟩
abbrev S1x57x240 : Shape := ⟨3, ![1, 57, 240]⟩
abbrev S57x240 : Shape := ⟨2, ![57, 240]⟩
abbrev S57x8192 : Shape := ⟨2, ![57, 8192]⟩
abbrev S16384x52 : Shape := ⟨2, ![16384, 52]⟩
abbrev S16384x4 : Shape := ⟨2, ![16384, 4]⟩

abbrev nBuf : Space → Nat
  | .hbm => 97
  | .vmem => 20
  | .smem => 0
  | _ => 0

abbrev bufTy : (tb : Table) → Fin (tcTables nBuf tb) → BufTy
  | .hbm, ⟨0, _⟩ => ⟨S16384x14, .f32⟩
  | .hbm, ⟨1, _⟩ => ⟨S32x14, .f32⟩
  | .hbm, ⟨2, _⟩ => ⟨S32, .f32⟩
  | .hbm, ⟨3, _⟩ => ⟨S8x32, .f32⟩
  | .hbm, ⟨4, _⟩ => ⟨S8, .f32⟩
  | .hbm, ⟨5, _⟩ => ⟨S8x240x52, .f32⟩
  | .hbm, ⟨6, _⟩ => ⟨S240x4, .f32⟩
  | .hbm, ⟨7, _⟩ => ⟨S7x240x4, .f32⟩
  | .hbm, ⟨8, _⟩ => ⟨S_, .f32⟩
  | .hbm, ⟨9, _⟩ => ⟨S52x52, .f32⟩
  | .hbm, ⟨10, _⟩ => ⟨S52, .f32⟩
  | .hbm, ⟨11, _⟩ => ⟨S52x52, .f32⟩
  | .hbm, ⟨12, _⟩ => ⟨S52, .f32⟩
  | .hbm, ⟨13, _⟩ => ⟨S_, .f32⟩
  | .hbm, ⟨14, _⟩ => ⟨S240x8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S8, .f32⟩
  | .hbm, ⟨57, _⟩ => ⟨S1x8, .f32⟩
  | .hbm, ⟨58, _⟩ => ⟨S1x1, .f32⟩
  | .hbm, ⟨59, _⟩ => ⟨S240x8, .f32⟩
  | .hbm, ⟨60, _⟩ => ⟨S_, .f32⟩
  | .hbm, ⟨61, _⟩ => ⟨S240, .f32⟩
  | .hbm, ⟨62, _⟩ => ⟨S240x1, .f32⟩
  | .hbm, ⟨63, _⟩ => ⟨S1x240x4, .f32⟩
  | .hbm, ⟨64, _⟩ => ⟨S8x240x4, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S_, .f32⟩
  | .hbm, ⟨71, _⟩ => ⟨S1x8, .f32⟩
  | .hbm, ⟨72, _⟩ => ⟨S8x1, .f32⟩
  | .hbm, ⟨73, _⟩ => ⟨S8x1x1, .f32⟩
  | .hbm, ⟨74, _⟩ => ⟨S8x240x52, .f32⟩
  | .hbm, ⟨75, _⟩ => ⟨S8x240x52, .f32⟩
  | .hbm, ⟨76, _⟩ => ⟨S8x1, .f32⟩
  | .hbm, ⟨77, _⟩ => ⟨S8x1x1, .f32⟩
  | .hbm, ⟨78, _⟩ => ⟨S8x240x4, .f32⟩
  | .hbm, ⟨79, _⟩ => ⟨S8x240x4, .f32⟩
  | .hbm, ⟨80, _⟩ => ⟨S_, .f32⟩
  | .hbm, ⟨81, _⟩ => ⟨S8x240x1, .f32⟩
  | .hbm, ⟨82, _⟩ => ⟨S8x240x57, .f32⟩
  | .hbm, ⟨83, _⟩ => ⟨S8x57x240, .f32⟩
  | .hbm, ⟨84, _⟩ => ⟨S14x16384, .f32⟩
  | .hbm, ⟨85, _⟩ => ⟨S32x1, .f32⟩
  | .hbm, ⟨86, _⟩ => ⟨S8x1, .f32⟩
  | .hbm, ⟨87, _⟩ => ⟨S_, .f32⟩
  | .hbm, ⟨88, _⟩ => ⟨S240x8, .f32⟩
  | .hbm, ⟨89, _⟩ => ⟨S240x8, .f32⟩
  | .hbm, ⟨90, _⟩ => ⟨S8x240, .f32⟩
  | .hbm, ⟨91, _⟩ => ⟨S52x1, .f32⟩
  | .hbm, ⟨92, _⟩ => ⟨S52x1, .f32⟩
  | .hbm, ⟨93, _⟩ => ⟨S52x16384, .f32⟩
  | .hbm, ⟨94, _⟩ => ⟨S4x16384, .f32⟩
  | .hbm, ⟨95, _⟩ => ⟨S16384x52, .f32⟩
  | .hbm, ⟨96, _⟩ => ⟨S16384x4, .f32⟩
  | .local _ .vmem, ⟨0, _⟩ => ⟨S1x1, .f32⟩
  | .local _ .vmem, ⟨1, _⟩ => ⟨S1x8, .f32⟩
  | .local _ .vmem, ⟨2, _⟩ => ⟨S14x8192, .f32⟩
  | .local _ .vmem, ⟨3, _⟩ => ⟨S14x8192, .f32⟩
  | .local _ .vmem, ⟨4, _⟩ => ⟨S32x14, .f32⟩
  | .local _ .vmem, ⟨5, _⟩ => ⟨S32x1, .f32⟩
  | .local _ .vmem, ⟨6, _⟩ => ⟨S8x32, .f32⟩
  | .local _ .vmem, ⟨7, _⟩ => ⟨S8x1, .f32⟩
  | .local _ .vmem, ⟨8, _⟩ => ⟨S240x8, .f32⟩
  | .local _ .vmem, ⟨9, _⟩ => ⟨S8x240, .f32⟩
  | .local _ .vmem, ⟨10, _⟩ => ⟨S240x1, .f32⟩
  | .local _ .vmem, ⟨11, _⟩ => ⟨S8x57x240, .f32⟩
  | .local _ .vmem, ⟨12, _⟩ => ⟨S52x52, .f32⟩
  | .local _ .vmem, ⟨13, _⟩ => ⟨S52x1, .f32⟩
  | .local _ .vmem, ⟨14, _⟩ => ⟨S52x52, .f32⟩
  | .local _ .vmem, ⟨15, _⟩ => ⟨S52x1, .f32⟩
  | .local _ .vmem, ⟨16, _⟩ => ⟨S52x8192, .f32⟩
  | .local _ .vmem, ⟨17, _⟩ => ⟨S52x8192, .f32⟩
  | .local _ .vmem, ⟨18, _⟩ => ⟨S4x8192, .f32⟩
  | .local _ .vmem, ⟨19, _⟩ => ⟨S4x8192, .f32⟩
  | _, _ => ⟨S16384x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_cst_0 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_v3 : Ref sig .tc := ⟨.hbm, 21, rfl⟩
abbrev main_cst_2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_3 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63_0 : Ref sig .tc := ⟨.hbm, 93, rfl⟩
abbrev main_v63_1 : Ref sig .tc := ⟨.hbm, 94, rfl⟩
abbrev main_v64 : Ref sig .tc := ⟨.hbm, 95, rfl⟩
abbrev main_v65 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S14x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S240x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x240 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S240x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x57x240 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S52x52 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S52x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S52x52 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S52x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S52x8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x8192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x14 : Shape := ⟨2, ![16384, 14]⟩
abbrev S32x14 : Shape := ⟨2, ![32, 14]⟩
abbrev S32 : Shape := ⟨1, ![32]⟩
abbrev S8x32 : Shape := ⟨2, ![8, 32]⟩
abbrev S8 : Shape := ⟨1, ![8]⟩
abbrev S8x240x52 : Shape := ⟨3, ![8, 240, 52]⟩
abbrev S240x4 : Shape := ⟨2, ![240, 4]⟩
abbrev S7x240x4 : Shape := ⟨3, ![7, 240, 4]⟩
abbrev S_ : Shape := ⟨0, ![]⟩
abbrev S52x52 : Shape := ⟨2, ![52, 52]⟩
abbrev S52 : Shape := ⟨1, ![52]⟩
abbrev S240x8 : Shape := ⟨2, ![240, 8]⟩
abbrev S14x32 : Shape := ⟨2, ![14, 32]⟩
abbrev S16384x32 : Shape := ⟨2, ![16384, 32]⟩
abbrev S1x32 : Shape := ⟨2, ![1, 32]⟩
abbrev S32x8 : Shape := ⟨2, ![32, 8]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩
abbrev S16384x52 : Shape := ⟨2, ![16384, 52]⟩
abbrev S16384x4 : Shape := ⟨2, ![16384, 4]⟩
abbrev S240 : Shape := ⟨1, ![240]⟩
abbrev S1x240 : Shape := ⟨2, ![1, 240]⟩
abbrev S16384x240 : Shape := ⟨2, ![16384, 240]⟩
abbrev S8x240 : Shape := ⟨2, ![8, 240]⟩
abbrev S1x240x52 : Shape := ⟨3, ![1, 240, 52]⟩
abbrev S240x52 : Shape := ⟨2, ![240, 52]⟩
abbrev S1 : Shape := ⟨1, ![1]⟩
abbrev S1x1 : Shape := ⟨2, ![1, 1]⟩
abbrev S1x240x4 : Shape := ⟨3, ![1, 240, 4]⟩
abbrev S1x52 : Shape := ⟨2, ![1, 52]⟩

abbrev nBuf : Space → Nat
  | .hbm => 794
  | .vmem => 0
  | .smem => 0
  | _ => 0

abbrev hbmTy0_0 (i : Nat) : BufTy := match i % 128 with
  | 0 => ⟨S16384x14, .f32⟩
  | 1 => ⟨S32x14, .f32⟩
  | 2 => ⟨S32, .f32⟩
  | 3 => ⟨S8x32, .f32⟩
  | 4 => ⟨S8, .f32⟩
  | 5 => ⟨S8x240x52, .f32⟩
  | 6 => ⟨S240x4, .f32⟩
  | 7 => ⟨S7x240x4, .f32⟩
  | 8 => ⟨S_, .f32⟩
  | 9 => ⟨S52x52, .f32⟩
  | 10 => ⟨S52, .f32⟩
  | 11 => ⟨S52x52, .f32⟩
  | 12 => ⟨S52, .f32⟩
  | 13 => ⟨S_, .f32⟩
  | 14 => ⟨S240x8, .f32⟩
  | 15 => ⟨S14x32, .f32⟩
  | 16 => ⟨S16384x32, .f32⟩
  | 17 => ⟨S1x32, .f32⟩
  | 18 => ⟨S16384x32, .f32⟩
  | 19 => ⟨S16384x32, .f32⟩
  | 20 => ⟨S16384x32, .f32⟩
  | 21 => ⟨S16384x32, .f32⟩
  | 22 => ⟨S_, .f32⟩
  | 23 => ⟨S16384x32, .f32⟩
  | 24 => ⟨S16384x32, .f32⟩
  | 25 => ⟨S16384x32, .f32⟩
  | 26 => ⟨S_, .f32⟩
  | 27 => ⟨S16384x32, .f32⟩
  | 28 => ⟨S16384x32, .f32⟩
  | 29 => ⟨S16384x32, .f32⟩
  | 30 => ⟨S_, .f32⟩
  | 31 => ⟨S16384x32, .f32⟩
  | 32 => ⟨S16384x32, .f32⟩
  | 33 => ⟨S_, .f32⟩
  | 34 => ⟨S16384x32, .f32⟩
  | 35 => ⟨S16384x32, .f32⟩
  | 36 => ⟨S16384x32, .f32⟩
  | 37 => ⟨S32x8, .f32⟩
  | 38 => ⟨S16384x8, .f32⟩
  | 39 => ⟨S1x8, .f32⟩
  | 40 => ⟨S16384x8, .f32⟩
  | 41 => ⟨S16384x8, .f32⟩
  | 42 => ⟨S16384x8, .f32⟩
  | 43 => ⟨S_, .f32⟩
  | 44 => ⟨S16384, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x8, .f32⟩
  | 51 => ⟨S16384x8, .f32⟩
  | 52 => ⟨S_, .f32⟩
  | 53 => ⟨S16384x8, .f32⟩
  | 54 => ⟨S16384x8, .f32⟩
  | 55 => ⟨S_, .f32⟩
  | 56 => ⟨S_, .f32⟩
  | 57 => ⟨S16384x52, .f32⟩
  | 58 => ⟨S_, .f32⟩
  | 59 => ⟨S16384x4, .f32⟩
  | 60 => ⟨S240x8, .f32⟩
  | 61 => ⟨S_, .f32⟩
  | 62 => ⟨S240, .f32⟩
  | 63 => ⟨S1x240, .f32⟩
  | 64 => ⟨S_, .f32⟩
  | 65 => ⟨S_, .f32⟩
  | 66 => ⟨S_, .f32⟩
  | 67 => ⟨S16384x8, .f32⟩
  | 68 => ⟨S16384x8, .f32⟩
  | 69 => ⟨S16384x8, .f32⟩
  | 70 => ⟨S_, .f32⟩
  | 71 => ⟨S16384, .f32⟩
  | 72 => ⟨S16384x1, .f32⟩
  | 73 => ⟨S16384x240, .f32⟩
  | 74 => ⟨S16384x240, .f32⟩
  | 75 => ⟨S16384x240, .f32⟩
  | 76 => ⟨S8x240, .f32⟩
  | 77 => ⟨S16384x240, .f32⟩
  | 78 => ⟨S_, .f32⟩
  | 79 => ⟨S16384x240, .f32⟩
  | 80 => ⟨S16384x240, .f32⟩
  | 81 => ⟨S16384x240, .f32⟩
  | 82 => ⟨S_, .f32⟩
  | 83 => ⟨S_, .f32⟩
  | 84 => ⟨S16384x240, .f32⟩
  | 85 => ⟨S16384x240, .f32⟩
  | 86 => ⟨S16384x240, .i32⟩
  | 87 => ⟨S_, .f32⟩
  | 88 => ⟨S_, .i32⟩
  | 89 => ⟨S16384, .f32⟩
  | 90 => ⟨S16384, .i32⟩
  | 91 => ⟨S_, .f32⟩
  | 92 => ⟨S_, .f32⟩
  | 93 => ⟨S_, .f32⟩
  | 94 => ⟨S_, .f32⟩
  | 95 => ⟨S_, .f32⟩
  | 96 => ⟨S16384x240, .f32⟩
  | 97 => ⟨S16384x240, .f32⟩
  | 98 => ⟨S16384x240, .f32⟩
  | 99 => ⟨S_, .f32⟩
  | 100 => ⟨S16384, .f32⟩
  | 101 => ⟨S_, .f32⟩
  | 102 => ⟨S16384, .f32⟩
  | 103 => ⟨S16384, .f32⟩
  | 104 => ⟨S16384x1, .f32⟩
  | 105 => ⟨S16384x240, .f32⟩
  | 106 => ⟨S16384x240, .f32⟩
  | 107 => ⟨S16384x240, .f32⟩
  | 108 => ⟨S_, .f32⟩
  | 109 => ⟨S16384, .f32⟩
  | 110 => ⟨S16384x1, .f32⟩
  | 111 => ⟨S16384x240, .f32⟩
  | 112 => ⟨S16384x240, .f32⟩
  | 113 => ⟨S1x240x52, .f32⟩
  | 114 => ⟨S240x52, .f32⟩
  | 115 => ⟨S16384x52, .f32⟩
  | 116 => ⟨S16384x52, .f32⟩
  | 117 => ⟨S16384x52, .f32⟩
  | 118 => ⟨S16384x52, .f32⟩
  | 119 => ⟨S16384x4, .f32⟩
  | 120 => ⟨S16384x4, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x14, .f32⟩

abbrev hbmTy0_1 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x8, .f32⟩
  | 12 => ⟨S16384x8, .i1⟩
  | 13 => ⟨S_, .f32⟩
  | 14 => ⟨S16384x8, .f32⟩
  | 15 => ⟨S16384x8, .f32⟩
  | 16 => ⟨S16384x8, .f32⟩
  | 17 => ⟨S16384x8, .f32⟩
  | 18 => ⟨S16384x8, .f32⟩
  | 19 => ⟨S_, .f32⟩
  | 20 => ⟨S_, .f32⟩
  | 21 => ⟨S16384x8, .f32⟩
  | 22 => ⟨S16384x8, .f32⟩
  | 23 => ⟨S16384x8, .f32⟩
  | 24 => ⟨S_, .f32⟩
  | 25 => ⟨S16384, .f32⟩
  | 26 => ⟨S16384x1, .f32⟩
  | 27 => ⟨S16384x240, .f32⟩
  | 28 => ⟨S16384x240, .f32⟩
  | 29 => ⟨S16384x240, .f32⟩
  | 30 => ⟨S8x240, .f32⟩
  | 31 => ⟨S16384x240, .f32⟩
  | 32 => ⟨S_, .f32⟩
  | 33 => ⟨S16384x240, .f32⟩
  | 34 => ⟨S16384x240, .f32⟩
  | 35 => ⟨S16384x240, .f32⟩
  | 36 => ⟨S_, .f32⟩
  | 37 => ⟨S_, .f32⟩
  | 38 => ⟨S16384x240, .f32⟩
  | 39 => ⟨S16384x240, .f32⟩
  | 40 => ⟨S16384x240, .i32⟩
  | 41 => ⟨S_, .f32⟩
  | 42 => ⟨S_, .i32⟩
  | 43 => ⟨S16384, .f32⟩
  | 44 => ⟨S16384, .i32⟩
  | 45 => ⟨S_, .f32⟩
  | 46 => ⟨S_, .f32⟩
  | 47 => ⟨S_, .f32⟩
  | 48 => ⟨S_, .f32⟩
  | 49 => ⟨S_, .f32⟩
  | 50 => ⟨S16384x240, .f32⟩
  | 51 => ⟨S16384x240, .f32⟩
  | 52 => ⟨S16384x240, .f32⟩
  | 53 => ⟨S_, .f32⟩
  | 54 => ⟨S16384, .f32⟩
  | 55 => ⟨S_, .f32⟩
  | 56 => ⟨S16384, .f32⟩
  | 57 => ⟨S16384, .f32⟩
  | 58 => ⟨S16384x1, .f32⟩
  | 59 => ⟨S16384x240, .f32⟩
  | 60 => ⟨S16384x240, .f32⟩
  | 61 => ⟨S16384x240, .f32⟩
  | 62 => ⟨S_, .f32⟩
  | 63 => ⟨S16384, .f32⟩
  | 64 => ⟨S16384x1, .f32⟩
  | 65 => ⟨S16384x240, .f32⟩
  | 66 => ⟨S16384x240, .f32⟩
  | 67 => ⟨S1x240x52, .f32⟩
  | 68 => ⟨S240x52, .f32⟩
  | 69 => ⟨S16384x52, .f32⟩
  | 70 => ⟨S16384x52, .f32⟩
  | 71 => ⟨S16384x52, .f32⟩
  | 72 => ⟨S16384x52, .f32⟩
  | 73 => ⟨S1x240x4, .f32⟩
  | 74 => ⟨S240x4, .f32⟩
  | 75 => ⟨S16384x4, .f32⟩
  | 76 => ⟨S16384x4, .f32⟩
  | 77 => ⟨S16384x4, .f32⟩
  | 78 => ⟨S16384x4, .f32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S1, .i32⟩
  | 88 => ⟨S_, .i32⟩
  | 89 => ⟨S16384x1, .i32⟩
  | 90 => ⟨S16384x1, .i1⟩
  | 91 => ⟨S1x1, .i32⟩
  | 92 => ⟨S16384x1, .i32⟩
  | 93 => ⟨S16384x1, .i1⟩
  | 94 => ⟨S16384x1, .i1⟩
  | 95 => ⟨S_, .i1⟩
  | 96 => ⟨S16384, .i1⟩
  | 97 => ⟨S16384x8, .f32⟩
  | 98 => ⟨S16384x8, .i1⟩
  | 99 => ⟨S_, .f32⟩
  | 100 => ⟨S16384x8, .f32⟩
  | 101 => ⟨S16384x8, .f32⟩
  | 102 => ⟨S16384x8, .f32⟩
  | 103 => ⟨S16384x8, .f32⟩
  | 104 => ⟨S16384x8, .f32⟩
  | 105 => ⟨S_, .f32⟩
  | 106 => ⟨S_, .f32⟩
  | 107 => ⟨S_, .f32⟩
  | 108 => ⟨S16384x8, .f32⟩
  | 109 => ⟨S16384x8, .f32⟩
  | 110 => ⟨S16384x8, .f32⟩
  | 111 => ⟨S_, .f32⟩
  | 112 => ⟨S16384, .f32⟩
  | 113 => ⟨S16384x1, .f32⟩
  | 114 => ⟨S16384x240, .f32⟩
  | 115 => ⟨S16384x240, .f32⟩
  | 116 => ⟨S16384x240, .f32⟩
  | 117 => ⟨S8x240, .f32⟩
  | 118 => ⟨S16384x240, .f32⟩
  | 119 => ⟨S_, .f32⟩
  | 120 => ⟨S16384x240, .f32⟩
  | 121 => ⟨S16384x240, .f32⟩
  | 122 => ⟨S16384x240, .f32⟩
  | 123 => ⟨S_, .f32⟩
  | 124 => ⟨S_, .f32⟩
  | 125 => ⟨S16384x240, .f32⟩
  | 126 => ⟨S16384x240, .f32⟩
  | 127 => ⟨S16384x240, .i32⟩
  | _ => ⟨S16384x14, .f32⟩

abbrev hbmTy0_2 (i : Nat) : BufTy := match i % 128 with
  | 0 => ⟨S_, .f32⟩
  | 1 => ⟨S_, .i32⟩
  | 2 => ⟨S16384, .f32⟩
  | 3 => ⟨S16384, .i32⟩
  | 4 => ⟨S_, .f32⟩
  | 5 => ⟨S_, .f32⟩
  | 6 => ⟨S_, .f32⟩
  | 7 => ⟨S_, .f32⟩
  | 8 => ⟨S_, .f32⟩
  | 9 => ⟨S16384x240, .f32⟩
  | 10 => ⟨S16384x240, .f32⟩
  | 11 => ⟨S16384x240, .f32⟩
  | 12 => ⟨S_, .f32⟩
  | 13 => ⟨S16384, .f32⟩
  | 14 => ⟨S_, .f32⟩
  | 15 => ⟨S16384, .f32⟩
  | 16 => ⟨S16384, .f32⟩
  | 17 => ⟨S16384x1, .f32⟩
  | 18 => ⟨S16384x240, .f32⟩
  | 19 => ⟨S16384x240, .f32⟩
  | 20 => ⟨S16384x240, .f32⟩
  | 21 => ⟨S_, .f32⟩
  | 22 => ⟨S16384, .f32⟩
  | 23 => ⟨S16384x1, .f32⟩
  | 24 => ⟨S16384x240, .f32⟩
  | 25 => ⟨S16384x240, .f32⟩
  | 26 => ⟨S1x240x52, .f32⟩
  | 27 => ⟨S240x52, .f32⟩
  | 28 => ⟨S16384x52, .f32⟩
  | 29 => ⟨S16384x52, .f32⟩
  | 30 => ⟨S16384x52, .f32⟩
  | 31 => ⟨S16384x52, .f32⟩
  | 32 => ⟨S1x240x4, .f32⟩
  | 33 => ⟨S240x4, .f32⟩
  | 34 => ⟨S16384x4, .f32⟩
  | 35 => ⟨S16384x4, .f32⟩
  | 36 => ⟨S16384x4, .f32⟩
  | 37 => ⟨S16384x4, .f32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S1, .i32⟩
  | 47 => ⟨S_, .i32⟩
  | 48 => ⟨S16384x1, .i32⟩
  | 49 => ⟨S16384x1, .i1⟩
  | 50 => ⟨S1x1, .i32⟩
  | 51 => ⟨S16384x1, .i32⟩
  | 52 => ⟨S16384x1, .i1⟩
  | 53 => ⟨S16384x1, .i1⟩
  | 54 => ⟨S_, .i1⟩
  | 55 => ⟨S16384, .i1⟩
  | 56 => ⟨S16384x8, .f32⟩
  | 57 => ⟨S16384x8, .i1⟩
  | 58 => ⟨S_, .f32⟩
  | 59 => ⟨S16384x8, .f32⟩
  | 60 => ⟨S16384x8, .f32⟩
  | 61 => ⟨S16384x8, .f32⟩
  | 62 => ⟨S16384x8, .f32⟩
  | 63 => ⟨S16384x8, .f32⟩
  | 64 => ⟨S_, .f32⟩
  | 65 => ⟨S_, .f32⟩
  | 66 => ⟨S_, .f32⟩
  | 67 => ⟨S_, .f32⟩
  | 68 => ⟨S16384x8, .f32⟩
  | 69 => ⟨S16384x8, .f32⟩
  | 70 => ⟨S16384x8, .f32⟩
  | 71 => ⟨S_, .f32⟩
  | 72 => ⟨S16384, .f32⟩
  | 73 => ⟨S16384x1, .f32⟩
  | 74 => ⟨S16384x240, .f32⟩
  | 75 => ⟨S16384x240, .f32⟩
  | 76 => ⟨S16384x240, .f32⟩
  | 77 => ⟨S8x240, .f32⟩
  | 78 => ⟨S16384x240, .f32⟩
  | 79 => ⟨S_, .f32⟩
  | 80 => ⟨S16384x240, .f32⟩
  | 81 => ⟨S16384x240, .f32⟩
  | 82 => ⟨S16384x240, .f32⟩
  | 83 => ⟨S_, .f32⟩
  | 84 => ⟨S_, .f32⟩
  | 85 => ⟨S16384x240, .f32⟩
  | 86 => ⟨S16384x240, .f32⟩
  | 87 => ⟨S16384x240, .i32⟩
  | 88 => ⟨S_, .f32⟩
  | 89 => ⟨S_, .i32⟩
  | 90 => ⟨S16384, .f32⟩
  | 91 => ⟨S16384, .i32⟩
  | 92 => ⟨S_, .f32⟩
  | 93 => ⟨S_, .f32⟩
  | 94 => ⟨S_, .f32⟩
  | 95 => ⟨S_, .f32⟩
  | 96 => ⟨S_, .f32⟩
  | 97 => ⟨S16384x240, .f32⟩
  | 98 => ⟨S16384x240, .f32⟩
  | 99 => ⟨S16384x240, .f32⟩
  | 100 => ⟨S_, .f32⟩
  | 101 => ⟨S16384, .f32⟩
  | 102 => ⟨S_, .f32⟩
  | 103 => ⟨S16384, .f32⟩
  | 104 => ⟨S16384, .f32⟩
  | 105 => ⟨S16384x1, .f32⟩
  | 106 => ⟨S16384x240, .f32⟩
  | 107 => ⟨S16384x240, .f32⟩
  | 108 => ⟨S16384x240, .f32⟩
  | 109 => ⟨S_, .f32⟩
  | 110 => ⟨S16384, .f32⟩
  | 111 => ⟨S16384x1, .f32⟩
  | 112 => ⟨S16384x240, .f32⟩
  | 113 => ⟨S16384x240, .f32⟩
  | 114 => ⟨S1x240x52, .f32⟩
  | 115 => ⟨S240x52, .f32⟩
  | 116 => ⟨S16384x52, .f32⟩
  | 117 => ⟨S16384x52, .f32⟩
  | 118 => ⟨S16384x52, .f32⟩
  | 119 => ⟨S16384x52, .f32⟩
  | 120 => ⟨S1x240x4, .f32⟩
  | 121 => ⟨S240x4, .f32⟩
  | 122 => ⟨S16384x4, .f32⟩
  | 123 => ⟨S16384x4, .f32⟩
  | 124 => ⟨S16384x4, .f32⟩
  | 125 => ⟨S16384x4, .f32⟩
  | 126 => ⟨S_, .i32⟩
  | 127 => ⟨S16384, .i32⟩
  | _ => ⟨S16384x14, .f32⟩

abbrev hbmTy0_3 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S16384x1, .i32⟩
  | 6 => ⟨S1, .i32⟩
  | 7 => ⟨S_, .i32⟩
  | 8 => ⟨S16384x1, .i32⟩
  | 9 => ⟨S16384x1, .i1⟩
  | 10 => ⟨S1x1, .i32⟩
  | 11 => ⟨S16384x1, .i32⟩
  | 12 => ⟨S16384x1, .i1⟩
  | 13 => ⟨S16384x1, .i1⟩
  | 14 => ⟨S_, .i1⟩
  | 15 => ⟨S16384, .i1⟩
  | 16 => ⟨S16384x8, .f32⟩
  | 17 => ⟨S16384x8, .i1⟩
  | 18 => ⟨S_, .f32⟩
  | 19 => ⟨S16384x8, .f32⟩
  | 20 => ⟨S16384x8, .f32⟩
  | 21 => ⟨S16384x8, .f32⟩
  | 22 => ⟨S16384x8, .f32⟩
  | 23 => ⟨S16384x8, .f32⟩
  | 24 => ⟨S_, .f32⟩
  | 25 => ⟨S_, .f32⟩
  | 26 => ⟨S_, .f32⟩
  | 27 => ⟨S_, .f32⟩
  | 28 => ⟨S16384x8, .f32⟩
  | 29 => ⟨S16384x8, .f32⟩
  | 30 => ⟨S16384x8, .f32⟩
  | 31 => ⟨S_, .f32⟩
  | 32 => ⟨S16384, .f32⟩
  | 33 => ⟨S16384x1, .f32⟩
  | 34 => ⟨S16384x240, .f32⟩
  | 35 => ⟨S16384x240, .f32⟩
  | 36 => ⟨S16384x240, .f32⟩
  | 37 => ⟨S8x240, .f32⟩
  | 38 => ⟨S16384x240, .f32⟩
  | 39 => ⟨S_, .f32⟩
  | 40 => ⟨S16384x240, .f32⟩
  | 41 => ⟨S16384x240, .f32⟩
  | 42 => ⟨S16384x240, .f32⟩
  | 43 => ⟨S_, .f32⟩
  | 44 => ⟨S_, .f32⟩
  | 45 => ⟨S16384x240, .f32⟩
  | 46 => ⟨S16384x240, .f32⟩
  | 47 => ⟨S16384x240, .i32⟩
  | 48 => ⟨S_, .f32⟩
  | 49 => ⟨S_, .i32⟩
  | 50 => ⟨S16384, .f32⟩
  | 51 => ⟨S16384, .i32⟩
  | 52 => ⟨S_, .f32⟩
  | 53 => ⟨S_, .f32⟩
  | 54 => ⟨S_, .f32⟩
  | 55 => ⟨S_, .f32⟩
  | 56 => ⟨S_, .f32⟩
  | 57 => ⟨S16384x240, .f32⟩
  | 58 => ⟨S16384x240, .f32⟩
  | 59 => ⟨S16384x240, .f32⟩
  | 60 => ⟨S_, .f32⟩
  | 61 => ⟨S16384, .f32⟩
  | 62 => ⟨S_, .f32⟩
  | 63 => ⟨S16384, .f32⟩
  | 64 => ⟨S16384, .f32⟩
  | 65 => ⟨S16384x1, .f32⟩
  | 66 => ⟨S16384x240, .f32⟩
  | 67 => ⟨S16384x240, .f32⟩
  | 68 => ⟨S16384x240, .f32⟩
  | 69 => ⟨S_, .f32⟩
  | 70 => ⟨S16384, .f32⟩
  | 71 => ⟨S16384x1, .f32⟩
  | 72 => ⟨S16384x240, .f32⟩
  | 73 => ⟨S16384x240, .f32⟩
  | 74 => ⟨S1x240x52, .f32⟩
  | 75 => ⟨S240x52, .f32⟩
  | 76 => ⟨S16384x52, .f32⟩
  | 77 => ⟨S16384x52, .f32⟩
  | 78 => ⟨S16384x52, .f32⟩
  | 79 => ⟨S16384x52, .f32⟩
  | 80 => ⟨S1x240x4, .f32⟩
  | 81 => ⟨S240x4, .f32⟩
  | 82 => ⟨S16384x4, .f32⟩
  | 83 => ⟨S16384x4, .f32⟩
  | 84 => ⟨S16384x4, .f32⟩
  | 85 => ⟨S16384x4, .f32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S1, .i32⟩
  | 95 => ⟨S_, .i32⟩
  | 96 => ⟨S16384x1, .i32⟩
  | 97 => ⟨S16384x1, .i1⟩
  | 98 => ⟨S1x1, .i32⟩
  | 99 => ⟨S16384x1, .i32⟩
  | 100 => ⟨S16384x1, .i1⟩
  | 101 => ⟨S16384x1, .i1⟩
  | 102 => ⟨S_, .i1⟩
  | 103 => ⟨S16384, .i1⟩
  | 104 => ⟨S16384x8, .f32⟩
  | 105 => ⟨S16384x8, .i1⟩
  | 106 => ⟨S_, .f32⟩
  | 107 => ⟨S16384x8, .f32⟩
  | 108 => ⟨S16384x8, .f32⟩
  | 109 => ⟨S16384x8, .f32⟩
  | 110 => ⟨S16384x8, .f32⟩
  | 111 => ⟨S16384x8, .f32⟩
  | 112 => ⟨S_, .f32⟩
  | 113 => ⟨S_, .f32⟩
  | 114 => ⟨S_, .f32⟩
  | 115 => ⟨S_, .f32⟩
  | 116 => ⟨S_, .f32⟩
  | 117 => ⟨S16384x8, .f32⟩
  | 118 => ⟨S16384x8, .f32⟩
  | 119 => ⟨S16384x8, .f32⟩
  | 120 => ⟨S_, .f32⟩
  | 121 => ⟨S16384, .f32⟩
  | 122 => ⟨S16384x1, .f32⟩
  | 123 => ⟨S16384x240, .f32⟩
  | 124 => ⟨S16384x240, .f32⟩
  | 125 => ⟨S16384x240, .f32⟩
  | 126 => ⟨S8x240, .f32⟩
  | 127 => ⟨S16384x240, .f32⟩
  | _ => ⟨S16384x14, .f32⟩

abbrev hbmTy0_4 (i : Nat) : BufTy := match i % 128 with
  | 0 => ⟨S_, .f32⟩
  | 1 => ⟨S16384x240, .f32⟩
  | 2 => ⟨S16384x240, .f32⟩
  | 3 => ⟨S16384x240, .f32⟩
  | 4 => ⟨S_, .f32⟩
  | 5 => ⟨S_, .f32⟩
  | 6 => ⟨S16384x240, .f32⟩
  | 7 => ⟨S16384x240, .f32⟩
  | 8 => ⟨S16384x240, .i32⟩
  | 9 => ⟨S_, .f32⟩
  | 10 => ⟨S_, .i32⟩
  | 11 => ⟨S16384, .f32⟩
  | 12 => ⟨S16384, .i32⟩
  | 13 => ⟨S_, .f32⟩
  | 14 => ⟨S_, .f32⟩
  | 15 => ⟨S_, .f32⟩
  | 16 => ⟨S_, .f32⟩
  | 17 => ⟨S_, .f32⟩
  | 18 => ⟨S16384x240, .f32⟩
  | 19 => ⟨S16384x240, .f32⟩
  | 20 => ⟨S16384x240, .f32⟩
  | 21 => ⟨S_, .f32⟩
  | 22 => ⟨S16384, .f32⟩
  | 23 => ⟨S_, .f32⟩
  | 24 => ⟨S16384, .f32⟩
  | 25 => ⟨S16384, .f32⟩
  | 26 => ⟨S16384x1, .f32⟩
  | 27 => ⟨S16384x240, .f32⟩
  | 28 => ⟨S16384x240, .f32⟩
  | 29 => ⟨S16384x240, .f32⟩
  | 30 => ⟨S_, .f32⟩
  | 31 => ⟨S16384, .f32⟩
  | 32 => ⟨S16384x1, .f32⟩
  | 33 => ⟨S16384x240, .f32⟩
  | 34 => ⟨S16384x240, .f32⟩
  | 35 => ⟨S1x240x52, .f32⟩
  | 36 => ⟨S240x52, .f32⟩
  | 37 => ⟨S16384x52, .f32⟩
  | 38 => ⟨S16384x52, .f32⟩
  | 39 => ⟨S16384x52, .f32⟩
  | 40 => ⟨S16384x52, .f32⟩
  | 41 => ⟨S1x240x4, .f32⟩
  | 42 => ⟨S240x4, .f32⟩
  | 43 => ⟨S16384x4, .f32⟩
  | 44 => ⟨S16384x4, .f32⟩
  | 45 => ⟨S16384x4, .f32⟩
  | 46 => ⟨S16384x4, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x8, .f32⟩
  | 66 => ⟨S16384x8, .i1⟩
  | 67 => ⟨S_, .f32⟩
  | 68 => ⟨S16384x8, .f32⟩
  | 69 => ⟨S16384x8, .f32⟩
  | 70 => ⟨S16384x8, .f32⟩
  | 71 => ⟨S16384x8, .f32⟩
  | 72 => ⟨S16384x8, .f32⟩
  | 73 => ⟨S_, .f32⟩
  | 74 => ⟨S_, .f32⟩
  | 75 => ⟨S_, .f32⟩
  | 76 => ⟨S_, .f32⟩
  | 77 => ⟨S_, .f32⟩
  | 78 => ⟨S16384x8, .f32⟩
  | 79 => ⟨S16384x8, .f32⟩
  | 80 => ⟨S16384x8, .f32⟩
  | 81 => ⟨S_, .f32⟩
  | 82 => ⟨S16384, .f32⟩
  | 83 => ⟨S16384x1, .f32⟩
  | 84 => ⟨S16384x240, .f32⟩
  | 85 => ⟨S16384x240, .f32⟩
  | 86 => ⟨S16384x240, .f32⟩
  | 87 => ⟨S8x240, .f32⟩
  | 88 => ⟨S16384x240, .f32⟩
  | 89 => ⟨S_, .f32⟩
  | 90 => ⟨S16384x240, .f32⟩
  | 91 => ⟨S16384x240, .f32⟩
  | 92 => ⟨S16384x240, .f32⟩
  | 93 => ⟨S_, .f32⟩
  | 94 => ⟨S_, .f32⟩
  | 95 => ⟨S16384x240, .f32⟩
  | 96 => ⟨S16384x240, .f32⟩
  | 97 => ⟨S16384x240, .i32⟩
  | 98 => ⟨S_, .f32⟩
  | 99 => ⟨S_, .i32⟩
  | 100 => ⟨S16384, .f32⟩
  | 101 => ⟨S16384, .i32⟩
  | 102 => ⟨S_, .f32⟩
  | 103 => ⟨S_, .f32⟩
  | 104 => ⟨S_, .f32⟩
  | 105 => ⟨S_, .f32⟩
  | 106 => ⟨S_, .f32⟩
  | 107 => ⟨S16384x240, .f32⟩
  | 108 => ⟨S16384x240, .f32⟩
  | 109 => ⟨S16384x240, .f32⟩
  | 110 => ⟨S_, .f32⟩
  | 111 => ⟨S16384, .f32⟩
  | 112 => ⟨S_, .f32⟩
  | 113 => ⟨S16384, .f32⟩
  | 114 => ⟨S16384, .f32⟩
  | 115 => ⟨S16384x1, .f32⟩
  | 116 => ⟨S16384x240, .f32⟩
  | 117 => ⟨S16384x240, .f32⟩
  | 118 => ⟨S16384x240, .f32⟩
  | 119 => ⟨S_, .f32⟩
  | 120 => ⟨S16384, .f32⟩
  | 121 => ⟨S16384x1, .f32⟩
  | 122 => ⟨S16384x240, .f32⟩
  | 123 => ⟨S16384x240, .f32⟩
  | 124 => ⟨S1x240x52, .f32⟩
  | 125 => ⟨S240x52, .f32⟩
  | 126 => ⟨S16384x52, .f32⟩
  | 127 => ⟨S16384x52, .f32⟩
  | _ => ⟨S16384x14, .f32⟩

abbrev hbmTy0_5 (i : Nat) : BufTy := match i % 128 with
  | 0 => ⟨S16384x52, .f32⟩
  | 1 => ⟨S16384x52, .f32⟩
  | 2 => ⟨S1x240x4, .f32⟩
  | 3 => ⟨S240x4, .f32⟩
  | 4 => ⟨S16384x4, .f32⟩
  | 5 => ⟨S16384x4, .f32⟩
  | 6 => ⟨S16384x4, .f32⟩
  | 7 => ⟨S16384x4, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x8, .f32⟩
  | 27 => ⟨S16384x8, .i1⟩
  | 28 => ⟨S_, .f32⟩
  | 29 => ⟨S16384x8, .f32⟩
  | 30 => ⟨S16384x8, .f32⟩
  | 31 => ⟨S16384x8, .f32⟩
  | 32 => ⟨S16384x8, .f32⟩
  | 33 => ⟨S16384x8, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S16384x8, .f32⟩
  | 41 => ⟨S16384x8, .f32⟩
  | 42 => ⟨S16384x8, .f32⟩
  | 43 => ⟨S_, .f32⟩
  | 44 => ⟨S16384, .f32⟩
  | 45 => ⟨S16384x1, .f32⟩
  | 46 => ⟨S16384x240, .f32⟩
  | 47 => ⟨S16384x240, .f32⟩
  | 48 => ⟨S16384x240, .f32⟩
  | 49 => ⟨S8x240, .f32⟩
  | 50 => ⟨S16384x240, .f32⟩
  | 51 => ⟨S_, .f32⟩
  | 52 => ⟨S16384x240, .f32⟩
  | 53 => ⟨S16384x240, .f32⟩
  | 54 => ⟨S16384x240, .f32⟩
  | 55 => ⟨S_, .f32⟩
  | 56 => ⟨S_, .f32⟩
  | 57 => ⟨S16384x240, .f32⟩
  | 58 => ⟨S16384x240, .f32⟩
  | 59 => ⟨S16384x240, .i32⟩
  | 60 => ⟨S_, .f32⟩
  | 61 => ⟨S_, .i32⟩
  | 62 => ⟨S16384, .f32⟩
  | 63 => ⟨S16384, .i32⟩
  | 64 => ⟨S_, .f32⟩
  | 65 => ⟨S_, .f32⟩
  | 66 => ⟨S_, .f32⟩
  | 67 => ⟨S_, .f32⟩
  | 68 => ⟨S_, .f32⟩
  | 69 => ⟨S16384x240, .f32⟩
  | 70 => ⟨S16384x240, .f32⟩
  | 71 => ⟨S16384x240, .f32⟩
  | 72 => ⟨S_, .f32⟩
  | 73 => ⟨S16384, .f32⟩
  | 74 => ⟨S_, .f32⟩
  | 75 => ⟨S16384, .f32⟩
  | 76 => ⟨S16384, .f32⟩
  | 77 => ⟨S16384x1, .f32⟩
  | 78 => ⟨S16384x240, .f32⟩
  | 79 => ⟨S16384x240, .f32⟩
  | 80 => ⟨S16384x240, .f32⟩
  | 81 => ⟨S_, .f32⟩
  | 82 => ⟨S16384, .f32⟩
  | 83 => ⟨S16384x1, .f32⟩
  | 84 => ⟨S16384x240, .f32⟩
  | 85 => ⟨S16384x240, .f32⟩
  | 86 => ⟨S1x240x52, .f32⟩
  | 87 => ⟨S240x52, .f32⟩
  | 88 => ⟨S16384x52, .f32⟩
  | 89 => ⟨S16384x52, .f32⟩
  | 90 => ⟨S16384x52, .f32⟩
  | 91 => ⟨S16384x52, .f32⟩
  | 92 => ⟨S1x240x4, .f32⟩
  | 93 => ⟨S240x4, .f32⟩
  | 94 => ⟨S16384x4, .f32⟩
  | 95 => ⟨S16384x4, .f32⟩
  | 96 => ⟨S16384x4, .f32⟩
  | 97 => ⟨S16384x4, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S1, .i32⟩
  | 107 => ⟨S_, .i32⟩
  | 108 => ⟨S16384x1, .i32⟩
  | 109 => ⟨S16384x1, .i1⟩
  | 110 => ⟨S1x1, .i32⟩
  | 111 => ⟨S16384x1, .i32⟩
  | 112 => ⟨S16384x1, .i1⟩
  | 113 => ⟨S16384x1, .i1⟩
  | 114 => ⟨S_, .i1⟩
  | 115 => ⟨S16384, .i1⟩
  | 116 => ⟨S16384x8, .f32⟩
  | 117 => ⟨S16384x8, .i1⟩
  | 118 => ⟨S_, .f32⟩
  | 119 => ⟨S16384x8, .f32⟩
  | 120 => ⟨S16384x8, .f32⟩
  | 121 => ⟨S16384x8, .f32⟩
  | 122 => ⟨S16384x8, .f32⟩
  | 123 => ⟨S16384x8, .f32⟩
  | 124 => ⟨S52x52, .f32⟩
  | 125 => ⟨S16384x52, .f32⟩
  | 126 => ⟨S1x52, .f32⟩
  | 127 => ⟨S16384x52, .f32⟩
  | _ => ⟨S16384x14, .f32⟩

abbrev hbmTy0_6 (i : Nat) : BufTy := match i % 128 with
  | 0 => ⟨S16384x52, .f32⟩
  | 1 => ⟨S16384x52, .f32⟩
  | 2 => ⟨S16384x52, .f32⟩
  | 3 => ⟨S_, .f32⟩
  | 4 => ⟨S16384x52, .f32⟩
  | 5 => ⟨S16384x52, .f32⟩
  | 6 => ⟨S16384x52, .f32⟩
  | 7 => ⟨S_, .f32⟩
  | 8 => ⟨S16384x52, .f32⟩
  | 9 => ⟨S16384x52, .f32⟩
  | 10 => ⟨S16384x52, .f32⟩
  | 11 => ⟨S_, .f32⟩
  | 12 => ⟨S16384x52, .f32⟩
  | 13 => ⟨S16384x52, .f32⟩
  | 14 => ⟨S_, .f32⟩
  | 15 => ⟨S16384x52, .f32⟩
  | 16 => ⟨S16384x52, .f32⟩
  | 17 => ⟨S16384x52, .f32⟩
  | 18 => ⟨S52x52, .f32⟩
  | 19 => ⟨S16384x52, .f32⟩
  | 20 => ⟨S1x52, .f32⟩
  | 21 => ⟨S16384x52, .f32⟩
  | 22 => ⟨S16384x52, .f32⟩
  | 23 => ⟨S16384x52, .f32⟩
  | 24 => ⟨S16384x52, .f32⟩
  | 25 => ⟨S16384x52, .f32⟩
  | _ => ⟨S16384x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x14, .f32⟩

abbrev bufTy : (tb : Table) → Fin (tcTables nBuf tb) → BufTy
  | .hbm, ⟨i, _⟩ => hbmTy i
  | _, _ => ⟨S16384x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v50 : Ref sig .tc := ⟨.hbm, 85, rfl⟩
abbrev main_call2_v0 : Ref sig .tc := ⟨.hbm, 86, rfl⟩
abbrev main_call2_cst : Ref sig .tc := ⟨.hbm, 87, rfl⟩
abbrev main_call2_c : Ref sig .tc := ⟨.hbm, 88, rfl⟩
abbrev main_call2_v1_0 : Ref sig .tc := ⟨.hbm, 89, rfl⟩
abbrev main_v51 : Ref sig .tc := ⟨.hbm, 90, rfl⟩
abbrev main_cst_13 : Ref sig .tc := ⟨.hbm, 91, rfl⟩
abbrev main_cst_14 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_16 : Ref sig .tc := ⟨.hbm, 99, rfl⟩
abbrev main_v57 : Ref sig .tc := ⟨.hbm, 100, rfl⟩
abbrev main_cst_17 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_18 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_19 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_20 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_21 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_22 : Ref sig .tc := ⟨.hbm, 164, rfl⟩
abbrev main_call4_v0 : Ref sig .tc := ⟨.hbm, 165, rfl⟩
abbrev main_call4_v1 : Ref sig .tc := ⟨.hbm, 166, rfl⟩
abbrev main_v94 : Ref sig .tc := ⟨.hbm, 167, rfl⟩
abbrev main_call5_v0 : Ref sig .tc := ⟨.hbm, 168, rfl⟩
abbrev main_call5_cst : Ref sig .tc := ⟨.hbm, 169, rfl⟩
abbrev main_call5_c : Ref sig .tc := ⟨.hbm, 170, rfl⟩
abbrev main_call5_v1_0 : Ref sig .tc := ⟨.hbm, 171, rfl⟩
abbrev main_v95 : Ref sig .tc := ⟨.hbm, 172, rfl⟩
abbrev main_cst_23 : Ref sig .tc := ⟨.hbm, 173, rfl⟩
abbrev main_cst_24 : Ref sig .tc := ⟨.hbm, 174, rfl⟩
abbrev main_v96 : Ref sig .tc := ⟨.hbm, 175, rfl⟩
abbrev main_cst_25 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_26 : Ref sig .tc := ⟨.hbm, 181, rfl⟩
abbrev main_v101 : Ref sig .tc := ⟨.hbm, 182, rfl⟩
abbrev main_cst_27 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_28 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_call6_c : Ref sig .tc := ⟨.hbm, 207, rfl⟩
abbrev main_call6_v0 : Ref sig .tc := ⟨.hbm, 208, rfl⟩
abbrev main_call6_v1 : Ref sig .tc := ⟨.hbm, 209, rfl⟩
abbrev main_call6_c_0 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_call6_v5 : Ref sig .tc := ⟨.hbm, 214, rfl⟩
abbrev main_call6_c_1 : Ref sig .tc := ⟨.hbm, 215, rfl⟩
abbrev main_call6_c_2 : Ref sig .tc := ⟨.hbm, 216, rfl⟩
abbrev main_call6_v6 : Ref sig .tc := ⟨.hbm, 217, rfl⟩
abbrev main_call6_v7 : Ref sig .tc := ⟨.hbm, 218, rfl⟩
abbrev main_call6_v8 : Ref sig .tc := ⟨.hbm, 219, rfl⟩
abbrev main_call6_v9 : Ref sig .tc := ⟨.hbm, 220, rfl⟩
abbrev main_call6_v10 : Ref sig .tc := ⟨.hbm, 221, rfl⟩
abbrev main_call6_v11 : Ref sig .tc := ⟨.hbm, 222, rfl⟩
abbrev main_call6_c_3 : Ref sig .tc := ⟨.hbm, 223, rfl⟩
abbrev main_call6_v12 : Ref sig .tc := ⟨.hbm, 224, rfl⟩
abbrev main_call6_v13 : Ref sig .tc := ⟨.hbm, 225, rfl⟩
abbrev main_call6_v14 : Ref sig .tc := ⟨.hbm, 226, rfl⟩
abbrev main_call6_cst : Ref sig .tc := ⟨.hbm, 227, rfl⟩
abbrev main_call6_v15 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_cst_29 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_cst_30 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_cst_31 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_cst_32 : Ref sig .tc := ⟨.hbm, 251, rfl⟩
abbrev main_call7_v0 : Ref sig .tc := ⟨.hbm, 252, rfl⟩
abbrev main_call7_v1 : Ref sig .tc := ⟨.hbm, 253, rfl⟩
abbrev main_v143 : Ref sig .tc := ⟨.hbm, 254, rfl⟩
abbrev main_call8_v0 : Ref sig .tc := ⟨.hbm, 255, rfl⟩
abbrev main_call8_cst : Ref sig .tc := ⟨.hbm, 256, rfl⟩
abbrev main_call8_c : Ref sig .tc := ⟨.hbm, 257, rfl⟩
abbrev main_call8_v1_0 : Ref sig .tc := ⟨.hbm, 258, rfl⟩
abbrev main_v144 : Ref sig .tc := ⟨.hbm, 259, rfl⟩
abbrev main_cst_33 : Ref sig .tc := ⟨.hbm, 260, rfl⟩
abbrev main_cst_34 : Ref sig .tc := ⟨.hbm, 261, rfl⟩
abbrev main_v145 : Ref sig .tc := ⟨.hbm, 262, rfl⟩
abbrev main_cst_35 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_cst_36 : Ref sig .tc := ⟨.hbm, 268, rfl⟩
abbrev main_v150 : Ref sig .tc := ⟨.hbm, 269, rfl⟩
abbrev main_cst_37 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_cst_38 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_call9_c : Ref sig .tc := ⟨.hbm, 294, rfl⟩
abbrev main_call9_v0 : Ref sig .tc := ⟨.hbm, 295, rfl⟩
abbrev main_call9_v1 : Ref sig .tc := ⟨.hbm, 296, rfl⟩
abbrev main_call9_c_0 : Ref sig .tc := ⟨.hbm, 297, rfl⟩
abbrev main_call9_v2 : Ref sig .tc := ⟨.hbm, 298, rfl⟩
abbrev main_call9_v3 : Ref sig .tc := ⟨.hbm, 299, rfl⟩
abbrev main_call9_v4 : Ref sig .tc := ⟨.hbm, 300, rfl⟩
abbrev main_call9_v5 : Ref sig .tc := ⟨.hbm, 301, rfl⟩
abbrev main_call9_c_1 : Ref sig .tc := ⟨.hbm, 302, rfl⟩
abbrev main_call9_c_2 : Ref sig .tc := ⟨.hbm, 303, rfl⟩
abbrev main_call9_v6 : Ref sig .tc := ⟨.hbm, 304, rfl⟩
abbrev main_call9_v7 : Ref sig .tc := ⟨.hbm, 305, rfl⟩
abbrev main_call9_v8 : Ref sig .tc := ⟨.hbm, 306, rfl⟩
abbrev main_call9_v9 : Ref sig .tc := ⟨.hbm, 307, rfl⟩
abbrev main_call9_v10 : Ref sig .tc := ⟨.hbm, 308, rfl⟩
abbrev main_call9_v11 : Ref sig .tc := ⟨.hbm, 309, rfl⟩
abbrev main_call9_c_3 : Ref sig .tc := ⟨.hbm, 310, rfl⟩
abbrev main_call9_v12 : Ref sig .tc := ⟨.hbm, 311, rfl⟩
abbrev main_call9_v13 : Ref sig .tc := ⟨.hbm, 312, rfl⟩
abbrev main_call9_v14 : Ref sig .tc := ⟨.hbm, 313, rfl⟩
abbrev main_call9_cst : Ref sig .tc := ⟨.hbm, 314, rfl⟩
abbrev main_call9_v15 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_cst_39 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_cst_40 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_cst_41 : Ref sig .tc := ⟨.hbm, 335, rfl⟩
abbrev main_v190 : Ref sig .tc := ⟨.hbm, 336, rfl⟩
abbrev main_v191 : Ref sig .tc := ⟨.hbm, 337, rfl⟩
abbrev main_v192 : Ref sig .tc := ⟨.hbm, 338, rfl⟩
abbrev main_cst_42 : Ref sig .tc := ⟨.hbm, 339, rfl⟩
abbrev main_call10_v0 : Ref sig .tc := ⟨.hbm, 340, rfl⟩
abbrev main_call10_v1 : Ref sig .tc := ⟨.hbm, 341, rfl⟩
abbrev main_v193 : Ref sig .tc := ⟨.hbm, 342, rfl⟩
abbrev main_call11_v0 : Ref sig .tc := ⟨.hbm, 343, rfl⟩
abbrev main_call11_cst : Ref sig .tc := ⟨.hbm, 344, rfl⟩
abbrev main_call11_c : Ref sig .tc := ⟨.hbm, 345, rfl⟩
abbrev main_call11_v1_0 : Ref sig .tc := ⟨.hbm, 346, rfl⟩
abbrev main_v194 : Ref sig .tc := ⟨.hbm, 347, rfl⟩
abbrev main_cst_43 : Ref sig .tc := ⟨.hbm, 348, rfl⟩
abbrev main_cst_44 : Ref sig .tc := ⟨.hbm, 349, rfl⟩
abbrev main_v195 : Ref sig .tc := ⟨.hbm, 350, rfl⟩
abbrev main_cst_45 : Ref sig .tc := ⟨.hbm, 351, rfl⟩
abbrev main_v196 : Ref sig .tc := ⟨.hbm, 352, rfl⟩
abbrev main_v197 : Ref sig .tc := ⟨.hbm, 353, rfl⟩
abbrev main_v198 : Ref sig .tc := ⟨.hbm, 354, rfl⟩
abbrev main_v199 : Ref sig .tc := ⟨.hbm, 355, rfl⟩
abbrev main_cst_46 : Ref sig .tc := ⟨.hbm, 356, rfl⟩
abbrev main_v200 : Ref sig .tc := ⟨.hbm, 357, rfl⟩
abbrev main_cst_47 : Ref sig .tc := ⟨.hbm, 358, rfl⟩
abbrev main_v201 : Ref sig .tc := ⟨.hbm, 359, rfl⟩
abbrev main_v202 : Ref sig .tc := ⟨.hbm, 360, rfl⟩
abbrev main_v203 : Ref sig .tc := ⟨.hbm, 361, rfl⟩
abbrev main_v204 : Ref sig .tc := ⟨.hbm, 362, rfl⟩
abbrev main_v205 : Ref sig .tc := ⟨.hbm, 363, rfl⟩
abbrev main_v206 : Ref sig .tc := ⟨.hbm, 364, rfl⟩
abbrev main_cst_48 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_v211 : Ref sig .tc := ⟨.hbm, 370, rfl⟩
abbrev main_v212 : Ref sig .tc := ⟨.hbm, 371, rfl⟩
abbrev main_v213 : Ref sig .tc := ⟨.hbm, 372, rfl⟩
abbrev main_v214 : Ref sig .tc := ⟨.hbm, 373, rfl⟩
abbrev main_v215 : Ref sig .tc := ⟨.hbm, 374, rfl⟩
abbrev main_v216 : Ref sig .tc := ⟨.hbm, 375, rfl⟩
abbrev main_v217 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_v221 : Ref sig .tc := ⟨.hbm, 380, rfl⟩
abbrev main_v222 : Ref sig .tc := ⟨.hbm, 381, rfl⟩
abbrev main_call12_c : Ref sig .tc := ⟨.hbm, 382, rfl⟩
abbrev main_call12_v0 : Ref sig .tc := ⟨.hbm, 383, rfl⟩
abbrev main_call12_v1 : Ref sig .tc := ⟨.hbm, 384, rfl⟩
abbrev main_call12_c_0 : Ref sig .tc := ⟨.hbm, 385, rfl⟩
abbrev main_call12_v2 : Ref sig .tc := ⟨.hbm, 386, rfl⟩
abbrev main_call12_v3 : Ref sig .tc := ⟨.hbm, 387, rfl⟩
abbrev main_call12_v4 : Ref sig .tc := ⟨.hbm, 388, rfl⟩
abbrev main_call12_v5 : Ref sig .tc := ⟨.hbm, 389, rfl⟩
abbrev main_call12_c_1 : Ref sig .tc := ⟨.hbm, 390, rfl⟩
abbrev main_call12_c_2 : Ref sig .tc := ⟨.hbm, 391, rfl⟩
abbrev main_call12_v6 : Ref sig .tc := ⟨.hbm, 392, rfl⟩
abbrev main_call12_v7 : Ref sig .tc := ⟨.hbm, 393, rfl⟩
abbrev main_call12_v8 : Ref sig .tc := ⟨.hbm, 394, rfl⟩
abbrev main_call12_v9 : Ref sig .tc := ⟨.hbm, 395, rfl⟩
abbrev main_call12_v10 : Ref sig .tc := ⟨.hbm, 396, rfl⟩
abbrev main_call12_v11 : Ref sig .tc := ⟨.hbm, 397, rfl⟩
abbrev main_call12_c_3 : Ref sig .tc := ⟨.hbm, 398, rfl⟩
abbrev main_call12_v12 : Ref sig .tc := ⟨.hbm, 399, rfl⟩
abbrev main_call12_v13 : Ref sig .tc := ⟨.hbm, 400, rfl⟩
abbrev main_call12_v14 : Ref sig .tc := ⟨.hbm, 401, rfl⟩
abbrev main_call12_cst : Ref sig .tc := ⟨.hbm, 402, rfl⟩
abbrev main_call12_v15 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_v226 : Ref sig .tc := ⟨.hbm, 407, rfl⟩
abbrev main_v227 : Ref sig .tc := ⟨.hbm, 408, rfl⟩
abbrev main_v228 : Ref sig .tc := ⟨.hbm, 409, rfl⟩
abbrev main_cst_49 : Ref sig .tc := ⟨.hbm, 410, rfl⟩
abbrev main_v229 : Ref sig .tc := ⟨.hbm, 411, rfl⟩
abbrev main_v230 : Ref sig .tc := ⟨.hbm, 412, rfl⟩
abbrev main_v231 : Ref sig .tc := ⟨.hbm, 413, rfl⟩
abbrev main_v232 : Ref sig .tc := ⟨.hbm, 414, rfl⟩
abbrev main_cst_50 : Ref sig .tc := ⟨.hbm, 415, rfl⟩
abbrev main_v233 : Ref sig .tc := ⟨.hbm, 416, rfl⟩
abbrev main_v234 : Ref sig .tc := ⟨.hbm, 417, rfl⟩
abbrev main_v235 : Ref sig .tc := ⟨.hbm, 418, rfl⟩
abbrev main_v236 : Ref sig .tc := ⟨.hbm, 419, rfl⟩
abbrev main_v237 : Ref sig .tc := ⟨.hbm, 420, rfl⟩
abbrev main_v238 : Ref sig .tc := ⟨.hbm, 421, rfl⟩
abbrev main_v239 : Ref sig .tc := ⟨.hbm, 422, rfl⟩
abbrev main_cst_51 : Ref sig .tc := ⟨.hbm, 423, rfl⟩
abbrev main_v240 : Ref sig .tc := ⟨.hbm, 424, rfl⟩
abbrev main_v241 : Ref sig .tc := ⟨.hbm, 425, rfl⟩
abbrev main_v242 : Ref sig .tc := ⟨.hbm, 426, rfl⟩
abbrev main_cst_52 : Ref sig .tc := ⟨.hbm, 427, rfl⟩
abbrev main_call13_v0 : Ref sig .tc := ⟨.hbm, 428, rfl⟩
abbrev main_call13_v1 : Ref sig .tc := ⟨.hbm, 429, rfl⟩
abbrev main_v243 : Ref sig .tc := ⟨.hbm, 430, rfl⟩
abbrev main_call14_v0 : Ref sig .tc := ⟨.hbm, 431, rfl⟩
abbrev main_call14_cst : Ref sig .tc := ⟨.hbm, 432, rfl⟩
abbrev main_call14_c : Ref sig .tc := ⟨.hbm, 433, rfl⟩
abbrev main_call14_v1_0 : Ref sig .tc := ⟨.hbm, 434, rfl⟩
abbrev main_v244 : Ref sig .tc := ⟨.hbm, 435, rfl⟩
abbrev main_cst_53 : Ref sig .tc := ⟨.hbm, 436, rfl⟩
abbrev main_cst_54 : Ref sig .tc := ⟨.hbm, 437, rfl⟩
abbrev main_v245 : Ref sig .tc := ⟨.hbm, 438, rfl⟩
abbrev main_cst_55 : Ref sig .tc := ⟨.hbm, 439, rfl⟩
abbrev main_v246 : Ref sig .tc := ⟨.hbm, 440, rfl⟩
abbrev main_v247 : Ref sig .tc := ⟨.hbm, 441, rfl⟩
abbrev main_v248 : Ref sig .tc := ⟨.hbm, 442, rfl⟩
abbrev main_v249 : Ref sig .tc := ⟨.hbm, 443, rfl⟩
abbrev main_cst_56 : Ref sig .tc := ⟨.hbm, 444, rfl⟩
abbrev main_v250 : Ref sig .tc := ⟨.hbm, 445, rfl⟩
abbrev main_cst_57 : Ref sig .tc := ⟨.hbm, 446, rfl⟩
abbrev main_v251 : Ref sig .tc := ⟨.hbm, 447, rfl⟩
abbrev main_v252 : Ref sig .tc := ⟨.hbm, 448, rfl⟩
abbrev main_v253 : Ref sig .tc := ⟨.hbm, 449, rfl⟩
abbrev main_v254 : Ref sig .tc := ⟨.hbm, 450, rfl⟩
abbrev main_v255 : Ref sig .tc := ⟨.hbm, 451, rfl⟩
abbrev main_v256 : Ref sig .tc := ⟨.hbm, 452, rfl⟩
abbrev main_cst_58 : Ref sig .tc := ⟨.hbm, 453, rfl⟩
abbrev main_v257 : Ref sig .tc := ⟨.hbm, 454, rfl⟩
abbrev main_v258 : Ref sig .tc := ⟨.hbm, 455, rfl⟩
abbrev main_v259 : Ref sig .tc := ⟨.hbm, 456, rfl⟩
abbrev main_v260 : Ref sig .tc := ⟨.hbm, 457, rfl⟩
abbrev main_v261 : Ref sig .tc := ⟨.hbm, 458, rfl⟩
abbrev main_v262 : Ref sig .tc := ⟨.hbm, 459, rfl⟩
abbrev main_v263 : Ref sig .tc := ⟨.hbm, 460, rfl⟩
abbrev main_v264 : Ref sig .tc := ⟨.hbm, 461, rfl⟩
abbrev main_v265 : Ref sig .tc := ⟨.hbm, 462, rfl⟩
abbrev main_v266 : Ref sig .tc := ⟨.hbm, 463, rfl⟩
abbrev main_v267 : Ref sig .tc := ⟨.hbm, 464, rfl⟩
abbrev main_v268 : Ref sig .tc := ⟨.hbm, 465, rfl⟩
abbrev main_v269 : Ref sig .tc := ⟨.hbm, 466, rfl⟩
abbrev main_v270 : Ref sig .tc := ⟨.hbm, 467, rfl⟩
abbrev main_v271 : Ref sig .tc := ⟨.hbm, 468, rfl⟩
abbrev main_v272 : Ref sig .tc := ⟨.hbm, 469, rfl⟩
abbrev main_call15_c : Ref sig .tc := ⟨.hbm, 470, rfl⟩
abbrev main_call15_v0 : Ref sig .tc := ⟨.hbm, 471, rfl⟩
abbrev main_call15_v1 : Ref sig .tc := ⟨.hbm, 472, rfl⟩
abbrev main_call15_c_0 : Ref sig .tc := ⟨.hbm, 473, rfl⟩
abbrev main_call15_v2 : Ref sig .tc := ⟨.hbm, 474, rfl⟩
abbrev main_call15_v3 : Ref sig .tc := ⟨.hbm, 475, rfl⟩
abbrev main_call15_v4 : Ref sig .tc := ⟨.hbm, 476, rfl⟩
abbrev main_call15_v5 : Ref sig .tc := ⟨.hbm, 477, rfl⟩
abbrev main_call15_c_1 : Ref sig .tc := ⟨.hbm, 478, rfl⟩
abbrev main_call15_c_2 : Ref sig .tc := ⟨.hbm, 479, rfl⟩
abbrev main_call15_v6 : Ref sig .tc := ⟨.hbm, 480, rfl⟩
abbrev main_call15_v7 : Ref sig .tc := ⟨.hbm, 481, rfl⟩
abbrev main_call15_v8 : Ref sig .tc := ⟨.hbm, 482, rfl⟩
abbrev main_call15_v9 : Ref sig .tc := ⟨.hbm, 483, rfl⟩
abbrev main_call15_v10 : Ref sig .tc := ⟨.hbm, 484, rfl⟩
abbrev main_call15_v11 : Ref sig .tc := ⟨.hbm, 485, rfl⟩
abbrev main_call15_c_3 : Ref sig .tc := ⟨.hbm, 486, rfl⟩
abbrev main_call15_v12 : Ref sig .tc := ⟨.hbm, 487, rfl⟩
abbrev main_call15_v13 : Ref sig .tc := ⟨.hbm, 488, rfl⟩
abbrev main_call15_v14 : Ref sig .tc := ⟨.hbm, 489, rfl⟩
abbrev main_call15_cst : Ref sig .tc := ⟨.hbm, 490, rfl⟩
abbrev main_call15_v15 : Ref sig .tc := ⟨.hbm, 491, rfl⟩
abbrev main_v273 : Ref sig .tc := ⟨.hbm, 492, rfl⟩
abbrev main_v274 : Ref sig .tc := ⟨.hbm, 493, rfl⟩
abbrev main_v275 : Ref sig .tc := ⟨.hbm, 494, rfl⟩
abbrev main_v276 : Ref sig .tc := ⟨.hbm, 495, rfl⟩
abbrev main_v277 : Ref sig .tc := ⟨.hbm, 496, rfl⟩
abbrev main_v278 : Ref sig .tc := ⟨.hbm, 497, rfl⟩
abbrev main_v279 : Ref sig .tc := ⟨.hbm, 498, rfl⟩
abbrev main_cst_59 : Ref sig .tc := ⟨.hbm, 499, rfl⟩
abbrev main_v280 : Ref sig .tc := ⟨.hbm, 500, rfl⟩
abbrev main_v281 : Ref sig .tc := ⟨.hbm, 501, rfl⟩
abbrev main_v282 : Ref sig .tc := ⟨.hbm, 502, rfl⟩
abbrev main_v283 : Ref sig .tc := ⟨.hbm, 503, rfl⟩
abbrev main_cst_60 : Ref sig .tc := ⟨.hbm, 504, rfl⟩
abbrev main_v284 : Ref sig .tc := ⟨.hbm, 505, rfl⟩
abbrev main_v285 : Ref sig .tc := ⟨.hbm, 506, rfl⟩
abbrev main_v286 : Ref sig .tc := ⟨.hbm, 507, rfl⟩
abbrev main_v287 : Ref sig .tc := ⟨.hbm, 508, rfl⟩
abbrev main_v288 : Ref sig .tc := ⟨.hbm, 509, rfl⟩
abbrev main_v289 : Ref sig .tc := ⟨.hbm, 510, rfl⟩
abbrev main_v290 : Ref sig .tc := ⟨.hbm, 511, rfl⟩
abbrev main_cst_61 : Ref sig .tc := ⟨.hbm, 512, rfl⟩
abbrev main_v291 : Ref sig .tc := ⟨.hbm, 513, rfl⟩
abbrev main_v292 : Ref sig .tc := ⟨.hbm, 514, rfl⟩
abbrev main_v293 : Ref sig .tc := ⟨.hbm, 515, rfl⟩
abbrev main_cst_62 : Ref sig .tc := ⟨.hbm, 516, rfl⟩
abbrev main_call16_v0 : Ref sig .tc := ⟨.hbm, 517, rfl⟩
abbrev main_call16_v1 : Ref sig .tc := ⟨.hbm, 518, rfl⟩
abbrev main_v294 : Ref sig .tc := ⟨.hbm, 519, rfl⟩
abbrev main_call17_v0 : Ref sig .tc := ⟨.hbm, 520, rfl⟩
abbrev main_call17_cst : Ref sig .tc := ⟨.hbm, 521, rfl⟩
abbrev main_call17_c : Ref sig .tc := ⟨.hbm, 522, rfl⟩
abbrev main_call17_v1_0 : Ref sig .tc := ⟨.hbm, 523, rfl⟩
abbrev main_v295 : Ref sig .tc := ⟨.hbm, 524, rfl⟩
abbrev main_cst_63 : Ref sig .tc := ⟨.hbm, 525, rfl⟩
abbrev main_cst_64 : Ref sig .tc := ⟨.hbm, 526, rfl⟩
abbrev main_v296 : Ref sig .tc := ⟨.hbm, 527, rfl⟩
abbrev main_cst_65 : Ref sig .tc := ⟨.hbm, 528, rfl⟩
abbrev main_v297 : Ref sig .tc := ⟨.hbm, 529, rfl⟩
abbrev main_v298 : Ref sig .tc := ⟨.hbm, 530, rfl⟩
abbrev main_v299 : Ref sig .tc := ⟨.hbm, 531, rfl⟩
abbrev main_v300 : Ref sig .tc := ⟨.hbm, 532, rfl⟩
abbrev main_cst_66 : Ref sig .tc := ⟨.hbm, 533, rfl⟩
abbrev main_v301 : Ref sig .tc := ⟨.hbm, 534, rfl⟩
abbrev main_cst_67 : Ref sig .tc := ⟨.hbm, 535, rfl⟩
abbrev main_v302 : Ref sig .tc := ⟨.hbm, 536, rfl⟩
abbrev main_v303 : Ref sig .tc := ⟨.hbm, 537, rfl⟩
abbrev main_v304 : Ref sig .tc := ⟨.hbm, 538, rfl⟩
abbrev main_v305 : Ref sig .tc := ⟨.hbm, 539, rfl⟩
abbrev main_v306 : Ref sig .tc := ⟨.hbm, 540, rfl⟩
abbrev main_v307 : Ref sig .tc := ⟨.hbm, 541, rfl⟩
abbrev main_cst_68 : Ref sig .tc := ⟨.hbm, 542, rfl⟩
abbrev main_v308 : Ref sig .tc := ⟨.hbm, 543, rfl⟩
abbrev main_v309 : Ref sig .tc := ⟨.hbm, 544, rfl⟩
abbrev main_v310 : Ref sig .tc := ⟨.hbm, 545, rfl⟩
abbrev main_v311 : Ref sig .tc := ⟨.hbm, 546, rfl⟩
abbrev main_v312 : Ref sig .tc := ⟨.hbm, 547, rfl⟩
abbrev main_v313 : Ref sig .tc := ⟨.hbm, 548, rfl⟩
abbrev main_v314 : Ref sig .tc := ⟨.hbm, 549, rfl⟩
abbrev main_v315 : Ref sig .tc := ⟨.hbm, 550, rfl⟩
abbrev main_v316 : Ref sig .tc := ⟨.hbm, 551, rfl⟩
abbrev main_v317 : Ref sig .tc := ⟨.hbm, 552, rfl⟩
abbrev main_v318 : Ref sig .tc := ⟨.hbm, 553, rfl⟩
abbrev main_v319 : Ref sig .tc := ⟨.hbm, 554, rfl⟩
abbrev main_v320 : Ref sig .tc := ⟨.hbm, 555, rfl⟩
abbrev main_v321 : Ref sig .tc := ⟨.hbm, 556, rfl⟩
abbrev main_v322 : Ref sig .tc := ⟨.hbm, 557, rfl⟩
abbrev main_v323 : Ref sig .tc := ⟨.hbm, 558, rfl⟩
abbrev main_call18_c : Ref sig .tc := ⟨.hbm, 559, rfl⟩
abbrev main_call18_v0 : Ref sig .tc := ⟨.hbm, 560, rfl⟩
abbrev main_call18_v1 : Ref sig .tc := ⟨.hbm, 561, rfl⟩
abbrev main_call18_c_0 : Ref sig .tc := ⟨.hbm, 562, rfl⟩
abbrev main_call18_v2 : Ref sig .tc := ⟨.hbm, 563, rfl⟩
abbrev main_call18_v3 : Ref sig .tc := ⟨.hbm, 564, rfl⟩
abbrev main_call18_v4 : Ref sig .tc := ⟨.hbm, 565, rfl⟩
abbrev main_call18_v5 : Ref sig .tc := ⟨.hbm, 566, rfl⟩
abbrev main_call18_c_1 : Ref sig .tc := ⟨.hbm, 567, rfl⟩
abbrev main_call18_c_2 : Ref sig .tc := ⟨.hbm, 568, rfl⟩
abbrev main_call18_v6 : Ref sig .tc := ⟨.hbm, 569, rfl⟩
abbrev main_call18_v7 : Ref sig .tc := ⟨.hbm, 570, rfl⟩
abbrev main_call18_v8 : Ref sig .tc := ⟨.hbm, 571, rfl⟩
abbrev main_call18_v9 : Ref sig .tc := ⟨.hbm, 572, rfl⟩
abbrev main_call18_v10 : Ref sig .tc := ⟨.hbm, 573, rfl⟩
abbrev main_call18_v11 : Ref sig .tc := ⟨.hbm, 574, rfl⟩
abbrev main_call18_c_3 : Ref sig .tc := ⟨.hbm, 575, rfl⟩
abbrev main_call18_v12 : Ref sig .tc := ⟨.hbm, 576, rfl⟩
abbrev main_call18_v13 : Ref sig .tc := ⟨.hbm, 577, rfl⟩
abbrev main_call18_v14 : Ref sig .tc := ⟨.hbm, 578, rfl⟩
abbrev main_call18_cst : Ref sig .tc := ⟨.hbm, 579, rfl⟩
abbrev main_call18_v15 : Ref sig .tc := ⟨.hbm, 580, rfl⟩
abbrev main_v324 : Ref sig .tc := ⟨.hbm, 581, rfl⟩
abbrev main_v325 : Ref sig .tc := ⟨.hbm, 582, rfl⟩
abbrev main_v326 : Ref sig .tc := ⟨.hbm, 583, rfl⟩
abbrev main_v327 : Ref sig .tc := ⟨.hbm, 584, rfl⟩
abbrev main_v328 : Ref sig .tc := ⟨.hbm, 585, rfl⟩
abbrev main_v329 : Ref sig .tc := ⟨.hbm, 586, rfl⟩
abbrev main_v330 : Ref sig .tc := ⟨.hbm, 587, rfl⟩
abbrev main_cst_69 : Ref sig .tc := ⟨.hbm, 588, rfl⟩
abbrev main_v331 : Ref sig .tc := ⟨.hbm, 589, rfl⟩
abbrev main_v332 : Ref sig .tc := ⟨.hbm, 590, rfl⟩
abbrev main_v333 : Ref sig .tc := ⟨.hbm, 591, rfl⟩
abbrev main_v334 : Ref sig .tc := ⟨.hbm, 592, rfl⟩
abbrev main_cst_70 : Ref sig .tc := ⟨.hbm, 593, rfl⟩
abbrev main_v335 : Ref sig .tc := ⟨.hbm, 594, rfl⟩
abbrev main_v336 : Ref sig .tc := ⟨.hbm, 595, rfl⟩
abbrev main_v337 : Ref sig .tc := ⟨.hbm, 596, rfl⟩
abbrev main_v338 : Ref sig .tc := ⟨.hbm, 597, rfl⟩
abbrev main_v339 : Ref sig .tc := ⟨.hbm, 598, rfl⟩
abbrev main_v340 : Ref sig .tc := ⟨.hbm, 599, rfl⟩
abbrev main_v341 : Ref sig .tc := ⟨.hbm, 600, rfl⟩
abbrev main_cst_71 : Ref sig .tc := ⟨.hbm, 601, rfl⟩
abbrev main_v342 : Ref sig .tc := ⟨.hbm, 602, rfl⟩
abbrev main_v343 : Ref sig .tc := ⟨.hbm, 603, rfl⟩
abbrev main_v344 : Ref sig .tc := ⟨.hbm, 604, rfl⟩
abbrev main_cst_72 : Ref sig .tc := ⟨.hbm, 605, rfl⟩
abbrev main_call19_v0 : Ref sig .tc := ⟨.hbm, 606, rfl⟩
abbrev main_call19_v1 : Ref sig .tc := ⟨.hbm, 607, rfl⟩
abbrev main_v345 : Ref sig .tc := ⟨.hbm, 608, rfl⟩
abbrev main_call20_v0 : Ref sig .tc := ⟨.hbm, 609, rfl⟩
abbrev main_call20_cst : Ref sig .tc := ⟨.hbm, 610, rfl⟩
abbrev main_call20_c : Ref sig .tc := ⟨.hbm, 611, rfl⟩
abbrev main_call20_v1_0 : Ref sig .tc := ⟨.hbm, 612, rfl⟩
abbrev main_v346 : Ref sig .tc := ⟨.hbm, 613, rfl⟩
abbrev main_cst_73 : Ref sig .tc := ⟨.hbm, 614, rfl⟩
abbrev main_cst_74 : Ref sig .tc := ⟨.hbm, 615, rfl⟩
abbrev main_v347 : Ref sig .tc := ⟨.hbm, 616, rfl⟩
abbrev main_cst_75 : Ref sig .tc := ⟨.hbm, 617, rfl⟩
abbrev main_v348 : Ref sig .tc := ⟨.hbm, 618, rfl⟩
abbrev main_v349 : Ref sig .tc := ⟨.hbm, 619, rfl⟩
abbrev main_v350 : Ref sig .tc := ⟨.hbm, 620, rfl⟩
abbrev main_v351 : Ref sig .tc := ⟨.hbm, 621, rfl⟩
abbrev main_cst_76 : Ref sig .tc := ⟨.hbm, 622, rfl⟩
abbrev main_v352 : Ref sig .tc := ⟨.hbm, 623, rfl⟩
abbrev main_cst_77 : Ref sig .tc := ⟨.hbm, 624, rfl⟩
abbrev main_v353 : Ref sig .tc := ⟨.hbm, 625, rfl⟩
abbrev main_v354 : Ref sig .tc := ⟨.hbm, 626, rfl⟩
abbrev main_v355 : Ref sig .tc := ⟨.hbm, 627, rfl⟩
abbrev main_v356 : Ref sig .tc := ⟨.hbm, 628, rfl⟩
abbrev main_v357 : Ref sig .tc := ⟨.hbm, 629, rfl⟩
abbrev main_v358 : Ref sig .tc := ⟨.hbm, 630, rfl⟩
abbrev main_cst_78 : Ref sig .tc := ⟨.hbm, 631, rfl⟩
abbrev main_v359 : Ref sig .tc := ⟨.hbm, 632, rfl⟩
abbrev main_v360 : Ref sig .tc := ⟨.hbm, 633, rfl⟩
abbrev main_v361 : Ref sig .tc := ⟨.hbm, 634, rfl⟩
abbrev main_v362 : Ref sig .tc := ⟨.hbm, 635, rfl⟩
abbrev main_v363 : Ref sig .tc := ⟨.hbm, 636, rfl⟩
abbrev main_v364 : Ref sig .tc := ⟨.hbm, 637, rfl⟩
abbrev main_v365 : Ref sig .tc := ⟨.hbm, 638, rfl⟩
abbrev main_v366 : Ref sig .tc := ⟨.hbm, 639, rfl⟩
abbrev main_v367 : Ref sig .tc := ⟨.hbm, 640, rfl⟩
abbrev main_v368 : Ref sig .tc := ⟨.hbm, 641, rfl⟩
abbrev main_v369 : Ref sig .tc := ⟨.hbm, 642, rfl⟩
abbrev main_v370 : Ref sig .tc := ⟨.hbm, 643, rfl⟩
abbrev main_v371 : Ref sig .tc := ⟨.hbm, 644, rfl⟩
abbrev main_v372 : Ref sig .tc := ⟨.hbm, 645, rfl⟩
abbrev main_v373 : Ref sig .tc := ⟨.hbm, 646, rfl⟩
abbrev main_v374 : Ref sig .tc := ⟨.hbm, 647, rfl⟩
abbrev main_call21_c : Ref sig .tc := ⟨.hbm, 648, rfl⟩
abbrev main_call21_v0 : Ref sig .tc := ⟨.hbm, 649, rfl⟩
abbrev main_call21_v1 : Ref sig .tc := ⟨.hbm, 650, rfl⟩
abbrev main_call21_c_0 : Ref sig .tc := ⟨.hbm, 651, rfl⟩
abbrev main_call21_v2 : Ref sig .tc := ⟨.hbm, 652, rfl⟩
abbrev main_call21_v3 : Ref sig .tc := ⟨.hbm, 653, rfl⟩
abbrev main_call21_v4 : Ref sig .tc := ⟨.hbm, 654, rfl⟩
abbrev main_call21_v5 : Ref sig .tc := ⟨.hbm, 655, rfl⟩
abbrev main_call21_c_1 : Ref sig .tc := ⟨.hbm, 656, rfl⟩
abbrev main_call21_c_2 : Ref sig .tc := ⟨.hbm, 657, rfl⟩
abbrev main_call21_v6 : Ref sig .tc := ⟨.hbm, 658, rfl⟩
abbrev main_call21_v7 : Ref sig .tc := ⟨.hbm, 659, rfl⟩
abbrev main_call21_v8 : Ref sig .tc := ⟨.hbm, 660, rfl⟩
abbrev main_call21_v9 : Ref sig .tc := ⟨.hbm, 661, rfl⟩
abbrev main_call21_v10 : Ref sig .tc := ⟨.hbm, 662, rfl⟩
abbrev main_call21_v11 : Ref sig .tc := ⟨.hbm, 663, rfl⟩
abbrev main_call21_c_3 : Ref sig .tc := ⟨.hbm, 664, rfl⟩
abbrev main_call21_v12 : Ref sig .tc := ⟨.hbm, 665, rfl⟩
abbrev main_call21_v13 : Ref sig .tc := ⟨.hbm, 666, rfl⟩
abbrev main_call21_v14 : Ref sig .tc := ⟨.hbm, 667, rfl⟩
abbrev main_call21_cst : Ref sig .tc := ⟨.hbm, 668, rfl⟩
abbrev main_call21_v15 : Ref sig .tc := ⟨.hbm, 669, rfl⟩
abbrev main_v375 : Ref sig .tc := ⟨.hbm, 670, rfl⟩
abbrev main_v376 : Ref sig .tc := ⟨.hbm, 671, rfl⟩
abbrev main_v377 : Ref sig .tc := ⟨.hbm, 672, rfl⟩
abbrev main_v378 : Ref sig .tc := ⟨.hbm, 673, rfl⟩
abbrev main_v379 : Ref sig .tc := ⟨.hbm, 674, rfl⟩
abbrev main_v380 : Ref sig .tc := ⟨.hbm, 675, rfl⟩
abbrev main_v381 : Ref sig .tc := ⟨.hbm, 676, rfl⟩
abbrev main_v382 : Ref sig .tc := ⟨.hbm, 677, rfl⟩
abbrev main_cst_79 : Ref sig .tc := ⟨.hbm, 678, rfl⟩
abbrev main_v383 : Ref sig .tc := ⟨.hbm, 679, rfl⟩
abbrev main_v384 : Ref sig .tc := ⟨.hbm, 680, rfl⟩
abbrev main_v385 : Ref sig .tc := ⟨.hbm, 681, rfl⟩
abbrev main_v386 : Ref sig .tc := ⟨.hbm, 682, rfl⟩
abbrev main_cst_80 : Ref sig .tc := ⟨.hbm, 683, rfl⟩
abbrev main_v387 : Ref sig .tc := ⟨.hbm, 684, rfl⟩
abbrev main_v388 : Ref sig .tc := ⟨.hbm, 685, rfl⟩
abbrev main_v389 : Ref sig .tc := ⟨.hbm, 686, rfl⟩
abbrev main_v390 : Ref sig .tc := ⟨.hbm, 687, rfl⟩
abbrev main_v391 : Ref sig .tc := ⟨.hbm, 688, rfl⟩
abbrev main_v392 : Ref sig .tc := ⟨.hbm, 689, rfl⟩
abbrev main_v393 : Ref sig .tc := ⟨.hbm, 690, rfl⟩
abbrev main_cst_81 : Ref sig .tc := ⟨.hbm, 691, rfl⟩
abbrev main_v394 : Ref sig .tc := ⟨.hbm, 692, rfl⟩
abbrev main_v395 : Ref sig .tc := ⟨.hbm, 693, rfl⟩
abbrev main_v396 : Ref sig .tc := ⟨.hbm, 694, rfl⟩
abbrev main_cst_82 : Ref sig .tc := ⟨.hbm, 695, rfl⟩
abbrev main_call22_v0 : Ref sig .tc := ⟨.hbm, 696, rfl⟩
abbrev main_call22_v1 : Ref sig .tc := ⟨.hbm, 697, rfl⟩
abbrev main_v397 : Ref sig .tc := ⟨.hbm, 698, rfl⟩
abbrev main_call23_v0 : Ref sig .tc := ⟨.hbm, 699, rfl⟩
abbrev main_call23_cst : Ref sig .tc := ⟨.hbm, 700, rfl⟩
abbrev main_call23_c : Ref sig .tc := ⟨.hbm, 701, rfl⟩
abbrev main_call23_v1_0 : Ref sig .tc := ⟨.hbm, 702, rfl⟩
abbrev main_v398 : Ref sig .tc := ⟨.hbm, 703, rfl⟩
abbrev main_cst_83 : Ref sig .tc := ⟨.hbm, 704, rfl⟩
abbrev main_cst_84 : Ref sig .tc := ⟨.hbm, 705, rfl⟩
abbrev main_v399 : Ref sig .tc := ⟨.hbm, 706, rfl⟩
abbrev main_cst_85 : Ref sig .tc := ⟨.hbm, 707, rfl⟩
abbrev main_v400 : Ref sig .tc := ⟨.hbm, 708, rfl⟩
abbrev main_v401 : Ref sig .tc := ⟨.hbm, 709, rfl⟩
abbrev main_v402 : Ref sig .tc := ⟨.hbm, 710, rfl⟩
abbrev main_v403 : Ref sig .tc := ⟨.hbm, 711, rfl⟩
abbrev main_cst_86 : Ref sig .tc := ⟨.hbm, 712, rfl⟩
abbrev main_v404 : Ref sig .tc := ⟨.hbm, 713, rfl⟩
abbrev main_cst_87 : Ref sig .tc := ⟨.hbm, 714, rfl⟩
abbrev main_v405 : Ref sig .tc := ⟨.hbm, 715, rfl⟩
abbrev main_v406 : Ref sig .tc := ⟨.hbm, 716, rfl⟩
abbrev main_v407 : Ref sig .tc := ⟨.hbm, 717, rfl⟩
abbrev main_v408 : Ref sig .tc := ⟨.hbm, 718, rfl⟩
abbrev main_v409 : Ref sig .tc := ⟨.hbm, 719, rfl⟩
abbrev main_v410 : Ref sig .tc := ⟨.hbm, 720, rfl⟩
abbrev main_cst_88 : Ref sig .tc := ⟨.hbm, 721, rfl⟩
abbrev main_v411 : Ref sig .tc := ⟨.hbm, 722, rfl⟩
abbrev main_v412 : Ref sig .tc := ⟨.hbm, 723, rfl⟩
abbrev main_v413 : Ref sig .tc := ⟨.hbm, 724, rfl⟩
abbrev main_v414 : Ref sig .tc := ⟨.hbm, 725, rfl⟩
abbrev main_v415 : Ref sig .tc := ⟨.hbm, 726, rfl⟩
abbrev main_v416 : Ref sig .tc := ⟨.hbm, 727, rfl⟩
abbrev main_v417 : Ref sig .tc := ⟨.hbm, 728, rfl⟩
abbrev main_v418 : Ref sig .tc := ⟨.hbm, 729, rfl⟩
abbrev main_v419 : Ref sig .tc := ⟨.hbm, 730, rfl⟩
abbrev main_v420 : Ref sig .tc := ⟨.hbm, 731, rfl⟩
abbrev main_v421 : Ref sig .tc := ⟨.hbm, 732, rfl⟩
abbrev main_v422 : Ref sig .tc := ⟨.hbm, 733, rfl⟩
abbrev main_v423 : Ref sig .tc := ⟨.hbm, 734, rfl⟩
abbrev main_v424 : Ref sig .tc := ⟨.hbm, 735, rfl⟩
abbrev main_v425 : Ref sig .tc := ⟨.hbm, 736, rfl⟩
abbrev main_v426 : Ref sig .tc := ⟨.hbm, 737, rfl⟩
abbrev main_call24_c : Ref sig .tc := ⟨.hbm, 738, rfl⟩
abbrev main_call24_v0 : Ref sig .tc := ⟨.hbm, 739, rfl⟩
abbrev main_call24_v1 : Ref sig .tc := ⟨.hbm, 740, rfl⟩
abbrev main_call24_c_0 : Ref sig .tc := ⟨.hbm, 741, rfl⟩
abbrev main_call24_v2 : Ref sig .tc := ⟨.hbm, 742, rfl⟩
abbrev main_call24_v3 : Ref sig .tc := ⟨.hbm, 743, rfl⟩
abbrev main_call24_v4 : Ref sig .tc := ⟨.hbm, 744, rfl⟩
abbrev main_call24_v5 : Ref sig .tc := ⟨.hbm, 745, rfl⟩
abbrev main_call24_c_1 : Ref sig .tc := ⟨.hbm, 746, rfl⟩
abbrev main_call24_c_2 : Ref sig .tc := ⟨.hbm, 747, rfl⟩
abbrev main_call24_v6 : Ref sig .tc := ⟨.hbm, 748, rfl⟩
abbrev main_call24_v7 : Ref sig .tc := ⟨.hbm, 749, rfl⟩
abbrev main_call24_v8 : Ref sig .tc := ⟨.hbm, 750, rfl⟩
abbrev main_call24_v9 : Ref sig .tc := ⟨.hbm, 751, rfl⟩
abbrev main_call24_v10 : Ref sig .tc := ⟨.hbm, 752, rfl⟩
abbrev main_call24_v11 : Ref sig .tc := ⟨.hbm, 753, rfl⟩
abbrev main_call24_c_3 : Ref sig .tc := ⟨.hbm, 754, rfl⟩
abbrev main_call24_v12 : Ref sig .tc := ⟨.hbm, 755, rfl⟩
abbrev main_call24_v13 : Ref sig .tc := ⟨.hbm, 756, rfl⟩
abbrev main_call24_v14 : Ref sig .tc := ⟨.hbm, 757, rfl⟩
abbrev main_call24_cst : Ref sig .tc := ⟨.hbm, 758, rfl⟩
abbrev main_call24_v15 : Ref sig .tc := ⟨.hbm, 759, rfl⟩
abbrev main_v427 : Ref sig .tc := ⟨.hbm, 760, rfl⟩
abbrev main_v428 : Ref sig .tc := ⟨.hbm, 761, rfl⟩
abbrev main_v429 : Ref sig .tc := ⟨.hbm, 762, rfl⟩
abbrev main_v430 : Ref sig .tc := ⟨.hbm, 763, rfl⟩
abbrev main_v431 : Ref sig .tc := ⟨.hbm, 764, rfl⟩
abbrev main_v432 : Ref sig .tc := ⟨.hbm, 765, rfl⟩
abbrev main_v433 : Ref sig .tc := ⟨.hbm, 766, rfl⟩
abbrev main_v434 : Ref sig .tc := ⟨.hbm, 767, rfl⟩
abbrev main_v435 : Ref sig .tc := ⟨.hbm, 768, rfl⟩
abbrev main_v436 : Ref sig .tc := ⟨.hbm, 769, rfl⟩
abbrev main_v437 : Ref sig .tc := ⟨.hbm, 770, rfl⟩
abbrev main_cst_89 : Ref sig .tc := ⟨.hbm, 771, rfl⟩
abbrev main_v438 : Ref sig .tc := ⟨.hbm, 772, rfl⟩
abbrev main_v439 : Ref sig .tc := ⟨.hbm, 773, rfl⟩
abbrev main_v440 : Ref sig .tc := ⟨.hbm, 774, rfl⟩
abbrev main_cst_90 : Ref sig .tc := ⟨.hbm, 775, rfl⟩
abbrev main_v441 : Ref sig .tc := ⟨.hbm, 776, rfl⟩
abbrev main_v442 : Ref sig .tc := ⟨.hbm, 777, rfl⟩
abbrev main_v443 : Ref sig .tc := ⟨.hbm, 778, rfl⟩
abbrev main_cst_91 : Ref sig .tc := ⟨.hbm, 779, rfl⟩
abbrev main_v444 : Ref sig .tc := ⟨.hbm, 780, rfl⟩
abbrev main_v445 : Ref sig .tc := ⟨.hbm, 781, rfl⟩
abbrev main_cst_92 : Ref sig .tc := ⟨.hbm, 782, rfl⟩
abbrev main_v446 : Ref sig .tc := ⟨.hbm, 783, rfl⟩
abbrev main_v447 : Ref sig .tc := ⟨.hbm, 784, rfl⟩
abbrev main_v448 : Ref sig .tc := ⟨.hbm, 785, rfl⟩
abbrev main_v449 : Ref sig .tc := ⟨.hbm, 786, rfl⟩
abbrev main_v450 : Ref sig .tc := ⟨.hbm, 787, rfl⟩
abbrev main_v451 : Ref sig .tc := ⟨.hbm, 788, rfl⟩
abbrev main_v452 : Ref sig .tc := ⟨.hbm, 789, rfl⟩
abbrev main_v453 : Ref sig .tc := ⟨.hbm, 790, rfl⟩
abbrev main_v454 : Ref sig .tc := ⟨.hbm, 791, rfl⟩
abbrev main_v455 : Ref sig .tc := ⟨.hbm, 792, rfl⟩
abbrev main_v456 : Ref sig .tc := ⟨.hbm, 793, rfl⟩

abbrev nD : Nat := 1
abbrev τ : Topo := Topo.v7x

variable {F : FTy → Type} [FloatOps F]
-- ==== Proof.Row.lean ====
/- One row of the batch at one level, over the extended reals: the kernel's arithmetic and the reference's, and that
they agree where the residual and the roots are real numbers. -/
module

public import Idealize.ShloMosaic.PureOps
public import Idealize.ShloMosaic.PureOps.Ideal.Laws
public import Idealize.ShloMosaic.Lib.Pointwise

@[expose] public section

noncomputable section

namespace Cert.Rcpl.Row

open Idealize.ShloMosaic

/-! ### Constants and sums -/

/-- The largest pattern of the format is plus infinity. -/
theorem bits_top : Ideal.ofBits .f32 0x7F800000#32 = ⊤ := by simp [Ideal.ofBits, Ideal.ieee]

/-- Its negation is minus infinity. -/
theorem bits_bot : Ideal.ofBits .f32 0xFF800000#32 = ⊥ := by simp [Ideal.ofBits, Ideal.ieee]

/-- The number of roots. -/
theorem bits_240 : Ideal.ofBits .f32 0x43700000#32 = ((240 : ℝ) : EReal) := by
  simp [Ideal.ofBits, Ideal.ieee]; rw [← EReal.coe_mul]; norm_num

/-- Two. -/
theorem bits_two : Ideal.ofBits .f32 0x40000000#32 = ((2 : ℝ) : EReal) := by
  simp [Ideal.ofBits, Ideal.ieee]; rw [← EReal.coe_mul]; norm_num

/-- Minus two. -/
theorem bits_negTwo : Ideal.ofBits .f32 0xC0000000#32 = ((-2 : ℝ) : EReal) := by
  simp [Ideal.ofBits, Ideal.ieee]; rw [← EReal.coe_mul]; norm_num

/-- A sum of reals, taken over the extended reals. -/
theorem coe_sum {ι : Type} [Fintype ι] (f : ι → ℝ) : ((∑ i, f i : ℝ) : EReal) = ∑ i, (f i : EReal) := by
  classical
  have h : ∀ s : Finset ι, ((∑ i ∈ s, f i : ℝ) : EReal) = ∑ i ∈ s, (f i : EReal) := fun s => by
    induction s using Finset.induction_on with
    | empty => simp
    | insert a s ha ih => rw [Finset.sum_insert ha, Finset.sum_insert ha, EReal.coe_add, ih]
  exact h _

/-- A sum times a nonnegative real, whatever the summands. -/
theorem sum_mul_real {ι : Type} [Fintype ι] (f : ι → EReal) {c : ℝ} (hc : 0 ≤ c) :
    (∑ i, f i) * (c : EReal) = ∑ i, f i * (c : EReal) := by
  classical
  have h : ∀ s : Finset ι, (∑ i ∈ s, f i) * (c : EReal) = ∑ i ∈ s, f i * (c : EReal) := fun s => by
    induction s using Finset.induction_on with
    | empty => simp
    | insert a s ha ih =>
      rw [Finset.sum_insert ha, Finset.sum_insert ha,
        EReal.right_distrib_of_nonneg_of_ne_top (EReal.coe_nonneg.2 hc) (EReal.coe_ne_top c), ih]
  exact h _

/-! ### The least entry and its first position -/

/-- The least of 240 entries. -/
def least (d : Fin 240 → EReal) : EReal := Finset.univ.fold min (Ideal.ofBits .f32 0x7F800000#32) d

/-- The greatest of 240 entries. -/
def greatest (d : Fin 240 → EReal) : EReal := Finset.univ.fold max (Ideal.ofBits .f32 0xFF800000#32) d

/-- An entry no larger than any other is the least. -/
theorem least_eq (d : Fin 240 → EReal) (i : Fin 240) (h : ∀ n, d i ≤ d n) : least d = d i :=
  le_antisymm ((Finset.fold_min_le _).2 (.inr ⟨i, Finset.mem_univ _, le_rfl⟩))
    (Finset.le_fold_min _ |>.2 ⟨by rw [bits_top]; exact le_top, fun n _ => h n⟩)

/-- An entry no smaller than any other is the greatest. -/
theorem greatest_eq (d : Fin 240 → EReal) (i : Fin 240) (h : ∀ n, d n ≤ d i) : greatest d = d i :=
  le_antisymm ((Finset.fold_max_le _).2 ⟨by rw [bits_bot]; exact bot_le, fun n _ => h n⟩)
    ((Finset.le_fold_max _).2 (.inr ⟨i, Finset.mem_univ _, le_rfl⟩))

/-- `i` is the first position of the least entry. -/
def IsFirst (d : Fin 240 → EReal) (i : Fin 240) : Prop := ∀ n, d i < d n ∨ (d i = d n ∧ i ≤ n)

/-- A first minimum is a lower bound. -/
theorem IsFirst.le {d : Fin 240 → EReal} {i : Fin 240} (h : IsFirst d i) (n : Fin 240) : d i ≤ d n :=
  (h n).elim le_of_lt fun h => h.1.le

/-- Some position is the first of the least entry. -/
theorem exists_least (d : Fin 240 → EReal) : ∃ i, ∀ n, d i ≤ d n := by
  obtain ⟨i, -, h⟩ := Finset.exists_min_image Finset.univ d ⟨0, Finset.mem_univ _⟩
  exact ⟨i, fun n => h n (Finset.mem_univ _)⟩

/-! ### What the two programs compute -/

/-- The kernel's distances; `l` is the roots' common squared length, `rn` the roots times minus two. -/
def kDist (l : EReal) (rn : Fin 240 → Fin 8 → EReal) (x : Fin 8 → EReal) (n : Fin 240) : EReal :=
  max (∑ k, x k * x k + l + ∑ k, rn n k * x k) 0

/-- The reference's distances. -/
def rDist (l : Fin 240 → EReal) (R : Fin 240 → Fin 8 → EReal) (x : Fin 8 → EReal) (n : Fin 240) : EReal :=
  max 0 (∑ k, x k * x k + l n - Ideal.ofBits .f32 0x40000000#32 * ∑ k, x k * R n k)

/-- The kernel's weights, not normalised. -/
def kWeight (d : Fin 240 → EReal) (c : EReal) (n : Fin 240) : EReal := Ideal.exp ((least d - d n) * c)

/-- The reference's weights, not normalised. -/
def rWeight (x : Fin 240 → EReal) (n : Fin 240) : EReal :=
  Ideal.exp (x n - max (Ideal.ofBits .f32 0xFF800000#32) (greatest x))

/-- The reference's normalised weights. -/
def rShare (e : Fin 240 → EReal) (n : Fin 240) : EReal := Ideal.div (e n) (∑ i, e i)

/-- The reference's logits. -/
def rLogit (d : Fin 240 → EReal) (t : EReal) (n : Fin 240) : EReal := Ideal.div (-d n) t

/-- A position as a number. -/
def pos (n : Fin 240) : EReal := FloatOps.sitofp (F := Ideal) .f32 (BitVec.ofNat 32 n)

/-- The first position of the least entry, as the kernel finds it. -/
def kFirst (d : Fin 240 → EReal) : EReal :=
  least fun n => if d n = least d then pos n else Ideal.ofBits .f32 0x43700000#32

/-- One at the first position of the least entry. -/
def kHot (d : Fin 240 → EReal) (n : Fin 240) : EReal :=
  FloatOps.sitofp (F := Ideal) .f32 (BitVec.setWidth 32 (BitVec.ofBool (decide (pos n = kFirst d))))

/-! ### Distances -/

/-- Scaling a real by a positive real. -/
theorem div_real (r : ℝ) {σ : ℝ} (hσ : 0 < σ) : Ideal.div (r : EReal) (σ : EReal) = ((r * (1 / σ) : ℝ) : EReal) := by
  rw [Ideal.div_coe hσ.ne', EReal.coe_mul]

/-- On real residuals and roots the two distances are one real number. -/
theorem dist_real (lam : ℝ) (ρ : Fin 240 → Fin 8 → ℝ) (ξ : Fin 8 → ℝ) (l : Fin 240 → EReal)
    (R rn : Fin 240 → Fin 8 → EReal) (x : Fin 8 → EReal) (hl : ∀ n, l n = lam) (hR : ∀ n k, R n k = (ρ n k : EReal))
    (hrn : ∀ n k, rn n k = Ideal.ofBits .f32 0xC0000000#32 * R n k) (hx : ∀ k, x k = (ξ k : EReal)) (n : Fin 240) :
    ∃ δ : ℝ, rDist l R x n = δ ∧ kDist (l 0) rn x n = δ := by
  refine ⟨max 0 (∑ k, ξ k * ξ k + lam - 2 * ∑ k, ξ k * ρ n k), ?_, ?_⟩
  · unfold rDist
    rw [bits_two, hl]
    simp only [hx, hR, ← EReal.coe_mul, ← coe_sum, ← EReal.coe_add, ← EReal.coe_sub]
    exact (EReal.coe_strictMono.monotone.map_max).symm
  · unfold kDist
    rw [hl]
    simp only [hrn, bits_negTwo, hx, hR, ← EReal.coe_mul, ← coe_sum, ← EReal.coe_add]
    refine (EReal.coe_strictMono.monotone.map_max (b := 0)).symm.trans ?_
    rw [max_comm]
    congr 2
    rw [sub_eq_add_neg, Finset.mul_sum, ← Finset.sum_neg_distrib]
    exact congrArg _ (Finset.sum_congr rfl fun k _ => by ring)

/-! ### Weights -/

/-- On real distances the two programs' weights are one positive real. -/
theorem weight_real (d : Fin 240 → EReal) (δ : Fin 240 → ℝ) (hd : ∀ n, d n = (δ n : EReal)) {τ : ℝ} (hτ : 0 < τ)
    (n : Fin 240) :
    ∃ w : ℝ, 0 < w ∧ rWeight (rLogit d (τ : EReal)) n = w ∧ kWeight d ((1 / τ : ℝ) : EReal) n = w := by
  obtain ⟨i, hi⟩ := exists_least d
  have hi' : ∀ m, δ i ≤ δ m := fun m => by simpa [hd] using hi m
  have hx : ∀ m, rLogit d (τ : EReal) m = ((-δ m * (1 / τ) : ℝ) : EReal) := fun m => by
    rw [rLogit, hd, ← EReal.coe_neg, div_real _ hτ]
  refine ⟨Real.exp ((δ i - δ n) * (1 / τ)), Real.exp_pos _, ?_, ?_⟩
  · rw [rWeight, bits_bot, max_eq_right bot_le, greatest_eq _ i fun m => ?_]
    · rw [hx, hx, ← EReal.coe_sub, Ideal.exp_coe]
      congr 2; ring
    · rw [hx, hx, EReal.coe_le_coe_iff]
      exact mul_le_mul_of_nonneg_right (neg_le_neg (hi' m)) (by positivity)
  · rw [kWeight, least_eq _ i hi, hd, hd, ← EReal.coe_sub, ← EReal.coe_mul, Ideal.exp_coe]

/-- What a level adds, over any table: the normalised weights' sum times a factor is the sum over the table scaled
by the factor, divided by the sum of the weights. -/
theorem add_eq (w : Fin 240 → ℝ) (hw : ∀ n, 0 < w n) (t : Fin 240 → EReal) {φ : ℝ} (hφ : 0 ≤ φ) :
    (∑ n, rShare (fun m => (w m : EReal)) n * t n) * (φ : EReal)
      = (∑ n, (t n * φ) * w n) * Ideal.div 1 (∑ n, 1 * (w n : EReal)) := by
  have hW : 0 < ∑ n, w n := Finset.sum_pos (fun n _ => hw n) ⟨0, Finset.mem_univ _⟩
  have h1 : ∀ n, rShare (fun m => (w m : EReal)) n = w n * ((1 / ∑ i, w i : ℝ) : EReal) := fun n => by
    rw [rShare, ← coe_sum, Ideal.div_coe hW.ne']
  simp only [one_mul, h1, ← coe_sum]
  rw [Ideal.div_coe hW.ne', one_mul, sum_mul_real _ hφ, sum_mul_real _ (by positivity)]
  exact Finset.sum_congr rfl fun n _ => by ac_rfl

/-! ### The residual -/

/-- A position is its number. -/
theorem pos_eq (n : Fin 240) : pos n = ((n.val : ℝ) : EReal) := by
  have h : (BitVec.ofNat 32 n.val).toInt = n.val := by
    rw [BitVec.toInt_ofNat', Int.bmod_eq_of_le] <;> omega
  show (((BitVec.ofNat 32 n.val).toInt : ℝ) : EReal) = _
  rw [h]; rfl

/-- The kernel's first position is the first position. -/
theorem kFirst_eq (d : Fin 240 → EReal) (i : Fin 240) (h : IsFirst d i) : kFirst d = pos i := by
  have hl := least_eq d i h.le
  unfold kFirst
  refine (least_eq _ i fun n => ?_).trans (if_pos hl.symm)
  beta_reduce
  rw [if_pos hl.symm, hl, pos_eq, pos_eq, bits_240]
  split
  · next hn =>
    rcases h n with h | h
    · exact absurd hn.symm h.ne
    · exact EReal.coe_le_coe_iff.2 (Nat.cast_le.2 h.2)
  · exact EReal.coe_le_coe_iff.2 (by exact_mod_cast i.isLt.le)

/-- The kernel's selector is one there and zero elsewhere. -/
theorem kHot_eq (d : Fin 240 → EReal) (i : Fin 240) (h : IsFirst d i) (n : Fin 240) :
    kHot d n = if n = i then 1 else 0 := by
  have hp : (pos n = kFirst d) ↔ n = i := by
    rw [kFirst_eq d i h, pos_eq, pos_eq, EReal.coe_eq_coe_iff, Nat.cast_inj, Fin.ext_iff]
  unfold kHot
  simp only [hp]
  by_cases hn : n = i
  · simp only [hn, if_pos]
    show (((BitVec.setWidth 32 (BitVec.ofBool (decide True))).toInt : ℝ) : EReal) = 1
    simp
  · simp only [hn, if_false]
    show (((BitVec.setWidth 32 (BitVec.ofBool (decide False))).toInt : ℝ) : EReal) = 0
    simp

/-- The selected row. -/
theorem sum_hot (d : Fin 240 → EReal) (i : Fin 240) (h : IsFirst d i) (t : Fin 240 → EReal) :
    ∑ n, t n * kHot d n = t i := by
  simp only [kHot_eq d i h]
  rw [Finset.sum_eq_single i (fun n _ hn => by rw [if_neg hn, mul_zero]) (fun hi => absurd (Finset.mem_univ _) hi),
    if_pos rfl, mul_one]

end Cert.Rcpl.Row

end
-- ==== Proof.RowStep.lean ====
/- One level at one row of the batch: what it adds to the results and what it leaves of the residual. -/
module

public import proofs.«01_k».proof.Proof.Row

@[expose] public section

noncomputable section

namespace Cert.Rcpl.Row

open Idealize.ShloMosaic

/-- The roots as the two programs hold them: real numbers of one common squared length, the kernel's times minus two. -/
structure Roots (l : Fin 240 → EReal) (R rn : Fin 240 → Fin 8 → EReal) : Prop where
  /-- the squared lengths are one real number -/
  len : ∃ lam : ℝ, ∀ n, l n = lam
  /-- the roots are real -/
  real : ∀ n k, ∃ ρ : ℝ, R n k = ρ
  /-- the kernel's copy -/
  neg : ∀ n k, rn n k = Ideal.ofBits .f32 0xC0000000#32 * R n k

/-- The factors of a level: both zero, or the scale a positive and the factor a nonnegative real. -/
def Factors (s f : EReal) : Prop := (s = 0 ∧ f = 0) ∨ ∃ σ φ : ℝ, 0 < σ ∧ 0 ≤ φ ∧ s = σ ∧ f = φ

variable {l : Fin 240 → EReal} {R rn : Fin 240 → Fin 8 → EReal}

/-- With a positive scale a real residual gives the two programs one real distance to every root. -/
theorem Roots.dist (H : Roots l R rn) (r : Fin 8 → EReal) (hr : ∀ k, ∃ ξ : ℝ, r k = ξ) {σ : ℝ} (hσ : 0 < σ) :
    ∃ δ : Fin 240 → ℝ, ∀ n, rDist l R (fun k => Ideal.div (r k) (σ : EReal)) n = δ n
      ∧ kDist (l 0) rn (fun k => Ideal.div (r k) (σ : EReal)) n = δ n := by
  obtain ⟨lam, hl⟩ := H.len
  choose ρ hρ using H.real
  choose ξ hξ using hr
  choose δ hδ using dist_real lam ρ (fun k => ξ k * (1 / σ)) l R rn (fun k => Ideal.div (r k) (σ : EReal)) hl hρ H.neg
    (fun k => by rw [hξ, div_real _ hσ])
  exact ⟨δ, hδ⟩

/-- What a level adds, over any table. -/
theorem Roots.add (H : Roots l R rn) (r : Fin 8 → EReal) (hr : ∀ k, ∃ ξ : ℝ, r k = ξ) {s f : EReal} (hs : Factors s f)
    {τ : ℝ} (hτ : 0 < τ) (t : Fin 240 → EReal) :
    (∑ n, rShare (rWeight (rLogit (rDist l R fun k => Ideal.div (r k) s) (τ : EReal))) n * t n) * f
      = (∑ n, (t n * f) * kWeight (kDist (l 0) rn fun k => Ideal.div (r k) s) ((1 / τ : ℝ) : EReal) n)
        * Ideal.div 1 (∑ n, 1 * kWeight (kDist (l 0) rn fun k => Ideal.div (r k) s) ((1 / τ : ℝ) : EReal) n) := by
  rcases hs with ⟨-, rfl⟩ | ⟨σ, φ, hσ, hφ, rfl, rfl⟩
  · simp only [mul_zero, zero_mul, Finset.sum_const_zero]
  · obtain ⟨δ, hδ⟩ := H.dist r hr hσ
    rw [funext fun n => (hδ n).1, funext fun n => (hδ n).2]
    choose w hw using weight_real (fun n => (δ n : EReal)) δ (fun _ => rfl) hτ
    rw [funext fun n => (hw n).2.1, funext fun n => (hw n).2.2]
    exact add_eq w (fun n => (hw n).1) t hφ

/-- What a level leaves of the residual; `q` is the row the reference takes. -/
theorem Roots.resid (H : Roots l R rn) (r q : Fin 8 → EReal) (hr : ∀ k, ∃ ξ : ℝ, r k = ξ) {s f : EReal}
    (hs : Factors s f)
    (hq : (∀ n, rDist l R (fun k => Ideal.div (r k) s) n ≠ ⊤) →
      ∃ i, IsFirst (rDist l R fun k => Ideal.div (r k) s) i ∧ ∀ k, q k = R i k) (k : Fin 8) :
    ∃ ξ : ℝ, r k - q k * s = ξ
      ∧ r k - (∑ n, R n k * kHot (kDist (l 0) rn fun k => Ideal.div (r k) s) n) * s = ξ := by
  obtain ⟨ξ, hξ⟩ := hr k
  rcases hs with ⟨rfl, -⟩ | ⟨σ, φ, hσ, hφ, rfl, rfl⟩
  · exact ⟨ξ, by rw [mul_zero, sub_zero, hξ], by rw [mul_zero, sub_zero, hξ]⟩
  · obtain ⟨δ, hδ⟩ := H.dist r hr hσ
    obtain ⟨i, hi, hqi⟩ := hq fun n => by rw [(hδ n).1]; exact EReal.coe_ne_top _
    obtain ⟨ρ, hρ⟩ := H.real i k
    have hd : (kDist (l 0) rn fun k => Ideal.div (r k) (σ : EReal)) = rDist l R fun k => Ideal.div (r k) (σ : EReal) :=
      funext fun n => (hδ n).2.trans (hδ n).1.symm
    refine ⟨ξ - ρ * σ, ?_, ?_⟩
    · rw [hqi, hρ, hξ, ← EReal.coe_mul, ← EReal.coe_sub]
    · rw [hd, sum_hot _ i hi fun n => R n k, hρ, hξ, ← EReal.coe_mul, ← EReal.coe_sub]

end Cert.Rcpl.Row

end
-- ==== Proof.RefOps.lean ====
/- The reference program's host operations as lists: the part before the levels, each level in
   three pieces (the squared distances; the argmin, the attention and what it adds; the codeword taken
   away), and the part after the levels. The bodies of the four functions it calls are stated once,
   over a call's buffers. -/
module

public import proofs.«01_k».proof.Proof.Gen.ReferenceIdeal
public import Idealize.ShloMosaic.Lib.StableHlo.Run
public import Idealize.ShloMosaic.Lib.Pipeline.Frame

@[expose] public section

noncomputable section

namespace Cert.Rcpl.Ref

open Cert.ReferenceIdeal Cert.ReferenceIdeal.Gen Idealize.ShloMosaic Idealize.ShloMosaic.TcCoe
  Idealize.SL.Sem Idealize.ShloMosaic.StableHlo

variable {F : FTy → Type} [FloatOps F]

/-- An f32 array of shape `s`, as an operation of the reference sees it. -/
abbrev Arr (F : FTy → Type) (s : Shape) : Type := (⟨s, .f32⟩ : BufTy).Contents (Elt F)

/-- The reference's operations, as a type. -/
abbrev Ops (F : FTy → Type) : Type := List (HloOp τ sig (Elt F))

/-- The row norms of a call, as a column. -/
abbrev normOps (arg0 : TRef sig ⟨S16384x8, .f32⟩) (φ : fn_norm.Bufs) : Ops F :=
  [ TRef.binary arg0 arg0 φ.v0 mulf,
    TRef.nullary φ.cst (constant S_ .f32 0x00000000#32),
    TRef.binary φ.v0 φ.cst φ.v1 (fun x v => Host.reduceAdd x v reducesTo_S16384x8_S16384_d1 h_S_),
    TRef.unary φ.v1 φ.v2 (broadcastInDim S16384x1 ![0] bcast_S16384_S16384x1_0),
    TRef.unary φ.v2 φ.v3 Host.sqrt ]

/-- The larger of each entry and the bound. -/
abbrev clipOps (arg0 : TRef sig ⟨S16384x240, .f32⟩) (arg1 : TRef sig ⟨S_, .f32⟩) (φ : fn_clip.Bufs) : Ops F :=
  [ TRef.unary arg1 φ.v0 id,
    TRef.unary φ.v0 φ.v1 (broadcastInDim S16384x240 ![] bcast_S_S16384x240),
    TRef.binary φ.v1 arg0 φ.v2 maximumf ]

/-- The first column at which each row is least. -/
abbrev argminOps (arg0 : TRef sig ⟨S16384x240, .f32⟩) (φ : fn_argmin.Bufs) : Ops F :=
  [ TRef.nullary φ.v0 (iotaInDim S16384x240 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S16384x240_S16384_d1 h_S_ j).1),
    TRef.quaternary arg0 φ.v0 φ.cst φ.c φ.v1_1 (fun x y u v j => (Host.argReduce reducer_argmin_f32_i32 x y u v reducesTo_S16384x240_S16384_d1 h_S_ j).2) ]

/-- The rows of a table at given indices. -/
abbrev takeOps (arg0 : TRef sig ⟨S240x8, .f32⟩) (arg1 : TRef sig ⟨S16384, .i32⟩) (φ : fn_take.Bufs) : Ops F :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 240#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 239#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S240x8_S16384x1_S16384x8_1_0_n_n_0_1_18 x i),
    TRef.unary φ.v12 φ.v14 (broadcastInDim S16384x8 ![0] bcast_S16384_S16384x8_0),
    TRef.nullary φ.cst (constant S_ .f32 0x7FC00000#32),
    TRef.unary φ.cst φ.v15 (broadcastInDim S16384x8 ![] bcast_S_S16384x8),
    TRef.ternary φ.v14 φ.v13 φ.v15 φ.v16 select ]

/-- The operations before the levels: the normalised rows, the decay, the zeros, the roots' squared lengths. -/
def opsPre : Ops F :=
  [ unary main_arg1 main_v0 ((transpose S14x32 [1, 0] · transposes_S32x14_S14x32_1_0) : Arr F S32x14 → Arr F S14x32),
    binary main_arg0 main_v0 main_v1 ((fun l r => Host.dotGeneral dot_S16384x14_S14x32_S16384x32_1_0_0_1_n_n none l r) : Arr F S16384x14 → Arr F S14x32 → Arr F S16384x32),
    unary main_arg2 main_v2 (broadcastInDim S1x32 ![1] bcast_S32_S1x32_1 : Arr F S32 → Arr F S1x32),
    unary main_v2 main_v3 (broadcastInDim S16384x32 ![0, 1] bcast_S1x32_S16384x32_0_1 : Arr F S1x32 → Arr F S16384x32),
    binary main_v1 main_v3 main_v4 (addf : Arr F S16384x32 → Arr F S16384x32 → Arr F S16384x32),
    binary main_v4 main_v4 main_v5 (mulf : Arr F S16384x32 → Arr F S16384x32 → Arr F S16384x32),
    binary main_v5 main_v4 main_v6 (mulf : Arr F S16384x32 → Arr F S16384x32 → Arr F S16384x32),
    nullary main_cst (constant S_ .f32 0x3D372713#32),
    unary main_cst main_v7 (broadcastInDim S16384x32 ![] bcast_S_S16384x32 : Arr F S_ → Arr F S16384x32),
    binary main_v7 main_v6 main_v8 (mulf : Arr F S16384x32 → Arr F S16384x32 → Arr F S16384x32),
    binary main_v4 main_v8 main_v9 (addf : Arr F S16384x32 → Arr F S16384x32 → Arr F S16384x32),
    nullary main_cst_0 (constant S_ .f32 0x3F4C422A#32),
    unary main_cst_0 main_v10 (broadcastInDim S16384x32 ![] bcast_S_S16384x32 : Arr F S_ → Arr F S16384x32),
    binary main_v10 main_v9 main_v11 (mulf : Arr F S16384x32 → Arr F S16384x32 → Arr F S16384x32),
    unary main_v11 main_v12 (Host.tanh : Arr F S16384x32 → Arr F S16384x32),
    nullary main_cst_1 (constant S_ .f32 0x3F800000#32),
    unary main_cst_1 main_v13 (broadcastInDim S16384x32 ![] bcast_S_S16384x32 : Arr F S_ → Arr F S16384x32),
    binary main_v13 main_v12 main_v14 (addf : Arr F S16384x32 → Arr F S16384x32 → Arr F S16384x32),
    nullary main_cst_2 (constant S_ .f32 0x3F000000#32),
    unary main_cst_2 main_v15 (broadcastInDim S16384x32 ![] bcast_S_S16384x32 : Arr F S_ → Arr F S16384x32),
    binary main_v15 main_v14 main_v16 (mulf : Arr F S16384x32 → Arr F S16384x32 → Arr F S16384x32),
    binary main_v4 main_v16 main_v17 (mulf : Arr F S16384x32 → Arr F S16384x32 → Arr F S16384x32),
    unary main_arg3 main_v18 ((transpose S32x8 [1, 0] · transposes_S8x32_S32x8_1_0) : Arr F S8x32 → Arr F S32x8),
    binary main_v17 main_v18 main_v19 ((fun l r => Host.dotGeneral dot_S16384x32_S32x8_S16384x8_1_0_0_1_n_n none l r) : Arr F S16384x32 → Arr F S32x8 → Arr F S16384x8),
    unary main_arg4 main_v20 (broadcastInDim S1x8 ![1] bcast_S8_S1x8_1 : Arr F S8 → Arr F S1x8),
    unary main_v20 main_v21 (broadcastInDim S16384x8 ![0, 1] bcast_S1x8_S16384x8_0_1 : Arr F S1x8 → Arr F S16384x8),
    binary main_v19 main_v21 main_v22 (addf : Arr F S16384x8 → Arr F S16384x8 → Arr F S16384x8) ] ++
  (normOps (.of main_v22) main_call0 ++
  ([ nullary main_cst_3 (constant S_ .f32 0x2B8CBCCC#32),
    unary main_cst_3 main_v24 (broadcastInDim S16384x1 ![] bcast_S_S16384x1 : Arr F S_ → Arr F S16384x1),
    binary main_v23 main_v24 main_v25 (addf : Arr F S16384x1 → Arr F S16384x1 → Arr F S16384x1),
    unary main_v25 main_v26 (broadcastInDim S16384x8 ![0, 1] bcast_S16384x1_S16384x8_0_1 : Arr F S16384x1 → Arr F S16384x8),
    binary main_v22 main_v26 main_v27 (Host.divf : Arr F S16384x8 → Arr F S16384x8 → Arr F S16384x8),
    nullary main_cst_4 (constant S_ .f32 0x3FB504F3#32),
    unary main_cst_4 main_v28 (broadcastInDim S16384x8 ![] bcast_S_S16384x8 : Arr F S_ → Arr F S16384x8),
    binary main_v27 main_v28 main_v29 (mulf : Arr F S16384x8 → Arr F S16384x8 → Arr F S16384x8),
    unary main_arg8 main_v30 (Host.exp : Arr F S_ → Arr F S_),
    nullary main_cst_5 (constant S_ .f32 0x00000000#32),
    unary main_cst_5 main_v31 (broadcastInDim S16384x52 ![] bcast_S_S16384x52 : Arr F S_ → Arr F S16384x52),
    nullary main_cst_6 (constant S_ .f32 0x00000000#32),
    unary main_cst_6 main_v32 (broadcastInDim S16384x4 ![] bcast_S_S16384x4 : Arr F S_ → Arr F S16384x4),
    binary main_arg14 main_arg14 main_v33 (mulf : Arr F S240x8 → Arr F S240x8 → Arr F S240x8),
    nullary main_cst_7 (constant S_ .f32 0x00000000#32),
    binary main_v33 main_cst_7 main_v34 ((fun x v => Host.reduceAdd x v reducesTo_S240x8_S240_d1 h_S_) : Arr F S240x8 → Arr F S_ → Arr F S240),
    unary main_v34 main_v35 (broadcastInDim S1x240 ![1] bcast_S240_S1x240_1 : Arr F S240 → Arr F S1x240) ]))

/-- Level 0: its scale and the squared distances. -/
def ops0A : Ops F :=
  [ nullary main_cst_8 (constant S_ .f32 0x3F800000#32),
    nullary main_cst_9 (constant S_ .f32 0x40000000#32),
    binary main_cst_9 main_cst_8 main_v36 (Host.divf : Arr F S_ → Arr F S_ → Arr F S_),
    unary main_v36 main_v37 (broadcastInDim S16384x8 ![] bcast_S_S16384x8 : Arr F S_ → Arr F S16384x8),
    binary main_v29 main_v37 main_v38 (Host.divf : Arr F S16384x8 → Arr F S16384x8 → Arr F S16384x8),
    binary main_v38 main_v38 main_v39 (mulf : Arr F S16384x8 → Arr F S16384x8 → Arr F S16384x8),
    nullary main_cst_10 (constant S_ .f32 0x00000000#32),
    binary main_v39 main_cst_10 main_v40 ((fun x v => Host.reduceAdd x v reducesTo_S16384x8_S16384_d1 h_S_) : Arr F S16384x8 → Arr F S_ → Arr F S16384),
    unary main_v40 main_v41 (broadcastInDim S16384x1 ![0] bcast_S16384_S16384x1_0 : Arr F S16384 → Arr F S16384x1),
    unary main_v41 main_v42 (broadcastInDim S16384x240 ![0, 1] bcast_S16384x1_S16384x240_0_1 : Arr F S16384x1 → Arr F S16384x240),
    unary main_v35 main_v43 (broadcastInDim S16384x240 ![0, 1] bcast_S1x240_S16384x240_0_1 : Arr F S1x240 → Arr F S16384x240),
    binary main_v42 main_v43 main_v44 (addf : Arr F S16384x240 → Arr F S16384x240 → Arr F S16384x240),
    unary main_arg14 main_v45 ((transpose S8x240 [1, 0] · transposes_S240x8_S8x240_1_0) : Arr F S240x8 → Arr F S8x240),
    binary main_v38 main_v45 main_v46 ((fun l r => Host.dotGeneral dot_S16384x8_S8x240_S16384x240_1_0_0_1_n_n none l r) : Arr F S16384x8 → Arr F S8x240 → Arr F S16384x240),
    nullary main_cst_11 (constant S_ .f32 0x40000000#32),
    unary main_cst_11 main_v47 (broadcastInDim S16384x240 ![] bcast_S_S16384x240 : Arr F S_ → Arr F S16384x240),
    binary main_v47 main_v46 main_v48 (mulf : Arr F S16384x240 → Arr F S16384x240 → Arr F S16384x240),
    binary main_v44 main_v48 main_v49 (subf : Arr F S16384x240 → Arr F S16384x240 → Arr F S16384x240),
    nullary main_cst_12 (constant S_ .f32 0x00000000#32) ] ++
  (clipOps (.of main_v49) (.of main_cst_12) main_call1)

/-- Level 0: the argmin, the attention, and what it adds to the embedding and the control. -/
def ops0B : Ops F :=
  argminOps (.of main_v50) main_call2 ++
  ([ nullary main_cst_13 (constant S_ .f32 0x3F800000#32),
    nullary main_cst_14 (constant S_ .f32 0x3F800000#32),
    binary main_cst_13 main_cst_14 main_v52 (Host.divf : Arr F S_ → Arr F S_ → Arr F S_),
    nullary main_cst_15 (constant S_ .f32 0x3F800000#32),
    binary main_cst_15 main_v52 main_v53 (mulf : Arr F S_ → Arr F S_ → Arr F S_),
    unary main_v50 main_v54 (Host.negf : Arr F S16384x240 → Arr F S16384x240),
    unary main_v53 main_v55 (broadcastInDim S16384x240 ![] bcast_S_S16384x240 : Arr F S_ → Arr F S16384x240),
    binary main_v54 main_v55 main_v56 (Host.divf : Arr F S16384x240 → Arr F S16384x240 → Arr F S16384x240),
    nullary main_cst_16 (constant S_ .f32 0xFF800000#32),
    binary main_v56 main_cst_16 main_v57 ((fun x v => Host.reduce FloatOps.maximumf x v reducesTo_S16384x240_S16384_d1 h_S_) : Arr F S16384x240 → Arr F S_ → Arr F S16384),
    nullary main_cst_17 (constant S_ .f32 0xFF800000#32),
    unary main_cst_17 main_v58 (broadcastInDim S16384 ![] bcast_S_S16384 : Arr F S_ → Arr F S16384),
    binary main_v58 main_v57 main_v59 (maximumf : Arr F S16384 → Arr F S16384 → Arr F S16384),
    unary main_v59 main_v60 (broadcastInDim S16384x1 ![0] bcast_S16384_S16384x1_0 : Arr F S16384 → Arr F S16384x1),
    unary main_v60 main_v61 (broadcastInDim S16384x240 ![0, 1] bcast_S16384x1_S16384x240_0_1 : Arr F S16384x1 → Arr F S16384x240),
    binary main_v56 main_v61 main_v62 (subf : Arr F S16384x240 → Arr F S16384x240 → Arr F S16384x240),
    unary main_v62 main_v63 (Host.exp : Arr F S16384x240 → Arr F S16384x240),
    nullary main_cst_18 (constant S_ .f32 0x00000000#32),
    binary main_v63 main_cst_18 main_v64 ((fun x v => Host.reduceAdd x v reducesTo_S16384x240_S16384_d1 h_S_) : Arr F S16384x240 → Arr F S_ → Arr F S16384),
    unary main_v64 main_v65 (broadcastInDim S16384x1 ![0] bcast_S16384_S16384x1_0 : Arr F S16384 → Arr F S16384x1),
    unary main_v65 main_v66 (broadcastInDim S16384x240 ![0, 1] bcast_S16384x1_S16384x240_0_1 : Arr F S16384x1 → Arr F S16384x240),
    binary main_v63 main_v66 main_v67 (Host.divf : Arr F S16384x240 → Arr F S16384x240 → Arr F S16384x240),
    unary main_arg5 main_v68 ((extractStridedSlice S1x240x52 ![0, 0, 0] · slices_S8x240x52_S1x240x52_0_0_0) : Arr F S8x240x52 → Arr F S1x240x52),
    reshape main_v68 main_v69 (rfl : (.f32 : EltTy) = .f32) shapeCasts_S1x240x52_S240x52,
    binary main_v67 main_v69 main_v70 ((fun l r => Host.dotGeneral dot_S16384x240_S240x52_S16384x52_1_0_0_1_n_n none l r) : Arr F S16384x240 → Arr F S240x52 → Arr F S16384x52),
    unary main_v36 main_v71 (broadcastInDim S16384x52 ![] bcast_S_S16384x52 : Arr F S_ → Arr F S16384x52),
    binary main_v70 main_v71 main_v72 (mulf : Arr F S16384x52 → Arr F S16384x52 → Arr F S16384x52),
    binary main_v31 main_v72 main_v73 (addf : Arr F S16384x52 → Arr F S16384x52 → Arr F S16384x52),
    binary main_v67 main_arg6 main_v74 ((fun l r => Host.dotGeneral dot_S16384x240_S240x4_S16384x4_1_0_0_1_n_n none l r) : Arr F S16384x240 → Arr F S240x4 → Arr F S16384x4),
    binary main_v32 main_v74 main_v75 (addf : Arr F S16384x4 → Arr F S16384x4 → Arr F S16384x4) ])

/-- Level 0: the codeword taken away from the residual. -/
def ops0C : Ops F :=
  takeOps (.of main_arg14) (.of main_v51) main_call3 ++
  ([ unary main_v36 main_v77 (broadcastInDim S16384x8 ![] bcast_S_S16384x8 : Arr F S_ → Arr F S16384x8),
    binary main_v76 main_v77 main_v78 (mulf : Arr F S16384x8 → Arr F S16384x8 → Arr F S16384x8),
    binary main_v29 main_v78 main_v79 (subf : Arr F S16384x8 → Arr F S16384x8 → Arr F S16384x8) ])

/-- Level 1: its scale and the squared distances. -/
def ops1A : Ops F :=
  [ nullary main_cst_19 (constant S_ .f32 0x40000000#32),
    binary main_cst_19 main_v30 main_v80 (Host.divf : Arr F S_ → Arr F S_ → Arr F S_),
    unary main_v80 main_v81 (broadcastInDim S16384x8 ![] bcast_S_S16384x8 : Arr F S_ → Arr F S16384x8),
    binary main_v79 main_v81 main_v82 (Host.divf : Arr F S16384x8 → Arr F S16384x8 → Arr F S16384x8),
    binary main_v82 main_v82 main_v83 (mulf : Arr F S16384x8 → Arr F S16384x8 → Arr F S16384x8),
    nullary main_cst_20 (constant S_ .f32 0x00000000#32),
    binary main_v83 main_cst_20 main_v84 ((fun x v => Host.reduceAdd x v reducesTo_S16384x8_S16384_d1 h_S_) : Arr F S16384x8 → Arr F S_ → Arr F S16384),
    unary main_v84 main_v85 (broadcastInDim S16384x1 ![0] bcast_S16384_S16384x1_0 : Arr F S16384 → Arr F S16384x1),
    unary main_v85 main_v86 (broadcastInDim S16384x240 ![0, 1] bcast_S16384x1_S16384x240_0_1 : Arr F S16384x1 → Arr F S16384x240),
    unary main_v35 main_v87 (broadcastInDim S16384x240 ![0, 1] bcast_S1x240_S16384x240_0_1 : Arr F S1x240 → Arr F S16384x240),
    binary main_v86 main_v87 main_v88 (addf : Arr F S16384x240 → Arr F S16384x240 → Arr F S16384x240),
    unary main_arg14 main_v89 ((transpose S8x240 [1, 0] · transposes_S240x8_S8x240_1_0) : Arr F S240x8 → Arr F S8x240),
    binary main_v82 main_v89 main_v90 ((fun l r => Host.dotGeneral dot_S16384x8_S8x240_S16384x240_1_0_0_1_n_n none l r) : Arr F S16384x8 → Arr F S8x240 → Arr F S16384x240),
    nullary main_cst_21 (constant S_ .f32 0x40000000#32),
    unary main_cst_21 main_v91 (broadcastInDim S16384x240 ![] bcast_S_S16384x240 : Arr F S_ → Arr F S16384x240),
    binary main_v91 main_v90 main_v92 (mulf : Arr F S16384x240 → Arr F S16384x240 → Arr F S16384x240),
    binary main_v88 main_v92 main_v93 (subf : Arr F S16384x240 → Arr F S16384x240 → Arr F S16384x240),
    nullary main_cst_22 (constant S_ .f32 0x00000000#32) ] ++
  (clipOps (.of main_v93) (.of main_cst_22) main_call4)

/-- Level 1: the argmin, the attention, and what it adds to the embedding and the control. -/
def ops1B : Ops F :=
  argminOps (.of main_v94) main_call5 ++
  ([ nullary main_cst_23 (constant S_ .f32 0x40800000#32),
    nullary main_cst_24 (constant S_ .f32 0x40A00000#32),
    binary main_cst_23 main_cst_24 main_v96 (Host.divf : Arr F S_ → Arr F S_ → Arr F S_),
    nullary main_cst_25 (constant S_ .f32 0x3F800000#32),
    binary main_cst_25 main_v96 main_v97 (mulf : Arr F S_ → Arr F S_ → Arr F S_),
    unary main_v94 main_v98 (Host.negf : Arr F S16384x240 → Arr F S16384x240),
    unary main_v97 main_v99 (broadcastInDim S16384x240 ![] bcast_S_S16384x240 : Arr F S_ → Arr F S16384x240),
    binary main_v98 main_v99 main_v100 (Host.divf : Arr F S16384x240 → Arr F S16384x240 → Arr F S16384x240),
    nullary main_cst_26 (constant S_ .f32 0xFF800000#32),
    binary main_v100 main_cst_26 main_v101 ((fun x v => Host.reduce FloatOps.maximumf x v reducesTo_S16384x240_S16384_d1 h_S_) : Arr F S16384x240 → Arr F S_ → Arr F S16384),
    nullary main_cst_27 (constant S_ .f32 0xFF800000#32),
    unary main_cst_27 main_v102 (broadcastInDim S16384 ![] bcast_S_S16384 : Arr F S_ → Arr F S16384),
    binary main_v102 main_v101 main_v103 (maximumf : Arr F S16384 → Arr F S16384 → Arr F S16384),
    unary main_v103 main_v104 (broadcastInDim S16384x1 ![0] bcast_S16384_S16384x1_0 : Arr F S16384 → Arr F S16384x1),
    unary main_v104 main_v105 (broadcastInDim S16384x240 ![0, 1] bcast_S16384x1_S16384x240_0_1 : Arr F S16384x1 → Arr F S16384x240),
    binary main_v100 main_v105 main_v106 (subf : Arr F S16384x240 → Arr F S16384x240 → Arr F S16384x240),
    unary main_v106 main_v107 (Host.exp : Arr F S16384x240 → Arr F S16384x240),
    nullary main_cst_28 (constant S_ .f32 0x00000000#32),
    binary main_v107 main_cst_28 main_v108 ((fun x v => Host.reduceAdd x v reducesTo_S16384x240_S16384_d1 h_S_) : Arr F S16384x240 → Arr F S_ → Arr F S16384),
    unary main_v108 main_v109 (broadcastInDim S16384x1 ![0] bcast_S16384_S16384x1_0 : Arr F S16384 → Arr F S16384x1),
    unary main_v109 main_v110 (broadcastInDim S16384x240 ![0, 1] bcast_S16384x1_S16384x240_0_1 : Arr F S16384x1 → Arr F S16384x240),
    binary main_v107 main_v110 main_v111 (Host.divf : Arr F S16384x240 → Arr F S16384x240 → Arr F S16384x240),
    unary main_arg5 main_v112 ((extractStridedSlice S1x240x52 ![1, 0, 0] · slices_S8x240x52_S1x240x52_1_0_0) : Arr F S8x240x52 → Arr F S1x240x52),
    reshape main_v112 main_v113 (rfl : (.f32 : EltTy) = .f32) shapeCasts_S1x240x52_S240x52,
    binary main_v111 main_v113 main_v114 ((fun l r => Host.dotGeneral dot_S16384x240_S240x52_S16384x52_1_0_0_1_n_n none l r) : Arr F S16384x240 → Arr F S240x52 → Arr F S16384x52),
    unary main_v80 main_v115 (broadcastInDim S16384x52 ![] bcast_S_S16384x52 : Arr F S_ → Arr F S16384x52),
    binary main_v114 main_v115 main_v116 (mulf : Arr F S16384x52 → Arr F S16384x52 → Arr F S16384x52),
    binary main_v73 main_v116 main_v117 (addf : Arr F S16384x52 → Arr F S16384x52 → Arr F S16384x52),
    unary main_arg7 main_v118 ((extractStridedSlice S1x240x4 ![0, 0, 0] · slices_S7x240x4_S1x240x4_0_0_0) : Arr F S7x240x4 → Arr F S1x240x4),
    reshape main_v118 main_v119 (rfl : (.f32 : EltTy) = .f32) shapeCasts_S1x240x4_S240x4,
    binary main_v111 main_v119 main_v120 ((fun l r => Host.dotGeneral dot_S16384x240_S240x4_S16384x4_1_0_0_1_n_n none l r) : Arr F S16384x240 → Arr F S240x4 → Arr F S16384x4),
    unary main_v80 main_v121 (broadcastInDim S16384x4 ![] bcast_S_S16384x4 : Arr F S_ → Arr F S16384x4),
    binary main_v120 main_v121 main_v122 (mulf : Arr F S16384x4 → Arr F S16384x4 → Arr F S16384x4),
    binary main_v75 main_v122 main_v123 (addf : Arr F S16384x4 → Arr F S16384x4 → Arr F S16384x4) ])

/-- Level 1: the codeword taken away from the residual. -/
def ops1C : Ops F :=
  takeOps (.of main_arg14) (.of main_v95) main_call6 ++
  ([ unary main_v80 main_v125 (broadcastInDim S16384x8 ![] bcast_S_S16384x8 : Arr F S_ → Arr F S16384x8),
    binary main_v124 main_v125 main_v126 (mulf : Arr F S16384x8 → Arr F S16384x8 → Arr F S16384x8),
    binary main_v79 main_v126 main_v127 (subf : Arr F S16384x8 → Arr F S16384x8 → Arr F S16384x8) ])

/-- Level 2: its scale and the squared distances. -/
def ops2A : Ops F :=
  [ binary main_v30 main_v30 main_v128 (mulf : Arr F S_ → Arr F S_ → Arr F S_),
    nullary main_cst_29 (constant S_ .f32 0x40000000#32),
    binary main_cst_29 main_v128 main_v129 (Host.divf : Arr F S_ → Arr F S_ → Arr F S_),
    unary main_v129 main_v130 (broadcastInDim S16384x8 ![] bcast_S_S16384x8 : Arr F S_ → Arr F S16384x8),
    binary main_v127 main_v130 main_v131 (Host.divf : Arr F S16384x8 → Arr F S16384x8 → Arr F S16384x8),
    binary main_v131 main_v131 main_v132 (mulf : Arr F S16384x8 → Arr F S16384x8 → Arr F S16384x8),
    nullary main_cst_30 (constant S_ .f32 0x00000000#32),
    binary main_v132 main_cst_30 main_v133 ((fun x v => Host.reduceAdd x v reducesTo_S16384x8_S16384_d1 h_S_) : Arr F S16384x8 → Arr F S_ → Arr F S16384),
    unary main_v133 main_v134 (broadcastInDim S16384x1 ![0] bcast_S16384_S16384x1_0 : Arr F S16384 → Arr F S16384x1),
    unary main_v134 main_v135 (broadcastInDim S16384x240 ![0, 1] bcast_S16384x1_S16384x240_0_1 : Arr F S16384x1 → Arr F S16384x240),
    unary main_v35 main_v136 (broadcastInDim S16384x240 ![0, 1] bcast_S1x240_S16384x240_0_1 : Arr F S1x240 → Arr F S16384x240),
    binary main_v135 main_v136 main_v137 (addf : Arr F S16384x240 → Arr F S16384x240 → Arr F S16384x240),
    unary main_arg14 main_v138 ((transpose S8x240 [1, 0] · transposes_S240x8_S8x240_1_0) : Arr F S240x8 → Arr F S8x240),
    binary main_v131 main_v138 main_v139 ((fun l r => Host.dotGeneral dot_S16384x8_S8x240_S16384x240_1_0_0_1_n_n none l r) : Arr F S16384x8 → Arr F S8x240 → Arr F S16384x240),
    nullary main_cst_31 (constant S_ .f32 0x40000000#32),
    unary main_cst_31 main_v140 (broadcastInDim S16384x240 ![] bcast_S_S16384x240 : Arr F S_ → Arr F S16384x240),
    binary main_v140 main_v139 main_v141 (mulf : Arr F S16384x240 → Arr F S16384x240 → Arr F S16384x240),
    binary main_v137 main_v141 main_v142 (subf : Arr F S16384x240 → Arr F S16384x240 → Arr F S16384x240),
    nullary main_cst_32 (constant S_ .f32 0x00000000#32) ] ++
  (clipOps (.of main_v142) (.of main_cst_32) main_call7)

/-- Level 2: the argmin, the attention, and what it adds to the embedding and the control. -/
def ops2B : Ops F :=
  argminOps (.of main_v143) main_call8 ++
  ([ nullary main_cst_33 (constant S_ .f32 0x41800000#32),
    nullary main_cst_34 (constant S_ .f32 0x41C80000#32),
    binary main_cst_33 main_cst_34 main_v145 (Host.divf : Arr F S_ → Arr F S_ → Arr F S_),
    nullary main_cst_35 (constant S_ .f32 0x3F800000#32),
    binary main_cst_35 main_v145 main_v146 (mulf : Arr F S_ → Arr F S_ → Arr F S_),
    unary main_v143 main_v147 (Host.negf : Arr F S16384x240 → Arr F S16384x240),
    unary main_v146 main_v148 (broadcastInDim S16384x240 ![] bcast_S_S16384x240 : Arr F S_ → Arr F S16384x240),
    binary main_v147 main_v148 main_v149 (Host.divf : Arr F S16384x240 → Arr F S16384x240 → Arr F S16384x240),
    nullary main_cst_36 (constant S_ .f32 0xFF800000#32),
    binary main_v149 main_cst_36 main_v150 ((fun x v => Host.reduce FloatOps.maximumf x v reducesTo_S16384x240_S16384_d1 h_S_) : Arr F S16384x240 → Arr F S_ → Arr F S16384),
    nullary main_cst_37 (constant S_ .f32 0xFF800000#32),
    unary main_cst_37 main_v151 (broadcastInDim S16384 ![] bcast_S_S16384 : Arr F S_ → Arr F S16384),
    binary main_v151 main_v150 main_v152 (maximumf : Arr F S16384 → Arr F S16384 → Arr F S16384),
    unary main_v152 main_v153 (broadcastInDim S16384x1 ![0] bcast_S16384_S16384x1_0 : Arr F S16384 → Arr F S16384x1),
    unary main_v153 main_v154 (broadcastInDim S16384x240 ![0, 1] bcast_S16384x1_S16384x240_0_1 : Arr F S16384x1 → Arr F S16384x240),
    binary main_v149 main_v154 main_v155 (subf : Arr F S16384x240 → Arr F S16384x240 → Arr F S16384x240),
    unary main_v155 main_v156 (Host.exp : Arr F S16384x240 → Arr F S16384x240),
    nullary main_cst_38 (constant S_ .f32 0x00000000#32),
    binary main_v156 main_cst_38 main_v157 ((fun x v => Host.reduceAdd x v reducesTo_S16384x240_S16384_d1 h_S_) : Arr F S16384x240 → Arr F S_ → Arr F S16384),
    unary main_v157 main_v158 (broadcastInDim S16384x1 ![0] bcast_S16384_S16384x1_0 : Arr F S16384 → Arr F S16384x1),
    unary main_v158 main_v159 (broadcastInDim S16384x240 ![0, 1] bcast_S16384x1_S16384x240_0_1 : Arr F S16384x1 → Arr F S16384x240),
    binary main_v156 main_v159 main_v160 (Host.divf : Arr F S16384x240 → Arr F S16384x240 → Arr F S16384x240),
    unary main_arg5 main_v161 ((extractStridedSlice S1x240x52 ![2, 0, 0] · slices_S8x240x52_S1x240x52_2_0_0) : Arr F S8x240x52 → Arr F S1x240x52),
    reshape main_v161 main_v162 (rfl : (.f32 : EltTy) = .f32) shapeCasts_S1x240x52_S240x52,
    binary main_v160 main_v162 main_v163 ((fun l r => Host.dotGeneral dot_S16384x240_S240x52_S16384x52_1_0_0_1_n_n none l r) : Arr F S16384x240 → Arr F S240x52 → Arr F S16384x52),
    unary main_v129 main_v164 (broadcastInDim S16384x52 ![] bcast_S_S16384x52 : Arr F S_ → Arr F S16384x52),
    binary main_v163 main_v164 main_v165 (mulf : Arr F S16384x52 → Arr F S16384x52 → Arr F S16384x52),
    binary main_v117 main_v165 main_v166 (addf : Arr F S16384x52 → Arr F S16384x52 → Arr F S16384x52),
    unary main_arg7 main_v167 ((extractStridedSlice S1x240x4 ![1, 0, 0] · slices_S7x240x4_S1x240x4_1_0_0) : Arr F S7x240x4 → Arr F S1x240x4),
    reshape main_v167 main_v168 (rfl : (.f32 : EltTy) = .f32) shapeCasts_S1x240x4_S240x4,
    binary main_v160 main_v168 main_v169 ((fun l r => Host.dotGeneral dot_S16384x240_S240x4_S16384x4_1_0_0_1_n_n none l r) : Arr F S16384x240 → Arr F S240x4 → Arr F S16384x4),
    unary main_v129 main_v170 (broadcastInDim S16384x4 ![] bcast_S_S16384x4 : Arr F S_ → Arr F S16384x4),
    binary main_v169 main_v170 main_v171 (mulf : Arr F S16384x4 → Arr F S16384x4 → Arr F S16384x4),
    binary main_v123 main_v171 main_v172 (addf : Arr F S16384x4 → Arr F S16384x4 → Arr F S16384x4) ])

/-- Level 2: the codeword taken away from the residual. -/
def ops2C : Ops F :=
  takeOps (.of main_arg14) (.of main_v144) main_call9 ++
  ([ unary main_v129 main_v174 (broadcastInDim S16384x8 ![] bcast_S_S16384x8 : Arr F S_ → Arr F S16384x8),
    binary main_v173 main_v174 main_v175 (mulf : Arr F S16384x8 → Arr F S16384x8 → Arr F S16384x8),
    binary main_v127 main_v175 main_v176 (subf : Arr F S16384x8 → Arr F S16384x8 → Arr F S16384x8) ])

/-- Level 3: its scale and the squared distances. -/
def ops3A : Ops F :=
  [ binary main_v30 main_v30 main_v177 (mulf : Arr F S_ → Arr F S_ → Arr F S_),
    binary main_v177 main_v30 main_v178 (mulf : Arr F S_ → Arr F S_ → Arr F S_),
    nullary main_cst_39 (constant S_ .f32 0x40000000#32),
    binary main_cst_39 main_v178 main_v179 (Host.divf : Arr F S_ → Arr F S_ → Arr F S_),
    unary main_v179 main_v180 (broadcastInDim S16384x8 ![] bcast_S_S16384x8 : Arr F S_ → Arr F S16384x8),
    binary main_v176 main_v180 main_v181 (Host.divf : Arr F S16384x8 → Arr F S16384x8 → Arr F S16384x8),
    binary main_v181 main_v181 main_v182 (mulf : Arr F S16384x8 → Arr F S16384x8 → Arr F S16384x8),
    nullary main_cst_40 (constant S_ .f32 0x00000000#32),
    binary main_v182 main_cst_40 main_v183 ((fun x v => Host.reduceAdd x v reducesTo_S16384x8_S16384_d1 h_S_) : Arr F S16384x8 → Arr F S_ → Arr F S16384),
    unary main_v183 main_v184 (broadcastInDim S16384x1 ![0] bcast_S16384_S16384x1_0 : Arr F S16384 → Arr F S16384x1),
    unary main_v184 main_v185 (broadcastInDim S16384x240 ![0, 1] bcast_S16384x1_S16384x240_0_1 : Arr F S16384x1 → Arr F S16384x240),
    unary main_v35 main_v186 (broadcastInDim S16384x240 ![0, 1] bcast_S1x240_S16384x240_0_1 : Arr F S1x240 → Arr F S16384x240),
    binary main_v185 main_v186 main_v187 (addf : Arr F S16384x240 → Arr F S16384x240 → Arr F S16384x240),
    unary main_arg14 main_v188 ((transpose S8x240 [1, 0] · transposes_S240x8_S8x240_1_0) : Arr F S240x8 → Arr F S8x240),
    binary main_v181 main_v188 main_v189 ((fun l r => Host.dotGeneral dot_S16384x8_S8x240_S16384x240_1_0_0_1_n_n none l r) : Arr F S16384x8 → Arr F S8x240 → Arr F S16384x240),
    nullary main_cst_41 (constant S_ .f32 0x40000000#32),
    unary main_cst_41 main_v190 (broadcastInDim S16384x240 ![] bcast_S_S16384x240 : Arr F S_ → Arr F S16384x240),
    binary main_v190 main_v189 main_v191 (mulf : Arr F S16384x240 → Arr F S16384x240 → Arr F S16384x240),
    binary main_v187 main_v191 main_v192 (subf : Arr F S16384x240 → Arr F S16384x240 → Arr F S16384x240),
    nullary main_cst_42 (constant S_ .f32 0x00000000#32) ] ++
  (clipOps (.of main_v192) (.of main_cst_42) main_call10)

/-- Level 3: the argmin, the attention, and what it adds to the embedding and the control. -/
def ops3B : Ops F :=
  argminOps (.of main_v193) main_call11 ++
  ([ nullary main_cst_43 (constant S_ .f32 0x42800000#32),
    nullary main_cst_44 (constant S_ .f32 0x42FA0000#32),
    binary main_cst_43 main_cst_44 main_v195 (Host.divf : Arr F S_ → Arr F S_ → Arr F S_),
    nullary main_cst_45 (constant S_ .f32 0x3F800000#32),
    binary main_cst_45 main_v195 main_v196 (mulf : Arr F S_ → Arr F S_ → Arr F S_),
    unary main_v193 main_v197 (Host.negf : Arr F S16384x240 → Arr F S16384x240),
    unary main_v196 main_v198 (broadcastInDim S16384x240 ![] bcast_S_S16384x240 : Arr F S_ → Arr F S16384x240),
    binary main_v197 main_v198 main_v199 (Host.divf : Arr F S16384x240 → Arr F S16384x240 → Arr F S16384x240),
    nullary main_cst_46 (constant S_ .f32 0xFF800000#32),
    binary main_v199 main_cst_46 main_v200 ((fun x v => Host.reduce FloatOps.maximumf x v reducesTo_S16384x240_S16384_d1 h_S_) : Arr F S16384x240 → Arr F S_ → Arr F S16384),
    nullary main_cst_47 (constant S_ .f32 0xFF800000#32),
    unary main_cst_47 main_v201 (broadcastInDim S16384 ![] bcast_S_S16384 : Arr F S_ → Arr F S16384),
    binary main_v201 main_v200 main_v202 (maximumf : Arr F S16384 → Arr F S16384 → Arr F S16384),
    unary main_v202 main_v203 (broadcastInDim S16384x1 ![0] bcast_S16384_S16384x1_0 : Arr F S16384 → Arr F S16384x1),
    unary main_v203 main_v204 (broadcastInDim S16384x240 ![0, 1] bcast_S16384x1_S16384x240_0_1 : Arr F S16384x1 → Arr F S16384x240),
    binary main_v199 main_v204 main_v205 (subf : Arr F S16384x240 → Arr F S16384x240 → Arr F S16384x240),
    unary main_v205 main_v206 (Host.exp : Arr F S16384x240 → Arr F S16384x240),
    nullary main_cst_48 (constant S_ .f32 0x00000000#32),
    binary main_v206 main_cst_48 main_v207 ((fun x v => Host.reduceAdd x v reducesTo_S16384x240_S16384_d1 h_S_) : Arr F S16384x240 → Arr F S_ → Arr F S16384),
    unary main_v207 main_v208 (broadcastInDim S16384x1 ![0] bcast_S16384_S16384x1_0 : Arr F S16384 → Arr F S16384x1),
    unary main_v208 main_v209 (broadcastInDim S16384x240 ![0, 1] bcast_S16384x1_S16384x240_0_1 : Arr F S16384x1 → Arr F S16384x240),
    binary main_v206 main_v209 main_v210 (Host.divf : Arr F S16384x240 → Arr F S16384x240 → Arr F S16384x240),
    unary main_arg5 main_v211 ((extractStridedSlice S1x240x52 ![3, 0, 0] · slices_S8x240x52_S1x240x52_3_0_0) : Arr F S8x240x52 → Arr F S1x240x52),
    reshape main_v211 main_v212 (rfl : (.f32 : EltTy) = .f32) shapeCasts_S1x240x52_S240x52,
    binary main_v210 main_v212 main_v213 ((fun l r => Host.dotGeneral dot_S16384x240_S240x52_S16384x52_1_0_0_1_n_n none l r) : Arr F S16384x240 → Arr F S240x52 → Arr F S16384x52),
    unary main_v179 main_v214 (broadcastInDim S16384x52 ![] bcast_S_S16384x52 : Arr F S_ → Arr F S16384x52),
    binary main_v213 main_v214 main_v215 (mulf : Arr F S16384x52 → Arr F S16384x52 → Arr F S16384x52),
    binary main_v166 main_v215 main_v216 (addf : Arr F S16384x52 → Arr F S16384x52 → Arr F S16384x52),
    unary main_arg7 main_v217 ((extractStridedSlice S1x240x4 ![2, 0, 0] · slices_S7x240x4_S1x240x4_2_0_0) : Arr F S7x240x4 → Arr F S1x240x4),
    reshape main_v217 main_v218 (rfl : (.f32 : EltTy) = .f32) shapeCasts_S1x240x4_S240x4,
    binary main_v210 main_v218 main_v219 ((fun l r => Host.dotGeneral dot_S16384x240_S240x4_S16384x4_1_0_0_1_n_n none l r) : Arr F S16384x240 → Arr F S240x4 → Arr F S16384x4),
    unary main_v179 main_v220 (broadcastInDim S16384x4 ![] bcast_S_S16384x4 : Arr F S_ → Arr F S16384x4),
    binary main_v219 main_v220 main_v221 (mulf : Arr F S16384x4 → Arr F S16384x4 → Arr F S16384x4),
    binary main_v172 main_v221 main_v222 (addf : Arr F S16384x4 → Arr F S16384x4 → Arr F S16384x4) ])

/-- Level 3: the codeword taken away from the residual. -/
def ops3C : Ops F :=
  takeOps (.of main_arg14) (.of main_v194) main_call12 ++
  ([ unary main_v179 main_v224 (broadcastInDim S16384x8 ![] bcast_S_S16384x8 : Arr F S_ → Arr F S16384x8),
    binary main_v223 main_v224 main_v225 (mulf : Arr F S16384x8 → Arr F S16384x8 → Arr F S16384x8),
    binary main_v176 main_v225 main_v226 (subf : Arr F S16384x8 → Arr F S16384x8 → Arr F S16384x8) ])

/-- Level 4: its scale and the squared distances. -/
def ops4A : Ops F :=
  [ binary main_v30 main_v30 main_v227 (mulf : Arr F S_ → Arr F S_ → Arr F S_),
    binary main_v227 main_v227 main_v228 (mulf : Arr F S_ → Arr F S_ → Arr F S_),
    nullary main_cst_49 (constant S_ .f32 0x40000000#32),
    binary main_cst_49 main_v228 main_v229 (Host.divf : Arr F S_ → Arr F S_ → Arr F S_),
    unary main_v229 main_v230 (broadcastInDim S16384x8 ![] bcast_S_S16384x8 : Arr F S_ → Arr F S16384x8),
    binary main_v226 main_v230 main_v231 (Host.divf : Arr F S16384x8 → Arr F S16384x8 → Arr F S16384x8),
    binary main_v231 main_v231 main_v232 (mulf : Arr F S16384x8 → Arr F S16384x8 → Arr F S16384x8),
    nullary main_cst_50 (constant S_ .f32 0x00000000#32),
    binary main_v232 main_cst_50 main_v233 ((fun x v => Host.reduceAdd x v reducesTo_S16384x8_S16384_d1 h_S_) : Arr F S16384x8 → Arr F S_ → Arr F S16384),
    unary main_v233 main_v234 (broadcastInDim S16384x1 ![0] bcast_S16384_S16384x1_0 : Arr F S16384 → Arr F S16384x1),
    unary main_v234 main_v235 (broadcastInDim S16384x240 ![0, 1] bcast_S16384x1_S16384x240_0_1 : Arr F S16384x1 → Arr F S16384x240),
    unary main_v35 main_v236 (broadcastInDim S16384x240 ![0, 1] bcast_S1x240_S16384x240_0_1 : Arr F S1x240 → Arr F S16384x240),
    binary main_v235 main_v236 main_v237 (addf : Arr F S16384x240 → Arr F S16384x240 → Arr F S16384x240),
    unary main_arg14 main_v238 ((transpose S8x240 [1, 0] · transposes_S240x8_S8x240_1_0) : Arr F S240x8 → Arr F S8x240),
    binary main_v231 main_v238 main_v239 ((fun l r => Host.dotGeneral dot_S16384x8_S8x240_S16384x240_1_0_0_1_n_n none l r) : Arr F S16384x8 → Arr F S8x240 → Arr F S16384x240),
    nullary main_cst_51 (constant S_ .f32 0x40000000#32),
    unary main_cst_51 main_v240 (broadcastInDim S16384x240 ![] bcast_S_S16384x240 : Arr F S_ → Arr F S16384x240),
    binary main_v240 main_v239 main_v241 (mulf : Arr F S16384x240 → Arr F S16384x240 → Arr F S16384x240),
    binary main_v237 main_v241 main_v242 (subf : Arr F S16384x240 → Arr F S16384x240 → Arr F S16384x240),
    nullary main_cst_52 (constant S_ .f32 0x00000000#32) ] ++
  (clipOps (.of main_v242) (.of main_cst_52) main_call13)

/-- Level 4: the argmin, the attention, and what it adds to the embedding and the control. -/
def ops4B : Ops F :=
  argminOps (.of main_v243) main_call14 ++
  ([ nullary main_cst_53 (constant S_ .f32 0x43800000#32),
    nullary main_cst_54 (constant S_ .f32 0x441C4000#32),
    binary main_cst_53 main_cst_54 main_v245 (Host.divf : Arr F S_ → Arr F S_ → Arr F S_),
    nullary main_cst_55 (constant S_ .f32 0x3F800000#32),
    binary main_cst_55 main_v245 main_v246 (mulf : Arr F S_ → Arr F S_ → Arr F S_),
    unary main_v243 main_v247 (Host.negf : Arr F S16384x240 → Arr F S16384x240),
    unary main_v246 main_v248 (broadcastInDim S16384x240 ![] bcast_S_S16384x240 : Arr F S_ → Arr F S16384x240),
    binary main_v247 main_v248 main_v249 (Host.divf : Arr F S16384x240 → Arr F S16384x240 → Arr F S16384x240),
    nullary main_cst_56 (constant S_ .f32 0xFF800000#32),
    binary main_v249 main_cst_56 main_v250 ((fun x v => Host.reduce FloatOps.maximumf x v reducesTo_S16384x240_S16384_d1 h_S_) : Arr F S16384x240 → Arr F S_ → Arr F S16384),
    nullary main_cst_57 (constant S_ .f32 0xFF800000#32),
    unary main_cst_57 main_v251 (broadcastInDim S16384 ![] bcast_S_S16384 : Arr F S_ → Arr F S16384),
    binary main_v251 main_v250 main_v252 (maximumf : Arr F S16384 → Arr F S16384 → Arr F S16384),
    unary main_v252 main_v253 (broadcastInDim S16384x1 ![0] bcast_S16384_S16384x1_0 : Arr F S16384 → Arr F S16384x1),
    unary main_v253 main_v254 (broadcastInDim S16384x240 ![0, 1] bcast_S16384x1_S16384x240_0_1 : Arr F S16384x1 → Arr F S16384x240),
    binary main_v249 main_v254 main_v255 (subf : Arr F S16384x240 → Arr F S16384x240 → Arr F S16384x240),
    unary main_v255 main_v256 (Host.exp : Arr F S16384x240 → Arr F S16384x240),
    nullary main_cst_58 (constant S_ .f32 0x00000000#32),
    binary main_v256 main_cst_58 main_v257 ((fun x v => Host.reduceAdd x v reducesTo_S16384x240_S16384_d1 h_S_) : Arr F S16384x240 → Arr F S_ → Arr F S16384),
    unary main_v257 main_v258 (broadcastInDim S16384x1 ![0] bcast_S16384_S16384x1_0 : Arr F S16384 → Arr F S16384x1),
    unary main_v258 main_v259 (broadcastInDim S16384x240 ![0, 1] bcast_S16384x1_S16384x240_0_1 : Arr F S16384x1 → Arr F S16384x240),
    binary main_v256 main_v259 main_v260 (Host.divf : Arr F S16384x240 → Arr F S16384x240 → Arr F S16384x240),
    unary main_arg5 main_v261 ((extractStridedSlice S1x240x52 ![4, 0, 0] · slices_S8x240x52_S1x240x52_4_0_0) : Arr F S8x240x52 → Arr F S1x240x52),
    reshape main_v261 main_v262 (rfl : (.f32 : EltTy) = .f32) shapeCasts_S1x240x52_S240x52,
    binary main_v260 main_v262 main_v263 ((fun l r => Host.dotGeneral dot_S16384x240_S240x52_S16384x52_1_0_0_1_n_n none l r) : Arr F S16384x240 → Arr F S240x52 → Arr F S16384x52),
    unary main_v229 main_v264 (broadcastInDim S16384x52 ![] bcast_S_S16384x52 : Arr F S_ → Arr F S16384x52),
    binary main_v263 main_v264 main_v265 (mulf : Arr F S16384x52 → Arr F S16384x52 → Arr F S16384x52),
    binary main_v216 main_v265 main_v266 (addf : Arr F S16384x52 → Arr F S16384x52 → Arr F S16384x52),
    unary main_arg7 main_v267 ((extractStridedSlice S1x240x4 ![3, 0, 0] · slices_S7x240x4_S1x240x4_3_0_0) : Arr F S7x240x4 → Arr F S1x240x4),
    reshape main_v267 main_v268 (rfl : (.f32 : EltTy) = .f32) shapeCasts_S1x240x4_S240x4,
    binary main_v260 main_v268 main_v269 ((fun l r => Host.dotGeneral dot_S16384x240_S240x4_S16384x4_1_0_0_1_n_n none l r) : Arr F S16384x240 → Arr F S240x4 → Arr F S16384x4),
    unary main_v229 main_v270 (broadcastInDim S16384x4 ![] bcast_S_S16384x4 : Arr F S_ → Arr F S16384x4),
    binary main_v269 main_v270 main_v271 (mulf : Arr F S16384x4 → Arr F S16384x4 → Arr F S16384x4),
    binary main_v222 main_v271 main_v272 (addf : Arr F S16384x4 → Arr F S16384x4 → Arr F S16384x4) ])

/-- Level 4: the codeword taken away from the residual. -/
def ops4C : Ops F :=
  takeOps (.of main_arg14) (.of main_v244) main_call15 ++
  ([ unary main_v229 main_v274 (broadcastInDim S16384x8 ![] bcast_S_S16384x8 : Arr F S_ → Arr F S16384x8),
    binary main_v273 main_v274 main_v275 (mulf : Arr F S16384x8 → Arr F S16384x8 → Arr F S16384x8),
    binary main_v226 main_v275 main_v276 (subf : Arr F S16384x8 → Arr F S16384x8 → Arr F S16384x8) ])

/-- Level 5: its scale and the squared distances. -/
def ops5A : Ops F :=
  [ binary main_v30 main_v30 main_v277 (mulf : Arr F S_ → Arr F S_ → Arr F S_),
    binary main_v277 main_v277 main_v278 (mulf : Arr F S_ → Arr F S_ → Arr F S_),
    binary main_v30 main_v278 main_v279 (mulf : Arr F S_ → Arr F S_ → Arr F S_),
    nullary main_cst_59 (constant S_ .f32 0x40000000#32),
    binary main_cst_59 main_v279 main_v280 (Host.divf : Arr F S_ → Arr F S_ → Arr F S_),
    unary main_v280 main_v281 (broadcastInDim S16384x8 ![] bcast_S_S16384x8 : Arr F S_ → Arr F S16384x8),
    binary main_v276 main_v281 main_v282 (Host.divf : Arr F S16384x8 → Arr F S16384x8 → Arr F S16384x8),
    binary main_v282 main_v282 main_v283 (mulf : Arr F S16384x8 → Arr F S16384x8 → Arr F S16384x8),
    nullary main_cst_60 (constant S_ .f32 0x00000000#32),
    binary main_v283 main_cst_60 main_v284 ((fun x v => Host.reduceAdd x v reducesTo_S16384x8_S16384_d1 h_S_) : Arr F S16384x8 → Arr F S_ → Arr F S16384),
    unary main_v284 main_v285 (broadcastInDim S16384x1 ![0] bcast_S16384_S16384x1_0 : Arr F S16384 → Arr F S16384x1),
    unary main_v285 main_v286 (broadcastInDim S16384x240 ![0, 1] bcast_S16384x1_S16384x240_0_1 : Arr F S16384x1 → Arr F S16384x240),
    unary main_v35 main_v287 (broadcastInDim S16384x240 ![0, 1] bcast_S1x240_S16384x240_0_1 : Arr F S1x240 → Arr F S16384x240),
    binary main_v286 main_v287 main_v288 (addf : Arr F S16384x240 → Arr F S16384x240 → Arr F S16384x240),
    unary main_arg14 main_v289 ((transpose S8x240 [1, 0] · transposes_S240x8_S8x240_1_0) : Arr F S240x8 → Arr F S8x240),
    binary main_v282 main_v289 main_v290 ((fun l r => Host.dotGeneral dot_S16384x8_S8x240_S16384x240_1_0_0_1_n_n none l r) : Arr F S16384x8 → Arr F S8x240 → Arr F S16384x240),
    nullary main_cst_61 (constant S_ .f32 0x40000000#32),
    unary main_cst_61 main_v291 (broadcastInDim S16384x240 ![] bcast_S_S16384x240 : Arr F S_ → Arr F S16384x240),
    binary main_v291 main_v290 main_v292 (mulf : Arr F S16384x240 → Arr F S16384x240 → Arr F S16384x240),
    binary main_v288 main_v292 main_v293 (subf : Arr F S16384x240 → Arr F S16384x240 → Arr F S16384x240),
    nullary main_cst_62 (constant S_ .f32 0x00000000#32) ] ++
  (clipOps (.of main_v293) (.of main_cst_62) main_call16)

/-- Level 5: the argmin, the attention, and what it adds to the embedding and the control. -/
def ops5B : Ops F :=
  argminOps (.of main_v294) main_call17 ++
  ([ nullary main_cst_63 (constant S_ .f32 0x44800000#32),
    nullary main_cst_64 (constant S_ .f32 0x45435000#32),
    binary main_cst_63 main_cst_64 main_v296 (Host.divf : Arr F S_ → Arr F S_ → Arr F S_),
    nullary main_cst_65 (constant S_ .f32 0x3F800000#32),
    binary main_cst_65 main_v296 main_v297 (mulf : Arr F S_ → Arr F S_ → Arr F S_),
    unary main_v294 main_v298 (Host.negf : Arr F S16384x240 → Arr F S16384x240),
    unary main_v297 main_v299 (broadcastInDim S16384x240 ![] bcast_S_S16384x240 : Arr F S_ → Arr F S16384x240),
    binary main_v298 main_v299 main_v300 (Host.divf : Arr F S16384x240 → Arr F S16384x240 → Arr F S16384x240),
    nullary main_cst_66 (constant S_ .f32 0xFF800000#32),
    binary main_v300 main_cst_66 main_v301 ((fun x v => Host.reduce FloatOps.maximumf x v reducesTo_S16384x240_S16384_d1 h_S_) : Arr F S16384x240 → Arr F S_ → Arr F S16384),
    nullary main_cst_67 (constant S_ .f32 0xFF800000#32),
    unary main_cst_67 main_v302 (broadcastInDim S16384 ![] bcast_S_S16384 : Arr F S_ → Arr F S16384),
    binary main_v302 main_v301 main_v303 (maximumf : Arr F S16384 → Arr F S16384 → Arr F S16384),
    unary main_v303 main_v304 (broadcastInDim S16384x1 ![0] bcast_S16384_S16384x1_0 : Arr F S16384 → Arr F S16384x1),
    unary main_v304 main_v305 (broadcastInDim S16384x240 ![0, 1] bcast_S16384x1_S16384x240_0_1 : Arr F S16384x1 → Arr F S16384x240),
    binary main_v300 main_v305 main_v306 (subf : Arr F S16384x240 → Arr F S16384x240 → Arr F S16384x240),
    unary main_v306 main_v307 (Host.exp : Arr F S16384x240 → Arr F S16384x240),
    nullary main_cst_68 (constant S_ .f32 0x00000000#32),
    binary main_v307 main_cst_68 main_v308 ((fun x v => Host.reduceAdd x v reducesTo_S16384x240_S16384_d1 h_S_) : Arr F S16384x240 → Arr F S_ → Arr F S16384),
    unary main_v308 main_v309 (broadcastInDim S16384x1 ![0] bcast_S16384_S16384x1_0 : Arr F S16384 → Arr F S16384x1),
    unary main_v309 main_v310 (broadcastInDim S16384x240 ![0, 1] bcast_S16384x1_S16384x240_0_1 : Arr F S16384x1 → Arr F S16384x240),
    binary main_v307 main_v310 main_v311 (Host.divf : Arr F S16384x240 → Arr F S16384x240 → Arr F S16384x240),
    unary main_arg5 main_v312 ((extractStridedSlice S1x240x52 ![5, 0, 0] · slices_S8x240x52_S1x240x52_5_0_0) : Arr F S8x240x52 → Arr F S1x240x52),
    reshape main_v312 main_v313 (rfl : (.f32 : EltTy) = .f32) shapeCasts_S1x240x52_S240x52,
    binary main_v311 main_v313 main_v314 ((fun l r => Host.dotGeneral dot_S16384x240_S240x52_S16384x52_1_0_0_1_n_n none l r) : Arr F S16384x240 → Arr F S240x52 → Arr F S16384x52),
    unary main_v280 main_v315 (broadcastInDim S16384x52 ![] bcast_S_S16384x52 : Arr F S_ → Arr F S16384x52),
    binary main_v314 main_v315 main_v316 (mulf : Arr F S16384x52 → Arr F S16384x52 → Arr F S16384x52),
    binary main_v266 main_v316 main_v317 (addf : Arr F S16384x52 → Arr F S16384x52 → Arr F S16384x52),
    unary main_arg7 main_v318 ((extractStridedSlice S1x240x4 ![4, 0, 0] · slices_S7x240x4_S1x240x4_4_0_0) : Arr F S7x240x4 → Arr F S1x240x4),
    reshape main_v318 main_v319 (rfl : (.f32 : EltTy) = .f32) shapeCasts_S1x240x4_S240x4,
    binary main_v311 main_v319 main_v320 ((fun l r => Host.dotGeneral dot_S16384x240_S240x4_S16384x4_1_0_0_1_n_n none l r) : Arr F S16384x240 → Arr F S240x4 → Arr F S16384x4),
    unary main_v280 main_v321 (broadcastInDim S16384x4 ![] bcast_S_S16384x4 : Arr F S_ → Arr F S16384x4),
    binary main_v320 main_v321 main_v322 (mulf : Arr F S16384x4 → Arr F S16384x4 → Arr F S16384x4),
    binary main_v272 main_v322 main_v323 (addf : Arr F S16384x4 → Arr F S16384x4 → Arr F S16384x4) ])

/-- Level 5: the codeword taken away from the residual. -/
def ops5C : Ops F :=
  takeOps (.of main_arg14) (.of main_v295) main_call18 ++
  ([ unary main_v280 main_v325 (broadcastInDim S16384x8 ![] bcast_S_S16384x8 : Arr F S_ → Arr F S16384x8),
    binary main_v324 main_v325 main_v326 (mulf : Arr F S16384x8 → Arr F S16384x8 → Arr F S16384x8),
    binary main_v276 main_v326 main_v327 (subf : Arr F S16384x8 → Arr F S16384x8 → Arr F S16384x8) ])

/-- Level 6: its scale and the squared distances. -/
def ops6A : Ops F :=
  [ binary main_v30 main_v30 main_v328 (mulf : Arr F S_ → Arr F S_ → Arr F S_),
    binary main_v328 main_v328 main_v329 (mulf : Arr F S_ → Arr F S_ → Arr F S_),
    binary main_v328 main_v329 main_v330 (mulf : Arr F S_ → Arr F S_ → Arr F S_),
    nullary main_cst_69 (constant S_ .f32 0x40000000#32),
    binary main_cst_69 main_v330 main_v331 (Host.divf : Arr F S_ → Arr F S_ → Arr F S_),
    unary main_v331 main_v332 (broadcastInDim S16384x8 ![] bcast_S_S16384x8 : Arr F S_ → Arr F S16384x8),
    binary main_v327 main_v332 main_v333 (Host.divf : Arr F S16384x8 → Arr F S16384x8 → Arr F S16384x8),
    binary main_v333 main_v333 main_v334 (mulf : Arr F S16384x8 → Arr F S16384x8 → Arr F S16384x8),
    nullary main_cst_70 (constant S_ .f32 0x00000000#32),
    binary main_v334 main_cst_70 main_v335 ((fun x v => Host.reduceAdd x v reducesTo_S16384x8_S16384_d1 h_S_) : Arr F S16384x8 → Arr F S_ → Arr F S16384),
    unary main_v335 main_v336 (broadcastInDim S16384x1 ![0] bcast_S16384_S16384x1_0 : Arr F S16384 → Arr F S16384x1),
    unary main_v336 main_v337 (broadcastInDim S16384x240 ![0, 1] bcast_S16384x1_S16384x240_0_1 : Arr F S16384x1 → Arr F S16384x240),
    unary main_v35 main_v338 (broadcastInDim S16384x240 ![0, 1] bcast_S1x240_S16384x240_0_1 : Arr F S1x240 → Arr F S16384x240),
    binary main_v337 main_v338 main_v339 (addf : Arr F S16384x240 → Arr F S16384x240 → Arr F S16384x240),
    unary main_arg14 main_v340 ((transpose S8x240 [1, 0] · transposes_S240x8_S8x240_1_0) : Arr F S240x8 → Arr F S8x240),
    binary main_v333 main_v340 main_v341 ((fun l r => Host.dotGeneral dot_S16384x8_S8x240_S16384x240_1_0_0_1_n_n none l r) : Arr F S16384x8 → Arr F S8x240 → Arr F S16384x240),
    nullary main_cst_71 (constant S_ .f32 0x40000000#32),
    unary main_cst_71 main_v342 (broadcastInDim S16384x240 ![] bcast_S_S16384x240 : Arr F S_ → Arr F S16384x240),
    binary main_v342 main_v341 main_v343 (mulf : Arr F S16384x240 → Arr F S16384x240 → Arr F S16384x240),
    binary main_v339 main_v343 main_v344 (subf : Arr F S16384x240 → Arr F S16384x240 → Arr F S16384x240),
    nullary main_cst_72 (constant S_ .f32 0x00000000#32) ] ++
  (clipOps (.of main_v344) (.of main_cst_72) main_call19)

/-- Level 6: the argmin, the attention, and what it adds to the embedding and the control. -/
def ops6B : Ops F :=
  argminOps (.of main_v345) main_call20 ++
  ([ nullary main_cst_73 (constant S_ .f32 0x45800000#32),
    nullary main_cst_74 (constant S_ .f32 0x46742400#32),
    binary main_cst_73 main_cst_74 main_v347 (Host.divf : Arr F S_ → Arr F S_ → Arr F S_),
    nullary main_cst_75 (constant S_ .f32 0x3F800000#32),
    binary main_cst_75 main_v347 main_v348 (mulf : Arr F S_ → Arr F S_ → Arr F S_),
    unary main_v345 main_v349 (Host.negf : Arr F S16384x240 → Arr F S16384x240),
    unary main_v348 main_v350 (broadcastInDim S16384x240 ![] bcast_S_S16384x240 : Arr F S_ → Arr F S16384x240),
    binary main_v349 main_v350 main_v351 (Host.divf : Arr F S16384x240 → Arr F S16384x240 → Arr F S16384x240),
    nullary main_cst_76 (constant S_ .f32 0xFF800000#32),
    binary main_v351 main_cst_76 main_v352 ((fun x v => Host.reduce FloatOps.maximumf x v reducesTo_S16384x240_S16384_d1 h_S_) : Arr F S16384x240 → Arr F S_ → Arr F S16384),
    nullary main_cst_77 (constant S_ .f32 0xFF800000#32),
    unary main_cst_77 main_v353 (broadcastInDim S16384 ![] bcast_S_S16384 : Arr F S_ → Arr F S16384),
    binary main_v353 main_v352 main_v354 (maximumf : Arr F S16384 → Arr F S16384 → Arr F S16384),
    unary main_v354 main_v355 (broadcastInDim S16384x1 ![0] bcast_S16384_S16384x1_0 : Arr F S16384 → Arr F S16384x1),
    unary main_v355 main_v356 (broadcastInDim S16384x240 ![0, 1] bcast_S16384x1_S16384x240_0_1 : Arr F S16384x1 → Arr F S16384x240),
    binary main_v351 main_v356 main_v357 (subf : Arr F S16384x240 → Arr F S16384x240 → Arr F S16384x240),
    unary main_v357 main_v358 (Host.exp : Arr F S16384x240 → Arr F S16384x240),
    nullary main_cst_78 (constant S_ .f32 0x00000000#32),
    binary main_v358 main_cst_78 main_v359 ((fun x v => Host.reduceAdd x v reducesTo_S16384x240_S16384_d1 h_S_) : Arr F S16384x240 → Arr F S_ → Arr F S16384),
    unary main_v359 main_v360 (broadcastInDim S16384x1 ![0] bcast_S16384_S16384x1_0 : Arr F S16384 → Arr F S16384x1),
    unary main_v360 main_v361 (broadcastInDim S16384x240 ![0, 1] bcast_S16384x1_S16384x240_0_1 : Arr F S16384x1 → Arr F S16384x240),
    binary main_v358 main_v361 main_v362 (Host.divf : Arr F S16384x240 → Arr F S16384x240 → Arr F S16384x240),
    unary main_arg5 main_v363 ((extractStridedSlice S1x240x52 ![6, 0, 0] · slices_S8x240x52_S1x240x52_6_0_0) : Arr F S8x240x52 → Arr F S1x240x52),
    reshape main_v363 main_v364 (rfl : (.f32 : EltTy) = .f32) shapeCasts_S1x240x52_S240x52,
    binary main_v362 main_v364 main_v365 ((fun l r => Host.dotGeneral dot_S16384x240_S240x52_S16384x52_1_0_0_1_n_n none l r) : Arr F S16384x240 → Arr F S240x52 → Arr F S16384x52),
    unary main_v331 main_v366 (broadcastInDim S16384x52 ![] bcast_S_S16384x52 : Arr F S_ → Arr F S16384x52),
    binary main_v365 main_v366 main_v367 (mulf : Arr F S16384x52 → Arr F S16384x52 → Arr F S16384x52),
    binary main_v317 main_v367 main_v368 (addf : Arr F S16384x52 → Arr F S16384x52 → Arr F S16384x52),
    unary main_arg7 main_v369 ((extractStridedSlice S1x240x4 ![5, 0, 0] · slices_S7x240x4_S1x240x4_5_0_0) : Arr F S7x240x4 → Arr F S1x240x4),
    reshape main_v369 main_v370 (rfl : (.f32 : EltTy) = .f32) shapeCasts_S1x240x4_S240x4,
    binary main_v362 main_v370 main_v371 ((fun l r => Host.dotGeneral dot_S16384x240_S240x4_S16384x4_1_0_0_1_n_n none l r) : Arr F S16384x240 → Arr F S240x4 → Arr F S16384x4),
    unary main_v331 main_v372 (broadcastInDim S16384x4 ![] bcast_S_S16384x4 : Arr F S_ → Arr F S16384x4),
    binary main_v371 main_v372 main_v373 (mulf : Arr F S16384x4 → Arr F S16384x4 → Arr F S16384x4),
    binary main_v323 main_v373 main_v374 (addf : Arr F S16384x4 → Arr F S16384x4 → Arr F S16384x4) ])

/-- Level 6: the codeword taken away from the residual. -/
def ops6C : Ops F :=
  takeOps (.of main_arg14) (.of main_v346) main_call21 ++
  ([ unary main_v331 main_v376 (broadcastInDim S16384x8 ![] bcast_S_S16384x8 : Arr F S_ → Arr F S16384x8),
    binary main_v375 main_v376 main_v377 (mulf : Arr F S16384x8 → Arr F S16384x8 → Arr F S16384x8),
    binary main_v327 main_v377 main_v378 (subf : Arr F S16384x8 → Arr F S16384x8 → Arr F S16384x8) ])

/-- Level 7: its scale and the squared distances. -/
def ops7A : Ops F :=
  [ binary main_v30 main_v30 main_v379 (mulf : Arr F S_ → Arr F S_ → Arr F S_),
    binary main_v30 main_v379 main_v380 (mulf : Arr F S_ → Arr F S_ → Arr F S_),
    binary main_v379 main_v379 main_v381 (mulf : Arr F S_ → Arr F S_ → Arr F S_),
    binary main_v380 main_v381 main_v382 (mulf : Arr F S_ → Arr F S_ → Arr F S_),
    nullary main_cst_79 (constant S_ .f32 0x40000000#32),
    binary main_cst_79 main_v382 main_v383 (Host.divf : Arr F S_ → Arr F S_ → Arr F S_),
    unary main_v383 main_v384 (broadcastInDim S16384x8 ![] bcast_S_S16384x8 : Arr F S_ → Arr F S16384x8),
    binary main_v378 main_v384 main_v385 (Host.divf : Arr F S16384x8 → Arr F S16384x8 → Arr F S16384x8),
    binary main_v385 main_v385 main_v386 (mulf : Arr F S16384x8 → Arr F S16384x8 → Arr F S16384x8),
    nullary main_cst_80 (constant S_ .f32 0x00000000#32),
    binary main_v386 main_cst_80 main_v387 ((fun x v => Host.reduceAdd x v reducesTo_S16384x8_S16384_d1 h_S_) : Arr F S16384x8 → Arr F S_ → Arr F S16384),
    unary main_v387 main_v388 (broadcastInDim S16384x1 ![0] bcast_S16384_S16384x1_0 : Arr F S16384 → Arr F S16384x1),
    unary main_v388 main_v389 (broadcastInDim S16384x240 ![0, 1] bcast_S16384x1_S16384x240_0_1 : Arr F S16384x1 → Arr F S16384x240),
    unary main_v35 main_v390 (broadcastInDim S16384x240 ![0, 1] bcast_S1x240_S16384x240_0_1 : Arr F S1x240 → Arr F S16384x240),
    binary main_v389 main_v390 main_v391 (addf : Arr F S16384x240 → Arr F S16384x240 → Arr F S16384x240),
    unary main_arg14 main_v392 ((transpose S8x240 [1, 0] · transposes_S240x8_S8x240_1_0) : Arr F S240x8 → Arr F S8x240),
    binary main_v385 main_v392 main_v393 ((fun l r => Host.dotGeneral dot_S16384x8_S8x240_S16384x240_1_0_0_1_n_n none l r) : Arr F S16384x8 → Arr F S8x240 → Arr F S16384x240),
    nullary main_cst_81 (constant S_ .f32 0x40000000#32),
    unary main_cst_81 main_v394 (broadcastInDim S16384x240 ![] bcast_S_S16384x240 : Arr F S_ → Arr F S16384x240),
    binary main_v394 main_v393 main_v395 (mulf : Arr F S16384x240 → Arr F S16384x240 → Arr F S16384x240),
    binary main_v391 main_v395 main_v396 (subf : Arr F S16384x240 → Arr F S16384x240 → Arr F S16384x240),
    nullary main_cst_82 (constant S_ .f32 0x00000000#32) ] ++
  (clipOps (.of main_v396) (.of main_cst_82) main_call22)

/-- Level 7: the argmin, the attention, and what it adds to the embedding and the control. -/
def ops7B : Ops F :=
  argminOps (.of main_v397) main_call23 ++
  ([ nullary main_cst_83 (constant S_ .f32 0x46800000#32),
    nullary main_cst_84 (constant S_ .f32 0x47989680#32),
    binary main_cst_83 main_cst_84 main_v399 (Host.divf : Arr F S_ → Arr F S_ → Arr F S_),
    nullary main_cst_85 (constant S_ .f32 0x3F800000#32),
    binary main_cst_85 main_v399 main_v400 (mulf : Arr F S_ → Arr F S_ → Arr F S_),
    unary main_v397 main_v401 (Host.negf : Arr F S16384x240 → Arr F S16384x240),
    unary main_v400 main_v402 (broadcastInDim S16384x240 ![] bcast_S_S16384x240 : Arr F S_ → Arr F S16384x240),
    binary main_v401 main_v402 main_v403 (Host.divf : Arr F S16384x240 → Arr F S16384x240 → Arr F S16384x240),
    nullary main_cst_86 (constant S_ .f32 0xFF800000#32),
    binary main_v403 main_cst_86 main_v404 ((fun x v => Host.reduce FloatOps.maximumf x v reducesTo_S16384x240_S16384_d1 h_S_) : Arr F S16384x240 → Arr F S_ → Arr F S16384),
    nullary main_cst_87 (constant S_ .f32 0xFF800000#32),
    unary main_cst_87 main_v405 (broadcastInDim S16384 ![] bcast_S_S16384 : Arr F S_ → Arr F S16384),
    binary main_v405 main_v404 main_v406 (maximumf : Arr F S16384 → Arr F S16384 → Arr F S16384),
    unary main_v406 main_v407 (broadcastInDim S16384x1 ![0] bcast_S16384_S16384x1_0 : Arr F S16384 → Arr F S16384x1),
    unary main_v407 main_v408 (broadcastInDim S16384x240 ![0, 1] bcast_S16384x1_S16384x240_0_1 : Arr F S16384x1 → Arr F S16384x240),
    binary main_v403 main_v408 main_v409 (subf : Arr F S16384x240 → Arr F S16384x240 → Arr F S16384x240),
    unary main_v409 main_v410 (Host.exp : Arr F S16384x240 → Arr F S16384x240),
    nullary main_cst_88 (constant S_ .f32 0x00000000#32),
    binary main_v410 main_cst_88 main_v411 ((fun x v => Host.reduceAdd x v reducesTo_S16384x240_S16384_d1 h_S_) : Arr F S16384x240 → Arr F S_ → Arr F S16384),
    unary main_v411 main_v412 (broadcastInDim S16384x1 ![0] bcast_S16384_S16384x1_0 : Arr F S16384 → Arr F S16384x1),
    unary main_v412 main_v413 (broadcastInDim S16384x240 ![0, 1] bcast_S16384x1_S16384x240_0_1 : Arr F S16384x1 → Arr F S16384x240),
    binary main_v410 main_v413 main_v414 (Host.divf : Arr F S16384x240 → Arr F S16384x240 → Arr F S16384x240),
    unary main_arg5 main_v415 ((extractStridedSlice S1x240x52 ![7, 0, 0] · slices_S8x240x52_S1x240x52_7_0_0) : Arr F S8x240x52 → Arr F S1x240x52),
    reshape main_v415 main_v416 (rfl : (.f32 : EltTy) = .f32) shapeCasts_S1x240x52_S240x52,
    binary main_v414 main_v416 main_v417 ((fun l r => Host.dotGeneral dot_S16384x240_S240x52_S16384x52_1_0_0_1_n_n none l r) : Arr F S16384x240 → Arr F S240x52 → Arr F S16384x52),
    unary main_v383 main_v418 (broadcastInDim S16384x52 ![] bcast_S_S16384x52 : Arr F S_ → Arr F S16384x52),
    binary main_v417 main_v418 main_v419 (mulf : Arr F S16384x52 → Arr F S16384x52 → Arr F S16384x52),
    binary main_v368 main_v419 main_v420 (addf : Arr F S16384x52 → Arr F S16384x52 → Arr F S16384x52),
    unary main_arg7 main_v421 ((extractStridedSlice S1x240x4 ![6, 0, 0] · slices_S7x240x4_S1x240x4_6_0_0) : Arr F S7x240x4 → Arr F S1x240x4),
    reshape main_v421 main_v422 (rfl : (.f32 : EltTy) = .f32) shapeCasts_S1x240x4_S240x4,
    binary main_v414 main_v422 main_v423 ((fun l r => Host.dotGeneral dot_S16384x240_S240x4_S16384x4_1_0_0_1_n_n none l r) : Arr F S16384x240 → Arr F S240x4 → Arr F S16384x4),
    unary main_v383 main_v424 (broadcastInDim S16384x4 ![] bcast_S_S16384x4 : Arr F S_ → Arr F S16384x4),
    binary main_v423 main_v424 main_v425 (mulf : Arr F S16384x4 → Arr F S16384x4 → Arr F S16384x4),
    binary main_v374 main_v425 main_v426 (addf : Arr F S16384x4 → Arr F S16384x4 → Arr F S16384x4) ])

/-- Level 7: the codeword taken away from the residual. -/
def ops7C : Ops F :=
  takeOps (.of main_arg14) (.of main_v398) main_call24 ++
  ([ unary main_v383 main_v428 (broadcastInDim S16384x8 ![] bcast_S_S16384x8 : Arr F S_ → Arr F S16384x8),
    binary main_v427 main_v428 main_v429 (mulf : Arr F S16384x8 → Arr F S16384x8 → Arr F S16384x8),
    binary main_v378 main_v429 main_v430 (subf : Arr F S16384x8 → Arr F S16384x8 → Arr F S16384x8) ])

/-- The operations after the levels: the refinement of the embedding. -/
def opsEnd : Ops F :=
  [ unary main_arg9 main_v431 ((transpose S52x52 [1, 0] · transposes_S52x52_S52x52_1_0) : Arr F S52x52 → Arr F S52x52),
    binary main_v420 main_v431 main_v432 ((fun l r => Host.dotGeneral dot_S16384x52_S52x52_S16384x52_1_0_0_1_n_n none l r) : Arr F S16384x52 → Arr F S52x52 → Arr F S16384x52),
    unary main_arg10 main_v433 (broadcastInDim S1x52 ![1] bcast_S52_S1x52_1 : Arr F S52 → Arr F S1x52),
    unary main_v433 main_v434 (broadcastInDim S16384x52 ![0, 1] bcast_S1x52_S16384x52_0_1 : Arr F S1x52 → Arr F S16384x52),
    binary main_v432 main_v434 main_v435 (addf : Arr F S16384x52 → Arr F S16384x52 → Arr F S16384x52),
    binary main_v435 main_v435 main_v436 (mulf : Arr F S16384x52 → Arr F S16384x52 → Arr F S16384x52),
    binary main_v436 main_v435 main_v437 (mulf : Arr F S16384x52 → Arr F S16384x52 → Arr F S16384x52),
    nullary main_cst_89 (constant S_ .f32 0x3D372713#32),
    unary main_cst_89 main_v438 (broadcastInDim S16384x52 ![] bcast_S_S16384x52 : Arr F S_ → Arr F S16384x52),
    binary main_v438 main_v437 main_v439 (mulf : Arr F S16384x52 → Arr F S16384x52 → Arr F S16384x52),
    binary main_v435 main_v439 main_v440 (addf : Arr F S16384x52 → Arr F S16384x52 → Arr F S16384x52),
    nullary main_cst_90 (constant S_ .f32 0x3F4C422A#32),
    unary main_cst_90 main_v441 (broadcastInDim S16384x52 ![] bcast_S_S16384x52 : Arr F S_ → Arr F S16384x52),
    binary main_v441 main_v440 main_v442 (mulf : Arr F S16384x52 → Arr F S16384x52 → Arr F S16384x52),
    unary main_v442 main_v443 (Host.tanh : Arr F S16384x52 → Arr F S16384x52),
    nullary main_cst_91 (constant S_ .f32 0x3F800000#32),
    unary main_cst_91 main_v444 (broadcastInDim S16384x52 ![] bcast_S_S16384x52 : Arr F S_ → Arr F S16384x52),
    binary main_v444 main_v443 main_v445 (addf : Arr F S16384x52 → Arr F S16384x52 → Arr F S16384x52),
    nullary main_cst_92 (constant S_ .f32 0x3F000000#32),
    unary main_cst_92 main_v446 (broadcastInDim S16384x52 ![] bcast_S_S16384x52 : Arr F S_ → Arr F S16384x52),
    binary main_v446 main_v445 main_v447 (mulf : Arr F S16384x52 → Arr F S16384x52 → Arr F S16384x52),
    binary main_v435 main_v447 main_v448 (mulf : Arr F S16384x52 → Arr F S16384x52 → Arr F S16384x52),
    unary main_arg11 main_v449 ((transpose S52x52 [1, 0] · transposes_S52x52_S52x52_1_0) : Arr F S52x52 → Arr F S52x52),
    binary main_v448 main_v449 main_v450 ((fun l r => Host.dotGeneral dot_S16384x52_S52x52_S16384x52_1_0_0_1_n_n none l r) : Arr F S16384x52 → Arr F S52x52 → Arr F S16384x52),
    unary main_arg12 main_v451 (broadcastInDim S1x52 ![1] bcast_S52_S1x52_1 : Arr F S52 → Arr F S1x52),
    unary main_v451 main_v452 (broadcastInDim S16384x52 ![0, 1] bcast_S1x52_S16384x52_0_1 : Arr F S1x52 → Arr F S16384x52),
    binary main_v450 main_v452 main_v453 (addf : Arr F S16384x52 → Arr F S16384x52 → Arr F S16384x52),
    unary main_arg13 main_v454 (broadcastInDim S16384x52 ![] bcast_S_S16384x52 : Arr F S_ → Arr F S16384x52),
    binary main_v454 main_v453 main_v455 (mulf : Arr F S16384x52 → Arr F S16384x52 → Arr F S16384x52),
    binary main_v420 main_v455 main_v456 (addf : Arr F S16384x52 → Arr F S16384x52 → Arr F S16384x52) ]

/-- All the reference's operations, in order. -/
def ops : Ops F :=
  opsPre ++ (ops0A ++ (ops0B ++ (ops0C ++ (ops1A ++ (ops1B ++ (ops1C ++ (ops2A ++ (ops2B ++ (ops2C ++ (ops3A ++ (ops3B ++ (ops3C ++ (ops4A ++ (ops4B ++ (ops4C ++ (ops5A ++ (ops5B ++ (ops5C ++ (ops6A ++ (ops6B ++ (ops6C ++ (ops7A ++ (ops7B ++ (ops7C ++ (opsEnd)))))))))))))))))))))))))

set_option maxRecDepth 16384 in
set_option maxHeartbeats 2000000 in
/-- One stretch of the program runs its own operations. -/
theorem part0_eq (c : Dev nD) :
    main_part0 (F := F) c = seq ((opsPre (F := F)) ++ (((ops0A (F := F)).take 15))) := rfl

set_option maxRecDepth 16384 in
set_option maxHeartbeats 2000000 in
/-- One stretch of the program runs its own operations. -/
theorem part1_eq (c : Dev nD) :
    main_part1 (F := F) c = seq (((ops0A (F := F)).drop 15) ++ ((ops0B (F := F)) ++ ((ops0C (F := F)) ++ ((ops1A (F := F)) ++ (((ops1B (F := F)).take 5)))))) := rfl

set_option maxRecDepth 16384 in
set_option maxHeartbeats 2000000 in
/-- One stretch of the program runs its own operations. -/
theorem part2_eq (c : Dev nD) :
    main_part2 (F := F) c = seq (((ops1B (F := F)).drop 5) ++ ((ops1C (F := F)) ++ ((ops2A (F := F)) ++ (((ops2B (F := F)).take 6))))) := rfl

set_option maxRecDepth 16384 in
set_option maxHeartbeats 2000000 in
/-- One stretch of the program runs its own operations. -/
theorem part3_eq (c : Dev nD) :
    main_part3 (F := F) c = seq (((ops2B (F := F)).drop 6) ++ ((ops2C (F := F)) ++ ((ops3A (F := F)) ++ (((ops3B (F := F)).take 6))))) := rfl

set_option maxRecDepth 16384 in
set_option maxHeartbeats 2000000 in
/-- One stretch of the program runs its own operations. -/
theorem part4_eq (c : Dev nD) :
    main_part4 (F := F) c = seq (((ops3B (F := F)).drop 6) ++ ((ops3C (F := F)) ++ ((ops4A (F := F)) ++ (((ops4B (F := F)).take 6))))) := rfl

set_option maxRecDepth 16384 in
set_option maxHeartbeats 2000000 in
/-- One stretch of the program runs its own operations. -/
theorem part5_eq (c : Dev nD) :
    main_part5 (F := F) c = seq (((ops4B (F := F)).drop 6) ++ ((ops4C (F := F)) ++ ((ops5A (F := F)) ++ (((ops5B (F := F)).take 5))))) := rfl

set_option maxRecDepth 16384 in
set_option maxHeartbeats 2000000 in
/-- One stretch of the program runs its own operations. -/
theorem part6_eq (c : Dev nD) :
    main_part6 (F := F) c = seq (((ops5B (F := F)).drop 5) ++ ((ops5C (F := F)) ++ ((ops6A (F := F))))) := rfl

set_option maxRecDepth 16384 in
set_option maxHeartbeats 2000000 in
/-- One stretch of the program runs its own operations. -/
theorem part7_eq (c : Dev nD) :
    main_part7 (F := F) c = seq ((ops6B (F := F)) ++ ((ops6C (F := F)) ++ (((ops7A (F := F)).take 21)))) := rfl

set_option maxRecDepth 16384 in
set_option maxHeartbeats 2000000 in
/-- One stretch of the program runs its own operations. -/
theorem part8_eq (c : Dev nD) :
    main_part8 (F := F) c = seq (((ops7A (F := F)).drop 21) ++ ((ops7B (F := F)) ++ ((ops7C (F := F)) ++ (((opsEnd (F := F)).take 19))))) := rfl

set_option maxRecDepth 16384 in
set_option maxHeartbeats 2000000 in
/-- One stretch of the program runs its own operations. -/
theorem part9_eq (c : Dev nD) :
    main_part9 (F := F) c = seq (((opsEnd (F := F)).drop 19)) := rfl

end Cert.Rcpl.Ref

end
-- ==== Proof.RefRun.lean ====
/- The reference's run: every weakly fair execution ends with the buffers as the list of operations
   leaves them. -/
module

public import proofs.«01_k».proof.Proof.RefOps

@[expose] public section

noncomputable section

namespace Cert.Rcpl.Ref

open Cert.ReferenceIdeal Cert.ReferenceIdeal.Gen Idealize.ShloMosaic Idealize.ShloMosaic.TcCoe
  Idealize.SL.Sem Idealize.ShloMosaic.StableHlo

variable {F : FTy → Type} [FloatOps F]

/-- The first `n` operations and then the others are all of them, before any further list. -/
theorem take_drop_append {α : Type} (n : ℕ) (X r : List α) : X.take n ++ (X.drop n ++ r) = X ++ r := by
  rw [← List.append_assoc, List.take_append_drop]

set_option maxRecDepth 16384 in
set_option maxHeartbeats 2000000 in
/-- The program runs its operations in order. -/
theorem main_eq (c : Dev nD) : main (F := F) c = seq ops := by
  have h : main (F := F) c = (do
      main_part0 c; main_part1 c; main_part2 c; main_part3 c; main_part4 c
      main_part5 c; main_part6 c; main_part7 c; main_part8 c; main_part9 c) := rfl
  rw [h, part0_eq, part1_eq, part2_eq, part3_eq, part4_eq, part5_eq, part6_eq, part7_eq, part8_eq, part9_eq]
  simp only [← seq_append, List.append_assoc, take_drop_append, List.take_append_drop]
  rfl

/-- The buffers of an operation are all buffers of the device. -/
def OnDevice (l : Ops F) : Prop := l.Forall fun op => op.bufs ⊆ tcRefs τ sig

/-- The buffers a call of `norm` writes. -/
abbrev normWrites (φ : fn_norm.Bufs) : List (Ref sig .tc) :=
  [φ.v0.ref, φ.cst.ref, φ.v1.ref, φ.v2.ref, φ.v3.ref]

/-- The buffers a call of `clip` writes. -/
abbrev clipWrites (φ : fn_clip.Bufs) : List (Ref sig .tc) :=
  [φ.v0.ref, φ.v1.ref, φ.v2.ref]

/-- The buffers a call of `argmin` writes. -/
abbrev argminWrites (φ : fn_argmin.Bufs) : List (Ref sig .tc) :=
  [φ.v0.ref, φ.cst.ref, φ.c.ref, φ.v1_0.ref, φ.v1_1.ref]

/-- The buffers a call of `take` writes. -/
abbrev takeWrites (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

/-- The buffers written by `opsPre`. -/
abbrev opsPre_W : List (Ref sig .tc) :=
  [main_v0, main_v1, main_v2, main_v3, main_v4, main_v5, main_v6, main_cst, main_v7, main_v8, main_v9, main_cst_0, main_v10, main_v11, main_v12, main_cst_1, main_v13, main_v14, main_cst_2, main_v15, main_v16, main_v17, main_v18, main_v19, main_v20, main_v21, main_v22] ++ normWrites main_call0 ++ [main_cst_3, main_v24, main_v25, main_v26, main_v27, main_cst_4, main_v28, main_v29, main_v30, main_cst_5, main_v31, main_cst_6, main_v32, main_v33, main_cst_7, main_v34, main_v35]

set_option maxRecDepth 16384 in
/-- `opsPre` writes those. -/
theorem opsPre_writes : (opsPre : Ops F).Forall fun op => op.writes ⊆ (opsPre_W.map (Proc.devRef (τ := τ) .tc)).toFinset :=
  forall_writes_sub_of_map rfl

/-- `opsPre` allocates nothing. -/
theorem opsPre_fresh : (opsPre : Ops F).Forall fun op => op.fresh = ∅ := forall_fresh_of_map rfl

/-- The buffers written by `ops0A`. -/
abbrev ops0A_W : List (Ref sig .tc) :=
  [main_cst_8, main_cst_9, main_v36, main_v37, main_v38, main_v39, main_cst_10, main_v40, main_v41, main_v42, main_v43, main_v44, main_v45, main_v46, main_cst_11, main_v47, main_v48, main_v49, main_cst_12] ++ clipWrites main_call1

set_option maxRecDepth 16384 in
/-- `ops0A` writes those. -/
theorem ops0A_writes : (ops0A : Ops F).Forall fun op => op.writes ⊆ (ops0A_W.map (Proc.devRef (τ := τ) .tc)).toFinset :=
  forall_writes_sub_of_map rfl

/-- `ops0A` allocates nothing. -/
theorem ops0A_fresh : (ops0A : Ops F).Forall fun op => op.fresh = ∅ := forall_fresh_of_map rfl

/-- The buffers written by `ops0B`. -/
abbrev ops0B_W : List (Ref sig .tc) :=
  argminWrites main_call2 ++ [main_cst_13, main_cst_14, main_v52, main_cst_15, main_v53, main_v54, main_v55, main_v56, main_cst_16, main_v57, main_cst_17, main_v58, main_v59, main_v60, main_v61, main_v62, main_v63, main_cst_18, main_v64, main_v65, main_v66, main_v67, main_v68, main_v69, main_v70, main_v71, main_v72, main_v73, main_v74, main_v75]

set_option maxRecDepth 16384 in
/-- `ops0B` writes those. -/
theorem ops0B_writes : (ops0B : Ops F).Forall fun op => op.writes ⊆ (ops0B_W.map (Proc.devRef (τ := τ) .tc)).toFinset :=
  forall_writes_sub_of_map rfl

/-- `ops0B` allocates nothing. -/
theorem ops0B_fresh : (ops0B : Ops F).Forall fun op => op.fresh = ∅ := forall_fresh_of_map rfl

/-- The buffers written by `ops0C`. -/
abbrev ops0C_W : List (Ref sig .tc) :=
  takeWrites main_call3 ++ [main_v77, main_v78, main_v79]

set_option maxRecDepth 16384 in
/-- `ops0C` writes those. -/
theorem ops0C_writes : (ops0C : Ops F).Forall fun op => op.writes ⊆ (ops0C_W.map (Proc.devRef (τ := τ) .tc)).toFinset :=
  forall_writes_sub_of_map rfl

/-- `ops0C` allocates nothing. -/
theorem ops0C_fresh : (ops0C : Ops F).Forall fun op => op.fresh = ∅ := forall_fresh_of_map rfl

/-- The buffers written by `ops1A`. -/
abbrev ops1A_W : List (Ref sig .tc) :=
  [main_cst_19, main_v80, main_v81, main_v82, main_v83, main_cst_20, main_v84, main_v85, main_v86, main_v87, main_v88, main_v89, main_v90, main_cst_21, main_v91, main_v92, main_v93, main_cst_22] ++ clipWrites main_call4

set_option maxRecDepth 16384 in
/-- `ops1A` writes those. -/
theorem ops1A_writes : (ops1A : Ops F).Forall fun op => op.writes ⊆ (ops1A_W.map (Proc.devRef (τ := τ) .tc)).toFinset :=
  forall_writes_sub_of_map rfl

/-- `ops1A` allocates nothing. -/
theorem ops1A_fresh : (ops1A : Ops F).Forall fun op => op.fresh = ∅ := forall_fresh_of_map rfl

/-- The buffers written by `ops1B`. -/
abbrev ops1B_W : List (Ref sig .tc) :=
  argminWrites main_call5 ++ [main_cst_23, main_cst_24, main_v96, main_cst_25, main_v97, main_v98, main_v99, main_v100, main_cst_26, main_v101, main_cst_27, main_v102, main_v103, main_v104, main_v105, main_v106, main_v107, main_cst_28, main_v108, main_v109, main_v110, main_v111, main_v112, main_v113, main_v114, main_v115, main_v116, main_v117, main_v118, main_v119, main_v120, main_v121, main_v122, main_v123]

set_option maxRecDepth 16384 in
/-- `ops1B` writes those. -/
theorem ops1B_writes : (ops1B : Ops F).Forall fun op => op.writes ⊆ (ops1B_W.map (Proc.devRef (τ := τ) .tc)).toFinset :=
  forall_writes_sub_of_map rfl

/-- `ops1B` allocates nothing. -/
theorem ops1B_fresh : (ops1B : Ops F).Forall fun op => op.fresh = ∅ := forall_fresh_of_map rfl

/-- The buffers written by `ops1C`. -/
abbrev ops1C_W : List (Ref sig .tc) :=
  takeWrites main_call6 ++ [main_v125, main_v126, main_v127]

set_option maxRecDepth 16384 in
/-- `ops1C` writes those. -/
theorem ops1C_writes : (ops1C : Ops F).Forall fun op => op.writes ⊆ (ops1C_W.map (Proc.devRef (τ := τ) .tc)).toFinset :=
  forall_writes_sub_of_map rfl

/-- `ops1C` allocates nothing. -/
theorem ops1C_fresh : (ops1C : Ops F).Forall fun op => op.fresh = ∅ := forall_fresh_of_map rfl

/-- The buffers written by `ops2A`. -/
abbrev ops2A_W : List (Ref sig .tc) :=
  [main_v128, main_cst_29, main_v129, main_v130, main_v131, main_v132, main_cst_30, main_v133, main_v134, main_v135, main_v136, main_v137, main_v138, main_v139, main_cst_31, main_v140, main_v141, main_v142, main_cst_32] ++ clipWrites main_call7

set_option maxRecDepth 16384 in
/-- `ops2A` writes those. -/
theorem ops2A_writes : (ops2A : Ops F).Forall fun op => op.writes ⊆ (ops2A_W.map (Proc.devRef (τ := τ) .tc)).toFinset :=
  forall_writes_sub_of_map rfl

/-- `ops2A` allocates nothing. -/
theorem ops2A_fresh : (ops2A : Ops F).Forall fun op => op.fresh = ∅ := forall_fresh_of_map rfl

/-- The buffers written by `ops2B`. -/
abbrev ops2B_W : List (Ref sig .tc) :=
  argminWrites main_call8 ++ [main_cst_33, main_cst_34, main_v145, main_cst_35, main_v146, main_v147, main_v148, main_v149, main_cst_36, main_v150, main_cst_37, main_v151, main_v152, main_v153, main_v154, main_v155, main_v156, main_cst_38, main_v157, main_v158, main_v159, main_v160, main_v161, main_v162, main_v163, main_v164, main_v165, main_v166, main_v167, main_v168, main_v169, main_v170, main_v171, main_v172]

set_option maxRecDepth 16384 in
/-- `ops2B` writes those. -/
theorem ops2B_writes : (ops2B : Ops F).Forall fun op => op.writes ⊆ (ops2B_W.map (Proc.devRef (τ := τ) .tc)).toFinset :=
  forall_writes_sub_of_map rfl

/-- `ops2B` allocates nothing. -/
theorem ops2B_fresh : (ops2B : Ops F).Forall fun op => op.fresh = ∅ := forall_fresh_of_map rfl

/-- The buffers written by `ops2C`. -/
abbrev ops2C_W : List (Ref sig .tc) :=
  takeWrites main_call9 ++ [main_v174, main_v175, main_v176]

set_option maxRecDepth 16384 in
/-- `ops2C` writes those. -/
theorem ops2C_writes : (ops2C : Ops F).Forall fun op => op.writes ⊆ (ops2C_W.map (Proc.devRef (τ := τ) .tc)).toFinset :=
  forall_writes_sub_of_map rfl

/-- `ops2C` allocates nothing. -/
theorem ops2C_fresh : (ops2C : Ops F).Forall fun op => op.fresh = ∅ := forall_fresh_of_map rfl

/-- The buffers written by `ops3A`. -/
abbrev ops3A_W : List (Ref sig .tc) :=
  [main_v177, main_v178, main_cst_39, main_v179, main_v180, main_v181, main_v182, main_cst_40, main_v183, main_v184, main_v185, main_v186, main_v187, main_v188, main_v189, main_cst_41, main_v190, main_v191, main_v192, main_cst_42] ++ clipWrites main_call10

set_option maxRecDepth 16384 in
/-- `ops3A` writes those. -/
theorem ops3A_writes : (ops3A : Ops F).Forall fun op => op.writes ⊆ (ops3A_W.map (Proc.devRef (τ := τ) .tc)).toFinset :=
  forall_writes_sub_of_map rfl

/-- `ops3A` allocates nothing. -/
theorem ops3A_fresh : (ops3A : Ops F).Forall fun op => op.fresh = ∅ := forall_fresh_of_map rfl

/-- The buffers written by `ops3B`. -/
abbrev ops3B_W : List (Ref sig .tc) :=
  argminWrites main_call11 ++ [main_cst_43, main_cst_44, main_v195, main_cst_45, main_v196, main_v197, main_v198, main_v199, main_cst_46, main_v200, main_cst_47, main_v201, main_v202, main_v203, main_v204, main_v205, main_v206, main_cst_48, main_v207, main_v208, main_v209, main_v210, main_v211, main_v212, main_v213, main_v214, main_v215, main_v216, main_v217, main_v218, main_v219, main_v220, main_v221, main_v222]

set_option maxRecDepth 16384 in
/-- `ops3B` writes those. -/
theorem ops3B_writes : (ops3B : Ops F).Forall fun op => op.writes ⊆ (ops3B_W.map (Proc.devRef (τ := τ) .tc)).toFinset :=
  forall_writes_sub_of_map rfl

/-- `ops3B` allocates nothing. -/
theorem ops3B_fresh : (ops3B : Ops F).Forall fun op => op.fresh = ∅ := forall_fresh_of_map rfl

/-- The buffers written by `ops3C`. -/
abbrev ops3C_W : List (Ref sig .tc) :=
  takeWrites main_call12 ++ [main_v224, main_v225, main_v226]

set_option maxRecDepth 16384 in
/-- `ops3C` writes those. -/
theorem ops3C_writes : (ops3C : Ops F).Forall fun op => op.writes ⊆ (ops3C_W.map (Proc.devRef (τ := τ) .tc)).toFinset :=
  forall_writes_sub_of_map rfl

/-- `ops3C` allocates nothing. -/
theorem ops3C_fresh : (ops3C : Ops F).Forall fun op => op.fresh = ∅ := forall_fresh_of_map rfl

/-- The buffers written by `ops4A`. -/
abbrev ops4A_W : List (Ref sig .tc) :=
  [main_v227, main_v228, main_cst_49, main_v229, main_v230, main_v231, main_v232, main_cst_50, main_v233, main_v234, main_v235, main_v236, main_v237, main_v238, main_v239, main_cst_51, main_v240, main_v241, main_v242, main_cst_52] ++ clipWrites main_call13

set_option maxRecDepth 16384 in
/-- `ops4A` writes those. -/
theorem ops4A_writes : (ops4A : Ops F).Forall fun op => op.writes ⊆ (ops4A_W.map (Proc.devRef (τ := τ) .tc)).toFinset :=
  forall_writes_sub_of_map rfl

/-- `ops4A` allocates nothing. -/
theorem ops4A_fresh : (ops4A : Ops F).Forall fun op => op.fresh = ∅ := forall_fresh_of_map rfl

/-- The buffers written by `ops4B`. -/
abbrev ops4B_W : List (Ref sig .tc) :=
  argminWrites main_call14 ++ [main_cst_53, main_cst_54, main_v245, main_cst_55, main_v246, main_v247, main_v248, main_v249, main_cst_56, main_v250, main_cst_57, main_v251, main_v252, main_v253, main_v254, main_v255, main_v256, main_cst_58, main_v257, main_v258, main_v259, main_v260, main_v261, main_v262, main_v263, main_v264, main_v265, main_v266, main_v267, main_v268, main_v269, main_v270, main_v271, main_v272]

set_option maxRecDepth 16384 in
/-- `ops4B` writes those. -/
theorem ops4B_writes : (ops4B : Ops F).Forall fun op => op.writes ⊆ (ops4B_W.map (Proc.devRef (τ := τ) .tc)).toFinset :=
  forall_writes_sub_of_map rfl

/-- `ops4B` allocates nothing. -/
theorem ops4B_fresh : (ops4B : Ops F).Forall fun op => op.fresh = ∅ := forall_fresh_of_map rfl

/-- The buffers written by `ops4C`. -/
abbrev ops4C_W : List (Ref sig .tc) :=
  takeWrites main_call15 ++ [main_v274, main_v275, main_v276]

set_option maxRecDepth 16384 in
/-- `ops4C` writes those. -/
theorem ops4C_writes : (ops4C : Ops F).Forall fun op => op.writes ⊆ (ops4C_W.map (Proc.devRef (τ := τ) .tc)).toFinset :=
  forall_writes_sub_of_map rfl

/-- `ops4C` allocates nothing. -/
theorem ops4C_fresh : (ops4C : Ops F).Forall fun op => op.fresh = ∅ := forall_fresh_of_map rfl

/-- The buffers written by `ops5A`. -/
abbrev ops5A_W : List (Ref sig .tc) :=
  [main_v277, main_v278, main_v279, main_cst_59, main_v280, main_v281, main_v282, main_v283, main_cst_60, main_v284, main_v285, main_v286, main_v287, main_v288, main_v289, main_v290, main_cst_61, main_v291, main_v292, main_v293, main_cst_62] ++ clipWrites main_call16

set_option maxRecDepth 16384 in
/-- `ops5A` writes those. -/
theorem ops5A_writes : (ops5A : Ops F).Forall fun op => op.writes ⊆ (ops5A_W.map (Proc.devRef (τ := τ) .tc)).toFinset :=
  forall_writes_sub_of_map rfl

/-- `ops5A` allocates nothing. -/
theorem ops5A_fresh : (ops5A : Ops F).Forall fun op => op.fresh = ∅ := forall_fresh_of_map rfl

/-- The buffers written by `ops5B`. -/
abbrev ops5B_W : List (Ref sig .tc) :=
  argminWrites main_call17 ++ [main_cst_63, main_cst_64, main_v296, main_cst_65, main_v297, main_v298, main_v299, main_v300, main_cst_66, main_v301, main_cst_67, main_v302, main_v303, main_v304, main_v305, main_v306, main_v307, main_cst_68, main_v308, main_v309, main_v310, main_v311, main_v312, main_v313, main_v314, main_v315, main_v316, main_v317, main_v318, main_v319, main_v320, main_v321, main_v322, main_v323]

set_option maxRecDepth 16384 in
/-- `ops5B` writes those. -/
theorem ops5B_writes : (ops5B : Ops F).Forall fun op => op.writes ⊆ (ops5B_W.map (Proc.devRef (τ := τ) .tc)).toFinset :=
  forall_writes_sub_of_map rfl

/-- `ops5B` allocates nothing. -/
theorem ops5B_fresh : (ops5B : Ops F).Forall fun op => op.fresh = ∅ := forall_fresh_of_map rfl

/-- The buffers written by `ops5C`. -/
abbrev ops5C_W : List (Ref sig .tc) :=
  takeWrites main_call18 ++ [main_v325, main_v326, main_v327]

set_option maxRecDepth 16384 in
/-- `ops5C` writes those. -/
theorem ops5C_writes : (ops5C : Ops F).Forall fun op => op.writes ⊆ (ops5C_W.map (Proc.devRef (τ := τ) .tc)).toFinset :=
  forall_writes_sub_of_map rfl

/-- `ops5C` allocates nothing. -/
theorem ops5C_fresh : (ops5C : Ops F).Forall fun op => op.fresh = ∅ := forall_fresh_of_map rfl

/-- The buffers written by `ops6A`. -/
abbrev ops6A_W : List (Ref sig .tc) :=
  [main_v328, main_v329, main_v330, main_cst_69, main_v331, main_v332, main_v333, main_v334, main_cst_70, main_v335, main_v336, main_v337, main_v338, main_v339, main_v340, main_v341, main_cst_71, main_v342, main_v343, main_v344, main_cst_72] ++ clipWrites main_call19

set_option maxRecDepth 16384 in
/-- `ops6A` writes those. -/
theorem ops6A_writes : (ops6A : Ops F).Forall fun op => op.writes ⊆ (ops6A_W.map (Proc.devRef (τ := τ) .tc)).toFinset :=
  forall_writes_sub_of_map rfl

/-- `ops6A` allocates nothing. -/
theorem ops6A_fresh : (ops6A : Ops F).Forall fun op => op.fresh = ∅ := forall_fresh_of_map rfl

/-- The buffers written by `ops6B`. -/
abbrev ops6B_W : List (Ref sig .tc) :=
  argminWrites main_call20 ++ [main_cst_73, main_cst_74, main_v347, main_cst_75, main_v348, main_v349, main_v350, main_v351, main_cst_76, main_v352, main_cst_77, main_v353, main_v354, main_v355, main_v356, main_v357, main_v358, main_cst_78, main_v359, main_v360, main_v361, main_v362, main_v363, main_v364, main_v365, main_v366, main_v367, main_v368, main_v369, main_v370, main_v371, main_v372, main_v373, main_v374]

set_option maxRecDepth 16384 in
/-- `ops6B` writes those. -/
theorem ops6B_writes : (ops6B : Ops F).Forall fun op => op.writes ⊆ (ops6B_W.map (Proc.devRef (τ := τ) .tc)).toFinset :=
  forall_writes_sub_of_map rfl

/-- `ops6B` allocates nothing. -/
theorem ops6B_fresh : (ops6B : Ops F).Forall fun op => op.fresh = ∅ := forall_fresh_of_map rfl

/-- The buffers written by `ops6C`. -/
abbrev ops6C_W : List (Ref sig .tc) :=
  takeWrites main_call21 ++ [main_v376, main_v377, main_v378]

set_option maxRecDepth 16384 in
/-- `ops6C` writes those. -/
theorem ops6C_writes : (ops6C : Ops F).Forall fun op => op.writes ⊆ (ops6C_W.map (Proc.devRef (τ := τ) .tc)).toFinset :=
  forall_writes_sub_of_map rfl

/-- `ops6C` allocates nothing. -/
theorem ops6C_fresh : (ops6C : Ops F).Forall fun op => op.fresh = ∅ := forall_fresh_of_map rfl

/-- The buffers written by `ops7A`. -/
abbrev ops7A_W : List (Ref sig .tc) :=
  [main_v379, main_v380, main_v381, main_v382, main_cst_79, main_v383, main_v384, main_v385, main_v386, main_cst_80, main_v387, main_v388, main_v389, main_v390, main_v391, main_v392, main_v393, main_cst_81, main_v394, main_v395, main_v396, main_cst_82] ++ clipWrites main_call22

set_option maxRecDepth 16384 in
/-- `ops7A` writes those. -/
theorem ops7A_writes : (ops7A : Ops F).Forall fun op => op.writes ⊆ (ops7A_W.map (Proc.devRef (τ := τ) .tc)).toFinset :=
  forall_writes_sub_of_map rfl

/-- `ops7A` allocates nothing. -/
theorem ops7A_fresh : (ops7A : Ops F).Forall fun op => op.fresh = ∅ := forall_fresh_of_map rfl

/-- The buffers written by `ops7B`. -/
abbrev ops7B_W : List (Ref sig .tc) :=
  argminWrites main_call23 ++ [main_cst_83, main_cst_84, main_v399, main_cst_85, main_v400, main_v401, main_v402, main_v403, main_cst_86, main_v404, main_cst_87, main_v405, main_v406, main_v407, main_v408, main_v409, main_v410, main_cst_88, main_v411, main_v412, main_v413, main_v414, main_v415, main_v416, main_v417, main_v418, main_v419, main_v420, main_v421, main_v422, main_v423, main_v424, main_v425, main_v426]

set_option maxRecDepth 16384 in
/-- `ops7B` writes those. -/
theorem ops7B_writes : (ops7B : Ops F).Forall fun op => op.writes ⊆ (ops7B_W.map (Proc.devRef (τ := τ) .tc)).toFinset :=
  forall_writes_sub_of_map rfl

/-- `ops7B` allocates nothing. -/
theorem ops7B_fresh : (ops7B : Ops F).Forall fun op => op.fresh = ∅ := forall_fresh_of_map rfl

/-- The buffers written by `ops7C`. -/
abbrev ops7C_W : List (Ref sig .tc) :=
  takeWrites main_call24 ++ [main_v428, main_v429, main_v430]

set_option maxRecDepth 16384 in
/-- `ops7C` writes those. -/
theorem ops7C_writes : (ops7C : Ops F).Forall fun op => op.writes ⊆ (ops7C_W.map (Proc.devRef (τ := τ) .tc)).toFinset :=
  forall_writes_sub_of_map rfl

/-- `ops7C` allocates nothing. -/
theorem ops7C_fresh : (ops7C : Ops F).Forall fun op => op.fresh = ∅ := forall_fresh_of_map rfl

/-- The buffers written by `opsEnd`. -/
abbrev opsEnd_W : List (Ref sig .tc) :=
  [main_v431, main_v432, main_v433, main_v434, main_v435, main_v436, main_v437, main_cst_89, main_v438, main_v439, main_v440, main_cst_90, main_v441, main_v442, main_v443, main_cst_91, main_v444, main_v445, main_cst_92, main_v446, main_v447, main_v448, main_v449, main_v450, main_v451, main_v452, main_v453, main_v454, main_v455, main_v456]

set_option maxRecDepth 16384 in
/-- `opsEnd` writes those. -/
theorem opsEnd_writes : (opsEnd : Ops F).Forall fun op => op.writes ⊆ (opsEnd_W.map (Proc.devRef (τ := τ) .tc)).toFinset :=
  forall_writes_sub_of_map rfl

/-- `opsEnd` allocates nothing. -/
theorem opsEnd_fresh : (opsEnd : Ops F).Forall fun op => op.fresh = ∅ := forall_fresh_of_map rfl

set_option maxRecDepth 16384 in
/-- `opsPre` touches buffers of the device. -/
theorem opsPre_sub : OnDevice (opsPre : Ops F) := by
  unfold OnDevice opsPre
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops0A` touches buffers of the device. -/
theorem ops0A_sub : OnDevice (ops0A : Ops F) := by
  unfold OnDevice ops0A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops0B` touches buffers of the device. -/
theorem ops0B_sub : OnDevice (ops0B : Ops F) := by
  unfold OnDevice ops0B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops0C` touches buffers of the device. -/
theorem ops0C_sub : OnDevice (ops0C : Ops F) := by
  unfold OnDevice ops0C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops1A` touches buffers of the device. -/
theorem ops1A_sub : OnDevice (ops1A : Ops F) := by
  unfold OnDevice ops1A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops1B` touches buffers of the device. -/
theorem ops1B_sub : OnDevice (ops1B : Ops F) := by
  unfold OnDevice ops1B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops1C` touches buffers of the device. -/
theorem ops1C_sub : OnDevice (ops1C : Ops F) := by
  unfold OnDevice ops1C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops2A` touches buffers of the device. -/
theorem ops2A_sub : OnDevice (ops2A : Ops F) := by
  unfold OnDevice ops2A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops2B` touches buffers of the device. -/
theorem ops2B_sub : OnDevice (ops2B : Ops F) := by
  unfold OnDevice ops2B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops2C` touches buffers of the device. -/
theorem ops2C_sub : OnDevice (ops2C : Ops F) := by
  unfold OnDevice ops2C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops3A` touches buffers of the device. -/
theorem ops3A_sub : OnDevice (ops3A : Ops F) := by
  unfold OnDevice ops3A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops3B` touches buffers of the device. -/
theorem ops3B_sub : OnDevice (ops3B : Ops F) := by
  unfold OnDevice ops3B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops3C` touches buffers of the device. -/
theorem ops3C_sub : OnDevice (ops3C : Ops F) := by
  unfold OnDevice ops3C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops4A` touches buffers of the device. -/
theorem ops4A_sub : OnDevice (ops4A : Ops F) := by
  unfold OnDevice ops4A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops4B` touches buffers of the device. -/
theorem ops4B_sub : OnDevice (ops4B : Ops F) := by
  unfold OnDevice ops4B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops4C` touches buffers of the device. -/
theorem ops4C_sub : OnDevice (ops4C : Ops F) := by
  unfold OnDevice ops4C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops5A` touches buffers of the device. -/
theorem ops5A_sub : OnDevice (ops5A : Ops F) := by
  unfold OnDevice ops5A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops5B` touches buffers of the device. -/
theorem ops5B_sub : OnDevice (ops5B : Ops F) := by
  unfold OnDevice ops5B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops5C` touches buffers of the device. -/
theorem ops5C_sub : OnDevice (ops5C : Ops F) := by
  unfold OnDevice ops5C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops6A` touches buffers of the device. -/
theorem ops6A_sub : OnDevice (ops6A : Ops F) := by
  unfold OnDevice ops6A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops6B` touches buffers of the device. -/
theorem ops6B_sub : OnDevice (ops6B : Ops F) := by
  unfold OnDevice ops6B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops6C` touches buffers of the device. -/
theorem ops6C_sub : OnDevice (ops6C : Ops F) := by
  unfold OnDevice ops6C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops7A` touches buffers of the device. -/
theorem ops7A_sub : OnDevice (ops7A : Ops F) := by
  unfold OnDevice ops7A
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops7B` touches buffers of the device. -/
theorem ops7B_sub : OnDevice (ops7B : Ops F) := by
  unfold OnDevice ops7B
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `ops7C` touches buffers of the device. -/
theorem ops7C_sub : OnDevice (ops7C : Ops F) := by
  unfold OnDevice ops7C
  simp only [normOps, clipOps, argminOps, takeOps, List.cons_append, List.nil_append, List.Forall, nullary_bufs_sub, unary_bufs_sub, binary_bufs_sub, ternary_bufs_sub, quaternary_bufs_sub, reshape_bufs_sub, and_self]

set_option maxRecDepth 16384 in
/-- `opsEnd` touches buffers of the device. -/
theorem opsEnd_sub : OnDevice (opsEnd : Ops F) := by
  unfold OnDevice opsEnd
  simp only [normOps, clipOps, argminOps, takeOps, List.cons_append, List.nil_append, List.Forall, nullary_bufs_sub, unary_bufs_sub, binary_bufs_sub, ternary_bufs_sub, quaternary_bufs_sub, reshape_bufs_sub, and_self]

/-- All the operations touch buffers of the device. -/
theorem ops_sub : (ops : Ops F).Forall fun op => op.bufs ⊆ tcRefs τ sig := by
  simp only [ops, List.forall_append]
  exact ⟨opsPre_sub, ops0A_sub, ops0B_sub, ops0C_sub, ops1A_sub, ops1B_sub, ops1C_sub, ops2A_sub, ops2B_sub, ops2C_sub, ops3A_sub, ops3B_sub, ops3C_sub, ops4A_sub, ops4B_sub, ops4C_sub, ops5A_sub, ops5B_sub, ops5C_sub, ops6A_sub, ops6B_sub, ops6C_sub, ops7A_sub, ops7B_sub, ops7C_sub, opsEnd_sub⟩

/-- None of them allocates. -/
theorem ops_fresh : ∀ op ∈ (ops : Ops F), op.fresh = ∅ := by
  rw [← List.forall_iff_forall_mem]
  simp only [ops, List.forall_append]
  exact ⟨opsPre_fresh, ops0A_fresh, ops0B_fresh, ops0C_fresh, ops1A_fresh, ops1B_fresh, ops1C_fresh, ops2A_fresh, ops2B_fresh, ops2C_fresh, ops3A_fresh, ops3B_fresh, ops3C_fresh, ops4A_fresh, ops4B_fresh, ops4C_fresh, ops5A_fresh, ops5B_fresh, ops5C_fresh, ops6A_fresh, ops6B_fresh, ops6C_fresh, ops7A_fresh, ops7B_fresh, ops7C_fresh, opsEnd_fresh⟩

/-- No buffer of the reference is scoped. -/
theorem scopedRefs_eq : (Finset.univ.filter fun b : Ref sig .tc => b.isScoped) = ∅ := by decide

/-- No semaphore of it is. -/
theorem scopedSems_eq : (Finset.univ.filter fun sm : SemLoc sig => sm.isScoped .tc) = ∅ := by decide

/-- Every execution of the reference ends with the buffers as its operations leave them. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  (θ_run defs _ _).mono (fun _ h c b => h c b)
    (run_seq scopedRefs_eq scopedSems_eq defs main (fun _ => ops) main_eq (fun _ => ops_sub) m ρ fun _ => ops_fresh)

end Cert.Rcpl.Ref

end
-- ==== Proof.RefStep.lean ====
/- The reference's computation, piece by piece, as functions of arrays. -/
module

public import proofs.«01_k».proof.Proof.RefOps

@[expose] public section

set_option maxRecDepth 16384

noncomputable section

namespace Cert.Rcpl.Ref

open Cert.ReferenceIdeal Cert.ReferenceIdeal.Gen Idealize.ShloMosaic Idealize.ShloMosaic.TcCoe
  Idealize.SL.Sem Idealize.ShloMosaic.StableHlo

variable {F : FTy → Type} [FloatOps F]

/-- A row index per row. -/
abbrev Idx (F : FTy → Type) : Type := (⟨S16384, .i32⟩ : BufTy).Contents (Elt F)

/-- The tanh approximation of gelu, over a whole array: `u · (½ · (1 + tanh (√(2/π) · (u + 0.044715 · u³))))`. -/
def geluArr {s : Shape} (hb : S_.BroadcastsInDim s ![]) (u : Arr F s) : Arr F s :=
  mulf u (mulf (broadcastInDim s ![] hb (constant S_ .f32 0x3F000000#32))
    (addf (broadcastInDim s ![] hb (constant S_ .f32 0x3F800000#32))
      (Host.tanh (mulf (broadcastInDim s ![] hb (constant S_ .f32 0x3F4C422A#32))
        (addf u (mulf (broadcastInDim s ![] hb (constant S_ .f32 0x3D372713#32)) (mulf (mulf u u) u)))))))

/-- The first network before its last layer is normalised. -/
def rawQ (obs : Arr F S16384x14) (w1 : Arr F S32x14) (b1 : Arr F S32) (w2 : Arr F S8x32) (b2 : Arr F S8) : Arr F S16384x8 :=
  addf (Host.dotGeneral dot_S16384x32_S32x8_S16384x8_1_0_0_1_n_n none
      (geluArr bcast_S_S16384x32 (addf (Host.dotGeneral dot_S16384x14_S14x32_S16384x32_1_0_0_1_n_n none obs
          (transpose S14x32 [1, 0] w1 transposes_S32x14_S14x32_1_0))
        (broadcastInDim S16384x32 ![0, 1] bcast_S1x32_S16384x32_0_1 (broadcastInDim S1x32 ![1] bcast_S32_S1x32_1 b1))))
      (transpose S32x8 [1, 0] w2 transposes_S8x32_S32x8_1_0))
    (broadcastInDim S16384x8 ![0, 1] bcast_S1x8_S16384x8_0_1 (broadcastInDim S1x8 ![1] bcast_S8_S1x8_1 b2))

/-- The rows scaled to norm √2. -/
def normed (q : Arr F S16384x8) : Arr F S16384x8 :=
  mulf (Host.divf q (broadcastInDim S16384x8 ![0, 1] bcast_S16384x1_S16384x8_0_1
      (addf (Host.sqrt (broadcastInDim S16384x1 ![0] bcast_S16384_S16384x1_0
          (Host.reduceAdd (mulf q q) (constant S_ .f32 0x00000000#32) reducesTo_S16384x8_S16384_d1 h_S_)))
        (broadcastInDim S16384x1 ![] bcast_S_S16384x1 (constant S_ .f32 0x2B8CBCCC#32)))))
    (broadcastInDim S16384x8 ![] bcast_S_S16384x8 (constant S_ .f32 0x3FB504F3#32))

/-- The roots' squared lengths, as a row. -/
def rootLen (roots : Arr F S240x8) : Arr F S1x240 :=
  broadcastInDim S1x240 ![1] bcast_S240_S1x240_1
    (Host.reduceAdd (mulf roots roots) (constant S_ .f32 0x00000000#32) reducesTo_S240x8_S240_d1 h_S_)

/-- A residual in units of its level's scale. -/
def scaledArr (r : Arr F S16384x8) (s : Arr F S_) : Arr F S16384x8 :=
  Host.divf r (broadcastInDim S16384x8 ![] bcast_S_S16384x8 s)

/-- The squared distances to the roots, clipped at zero. -/
def distArr (r2 : Arr F S1x240) (roots : Arr F S240x8) (x : Arr F S16384x8) : Arr F S16384x240 :=
  maximumf (broadcastInDim S16384x240 ![] bcast_S_S16384x240 (constant S_ .f32 0x00000000#32))
    (subf (addf
        (broadcastInDim S16384x240 ![0, 1] bcast_S16384x1_S16384x240_0_1 (broadcastInDim S16384x1 ![0] bcast_S16384_S16384x1_0
          (Host.reduceAdd (mulf x x) (constant S_ .f32 0x00000000#32) reducesTo_S16384x8_S16384_d1 h_S_)))
        (broadcastInDim S16384x240 ![0, 1] bcast_S1x240_S16384x240_0_1 r2))
      (mulf (broadcastInDim S16384x240 ![] bcast_S_S16384x240 (constant S_ .f32 0x40000000#32))
        (Host.dotGeneral dot_S16384x8_S8x240_S16384x240_1_0_0_1_n_n none x
          (transpose S8x240 [1, 0] roots transposes_S240x8_S8x240_1_0))))

/-- The second entries of an array of pairs. -/
def secondOf {s : Shape} {α β : Type} (p : s.Idx → α × β) : s.Idx → β := fun j => (p j).2

/-- The second entry, where the pair is known. -/
theorem secondOf_at {s : Shape} {α β : Type} (p : s.Idx → α × β) (j : s.Idx) (e : α) (b : β) (h : p j = (e, b)) :
    secondOf p j = b := by
  unfold secondOf
  rw [h]

/-- The first root at which each row's distance is least. -/
def nearestArr (d : Arr F S16384x240) : Idx F :=
  secondOf (Host.argReduce reducer_argmin_f32_i32 d (iotaInDim S16384x240 32 1) (constant S_ .f32 0x7F800000#32)
    (constantI S_ 32 0#32) reducesTo_S16384x240_S16384_d1 h_S_)

/-- The temperature of a level: one times the quotient of two literals. -/
def tempOf (a b : BitVec 32) : Arr F S_ :=
  mulf (constant S_ .f32 0x3F800000#32) (Host.divf (constant S_ .f32 a) (constant S_ .f32 b))

/-- The distances negated and divided by the temperature. -/
def logits (d : Arr F S16384x240) (t : Arr F S_) : Arr F S16384x240 :=
  Host.divf (Host.negf d) (broadcastInDim S16384x240 ![] bcast_S_S16384x240 t)

/-- The exponentials of a row less its largest entry. -/
def expArr (x : Arr F S16384x240) : Arr F S16384x240 :=
  Host.exp (subf x (broadcastInDim S16384x240 ![0, 1] bcast_S16384x1_S16384x240_0_1
    (broadcastInDim S16384x1 ![0] bcast_S16384_S16384x1_0
      (maximumf (broadcastInDim S16384 ![] bcast_S_S16384 (constant S_ .f32 0xFF800000#32))
        (Host.reduce FloatOps.maximumf x (constant S_ .f32 0xFF800000#32) reducesTo_S16384x240_S16384_d1 h_S_)))))

/-- Each row over its sum. -/
def rowShare (e : Arr F S16384x240) : Arr F S16384x240 :=
  Host.divf e (broadcastInDim S16384x240 ![0, 1] bcast_S16384x1_S16384x240_0_1
    (broadcastInDim S16384x1 ![0] bcast_S16384_S16384x1_0
      (Host.reduceAdd e (constant S_ .f32 0x00000000#32) reducesTo_S16384x240_S16384_d1 h_S_)))

/-- The attention of a level. -/
def attnArr (d : Arr F S16384x240) (t : Arr F S_) : Arr F S16384x240 := rowShare (expArr (logits d t))

/-- What a level makes of the embedding. -/
def embArr (acc : Arr F S16384x52) (a : Arr F S16384x240) (tab : Arr F S240x52) (s : Arr F S_) : Arr F S16384x52 :=
  addf acc (mulf (Host.dotGeneral dot_S16384x240_S240x52_S16384x52_1_0_0_1_n_n none a tab)
    (broadcastInDim S16384x52 ![] bcast_S_S16384x52 s))

/-- What the first level makes of the control. -/
def ctrlArr0 (acc : Arr F S16384x4) (a : Arr F S16384x240) (tab : Arr F S240x4) : Arr F S16384x4 :=
  addf acc (Host.dotGeneral dot_S16384x240_S240x4_S16384x4_1_0_0_1_n_n none a tab)

/-- What a later level makes of the control. -/
def ctrlArr (acc : Arr F S16384x4) (a : Arr F S16384x240) (tab : Arr F S240x4) (s : Arr F S_) : Arr F S16384x4 :=
  addf acc (mulf (Host.dotGeneral dot_S16384x240_S240x4_S16384x4_1_0_0_1_n_n none a tab)
    (broadcastInDim S16384x4 ![] bcast_S_S16384x4 s))

/-- An index counted from the end where it is negative, as a column. -/
def wrapped (i : Idx F) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 240#32))) i)

/-- Whether an index is one of the table's rows. -/
def inTable (w : (⟨S16384x1, .i32⟩ : BufTy).Contents (Elt F)) : (⟨S16384, .i1⟩ : BufTy).Contents (Elt F) :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 239#32)))))
    (constantI S_ 1 1#1) reducesTo_S16384x1_S16384_d1 h_S_

/-- The rows of the roots at the given indices. -/
def rowsAt (roots : Arr F S240x8) (i : Idx F) : Arr F S16384x8 :=
  select (broadcastInDim S16384x8 ![0] bcast_S16384_S16384x8_0 (inTable (F := F) (wrapped (F := F) i)))
    (Host.gather gather_S240x8_S16384x1_S16384x8_1_0_n_n_0_1_18 roots (wrapped (F := F) i))
    (broadcastInDim S16384x8 ![] bcast_S_S16384x8 (constant S_ .f32 0x7FC00000#32))

/-- A residual less its codeword. -/
def residArr (r taken : Arr F S16384x8) (s : Arr F S_) : Arr F S16384x8 :=
  subf r (mulf taken (broadcastInDim S16384x8 ![] bcast_S_S16384x8 s))

/-- The refined embedding. -/
def refined (emb : Arr F S16384x52) (w1 : Arr F S52x52) (b1 : Arr F S52) (w2 : Arr F S52x52) (b2 : Arr F S52)
    (gate : Arr F S_) : Arr F S16384x52 :=
  addf emb (mulf (broadcastInDim S16384x52 ![] bcast_S_S16384x52 gate)
    (addf (Host.dotGeneral dot_S16384x52_S52x52_S16384x52_1_0_0_1_n_n none
        (geluArr bcast_S_S16384x52 (addf (Host.dotGeneral dot_S16384x52_S52x52_S16384x52_1_0_0_1_n_n none emb
            (transpose S52x52 [1, 0] w1 transposes_S52x52_S52x52_1_0))
          (broadcastInDim S16384x52 ![0, 1] bcast_S1x52_S16384x52_0_1 (broadcastInDim S1x52 ![1] bcast_S52_S1x52_1 b1))))
        (transpose S52x52 [1, 0] w2 transposes_S52x52_S52x52_1_0))
      (broadcastInDim S16384x52 ![0, 1] bcast_S1x52_S16384x52_0_1 (broadcastInDim S1x52 ![1] bcast_S52_S1x52_1 b2))))

end Cert.Rcpl.Ref

end
-- ==== Proof.RefRead.lean ====
/- What each piece of the reference leaves in the buffers the next pieces read, from any contents before it. -/
module

public import proofs.«01_k».proof.Proof.RefRun
public import proofs.«01_k».proof.Proof.RefStep

@[expose] public section

set_option maxRecDepth 16384

noncomputable section

namespace Cert.Rcpl.Ref

open Cert.ReferenceIdeal Cert.ReferenceIdeal.Gen Idealize.ShloMosaic Idealize.ShloMosaic.TcCoe
  Idealize.SL.Sem Idealize.ShloMosaic.StableHlo

variable {F : FTy → Type} [FloatOps F]

/-- Level 0's scale, from the decay. -/
def scale0 : Arr F S_ := Host.divf (constant S_ .f32 0x40000000#32) (constant S_ .f32 0x3F800000#32)

/-- Level 0's embedding table. -/
def embTab0 (t : Arr F S8x240x52) : Arr F S240x52 :=
  shapeCast S240x52 (extractStridedSlice S1x240x52 ![0, 0, 0] t slices_S8x240x52_S1x240x52_0_0_0) shapeCasts_S1x240x52_S240x52

/-- The scale. -/
theorem read0s (V : Valuation τ sig (Elt F)) :
    after ops0A V (Proc.devRef .tc main_v36) = scale0 := by
  unfold ops0A
  simp only [clipOps, argminOps, takeOps, List.cons_append, List.nil_append]
  after_results_simp
  rfl

/-- The distances. -/
theorem read0d (V : Valuation τ sig (Elt F)) :
    after ops0A V (Proc.devRef .tc main_v50) = distArr (V (Proc.devRef .tc main_v35)) (V (Proc.devRef .tc main_arg14)) (scaledArr (V (Proc.devRef .tc main_v29)) scale0) := by
  unfold ops0A
  simp only [clipOps, argminOps, takeOps, List.cons_append, List.nil_append]
  after_results_simp
  rfl

/-- The nearest root. -/
theorem read0i (V : Valuation τ sig (Elt F)) :
    after ops0B V (Proc.devRef .tc main_v51) = nearestArr (V (Proc.devRef .tc main_v50)) := by
  unfold ops0B
  simp only [clipOps, argminOps, takeOps, List.cons_append, List.nil_append]
  after_results_simp
  rfl

/-- The embedding. -/
theorem read0e (V : Valuation τ sig (Elt F)) :
    after ops0B V (Proc.devRef .tc main_v73) = embArr (V (Proc.devRef .tc main_v31)) (attnArr (V (Proc.devRef .tc main_v50)) (tempOf 0x3F800000#32 0x3F800000#32)) (embTab0 (V (Proc.devRef .tc main_arg5))) (V (Proc.devRef .tc main_v36)) := by
  unfold ops0B
  simp only [clipOps, argminOps, takeOps, List.cons_append, List.nil_append]
  after_results_simp
  rfl

/-- The control. -/
theorem read0c (V : Valuation τ sig (Elt F)) :
    after ops0B V (Proc.devRef .tc main_v75) = ctrlArr0 (V (Proc.devRef .tc main_v32)) (attnArr (V (Proc.devRef .tc main_v50)) (tempOf 0x3F800000#32 0x3F800000#32)) (V (Proc.devRef .tc main_arg6)) := by
  unfold ops0B
  simp only [clipOps, argminOps, takeOps, List.cons_append, List.nil_append]
  after_results_simp
  rfl

/-- The residual. -/
theorem read0r (V : Valuation τ sig (Elt F)) :
    after ops0C V (Proc.devRef .tc main_v79) = residArr (V (Proc.devRef .tc main_v29)) (rowsAt (V (Proc.devRef .tc main_arg14)) (V (Proc.devRef .tc main_v51))) (V (Proc.devRef .tc main_v36)) := by
  unfold ops0C
  simp only [clipOps, argminOps, takeOps, List.cons_append, List.nil_append]
  after_results_simp
  simp only [residArr, rowsAt, inTable, wrapped, TRef.ofBuf, TRef.toBuf, cast_eq, cast_cast]

/-- Level 1's scale, from the decay. -/
def scale1 (d : Arr F S_) : Arr F S_ := Host.divf (constant S_ .f32 0x40000000#32) d

/-- Level 1's embedding table. -/
def embTab1 (t : Arr F S8x240x52) : Arr F S240x52 :=
  shapeCast S240x52 (extractStridedSlice S1x240x52 ![1, 0, 0] t slices_S8x240x52_S1x240x52_1_0_0) shapeCasts_S1x240x52_S240x52

/-- Level 1's control table. -/
def ctrlTab1 (t : Arr F S7x240x4) : Arr F S240x4 :=
  shapeCast S240x4 (extractStridedSlice S1x240x4 ![0, 0, 0] t slices_S7x240x4_S1x240x4_0_0_0) shapeCasts_S1x240x4_S240x4

/-- The scale. -/
theorem read1s (V : Valuation τ sig (Elt F)) :
    after ops1A V (Proc.devRef .tc main_v80) = (scale1 (V (Proc.devRef .tc main_v30))) := by
  unfold ops1A
  simp only [clipOps, argminOps, takeOps, List.cons_append, List.nil_append]
  after_results_simp
  rfl

/-- The distances. -/
theorem read1d (V : Valuation τ sig (Elt F)) :
    after ops1A V (Proc.devRef .tc main_v94) = distArr (V (Proc.devRef .tc main_v35)) (V (Proc.devRef .tc main_arg14)) (scaledArr (V (Proc.devRef .tc main_v79)) (scale1 (V (Proc.devRef .tc main_v30)))) := by
  unfold ops1A
  simp only [clipOps, argminOps, takeOps, List.cons_append, List.nil_append]
  after_results_simp
  rfl

/-- The nearest root. -/
theorem read1i (V : Valuation τ sig (Elt F)) :
    after ops1B V (Proc.devRef .tc main_v95) = nearestArr (V (Proc.devRef .tc main_v94)) := by
  unfold ops1B
  simp only [clipOps, argminOps, takeOps, List.cons_append, List.nil_append]
  after_results_simp
  rfl

/-- The embedding. -/
theorem read1e (V : Valuation τ sig (Elt F)) :
    after ops1B V (Proc.devRef .tc main_v117) = embArr (V (Proc.devRef .tc main_v73)) (attnArr (V (Proc.devRef .tc main_v94)) (tempOf 0x40800000#32 0x40A00000#32)) (embTab1 (V (Proc.devRef .tc main_arg5))) (V (Proc.devRef .tc main_v80)) := by
  unfold ops1B
  simp only [clipOps, argminOps, takeOps, List.cons_append, List.nil_append]
  after_results_simp
  rfl

/-- The control. -/
theorem read1c (V : Valuation τ sig (Elt F)) :
    after ops1B V (Proc.devRef .tc main_v123) = ctrlArr (V (Proc.devRef .tc main_v75)) (attnArr (V (Proc.devRef .tc main_v94)) (tempOf 0x40800000#32 0x40A00000#32)) (ctrlTab1 (V (Proc.devRef .tc main_arg7))) (V (Proc.devRef .tc main_v80)) := by
  unfold ops1B
  simp only [clipOps, argminOps, takeOps, List.cons_append, List.nil_append]
  after_results_simp
  rfl

/-- The residual. -/
theorem read1r (V : Valuation τ sig (Elt F)) :
    after ops1C V (Proc.devRef .tc main_v127) = residArr (V (Proc.devRef .tc main_v79)) (rowsAt (V (Proc.devRef .tc main_arg14)) (V (Proc.devRef .tc main_v95))) (V (Proc.devRef .tc main_v80)) := by
  unfold ops1C
  simp only [clipOps, argminOps, takeOps, List.cons_append, List.nil_append]
  after_results_simp
  simp only [residArr, rowsAt, inTable, wrapped, TRef.ofBuf, TRef.toBuf, cast_eq, cast_cast]

/-- Level 2's scale, from the decay. -/
def scale2 (d : Arr F S_) : Arr F S_ := Host.divf (constant S_ .f32 0x40000000#32) (mulf d d)

/-- Level 2's embedding table. -/
def embTab2 (t : Arr F S8x240x52) : Arr F S240x52 :=
  shapeCast S240x52 (extractStridedSlice S1x240x52 ![2, 0, 0] t slices_S8x240x52_S1x240x52_2_0_0) shapeCasts_S1x240x52_S240x52

/-- Level 2's control table. -/
def ctrlTab2 (t : Arr F S7x240x4) : Arr F S240x4 :=
  shapeCast S240x4 (extractStridedSlice S1x240x4 ![1, 0, 0] t slices_S7x240x4_S1x240x4_1_0_0) shapeCasts_S1x240x4_S240x4

/-- The scale. -/
theorem read2s (V : Valuation τ sig (Elt F)) :
    after ops2A V (Proc.devRef .tc main_v129) = (scale2 (V (Proc.devRef .tc main_v30))) := by
  unfold ops2A
  simp only [clipOps, argminOps, takeOps, List.cons_append, List.nil_append]
  after_results_simp
  rfl

/-- The distances. -/
theorem read2d (V : Valuation τ sig (Elt F)) :
    after ops2A V (Proc.devRef .tc main_v143) = distArr (V (Proc.devRef .tc main_v35)) (V (Proc.devRef .tc main_arg14)) (scaledArr (V (Proc.devRef .tc main_v127)) (scale2 (V (Proc.devRef .tc main_v30)))) := by
  unfold ops2A
  simp only [clipOps, argminOps, takeOps, List.cons_append, List.nil_append]
  after_results_simp
  rfl

/-- The nearest root. -/
theorem read2i (V : Valuation τ sig (Elt F)) :
    after ops2B V (Proc.devRef .tc main_v144) = nearestArr (V (Proc.devRef .tc main_v143)) := by
  unfold ops2B
  simp only [clipOps, argminOps, takeOps, List.cons_append, List.nil_append]
  after_results_simp
  rfl

/-- The embedding. -/
theorem read2e (V : Valuation τ sig (Elt F)) :
    after ops2B V (Proc.devRef .tc main_v166) = embArr (V (Proc.devRef .tc main_v117)) (attnArr (V (Proc.devRef .tc main_v143)) (tempOf 0x41800000#32 0x41C80000#32)) (embTab2 (V (Proc.devRef .tc main_arg5))) (V (Proc.devRef .tc main_v129)) := by
  unfold ops2B
  simp only [clipOps, argminOps, takeOps, List.cons_append, List.nil_append]
  after_results_simp
  rfl

/-- The control. -/
theorem read2c (V : Valuation τ sig (Elt F)) :
    after ops2B V (Proc.devRef .tc main_v172) = ctrlArr (V (Proc.devRef .tc main_v123)) (attnArr (V (Proc.devRef .tc main_v143)) (tempOf 0x41800000#32 0x41C80000#32)) (ctrlTab2 (V (Proc.devRef .tc main_arg7))) (V (Proc.devRef .tc main_v129)) := by
  unfold ops2B
  simp only [clipOps, argminOps, takeOps, List.cons_append, List.nil_append]
  after_results_simp
  rfl

/-- The residual. -/
theorem read2r (V : Valuation τ sig (Elt F)) :
    after ops2C V (Proc.devRef .tc main_v176) = residArr (V (Proc.devRef .tc main_v127)) (rowsAt (V (Proc.devRef .tc main_arg14)) (V (Proc.devRef .tc main_v144))) (V (Proc.devRef .tc main_v129)) := by
  unfold ops2C
  simp only [clipOps, argminOps, takeOps, List.cons_append, List.nil_append]
  after_results_simp
  simp only [residArr, rowsAt, inTable, wrapped, TRef.ofBuf, TRef.toBuf, cast_eq, cast_cast]

/-- Level 3's scale, from the decay. -/
def scale3 (d : Arr F S_) : Arr F S_ := Host.divf (constant S_ .f32 0x40000000#32) (mulf (mulf d d) d)

/-- Level 3's embedding table. -/
def embTab3 (t : Arr F S8x240x52) : Arr F S240x52 :=
  shapeCast S240x52 (extractStridedSlice S1x240x52 ![3, 0, 0] t slices_S8x240x52_S1x240x52_3_0_0) shapeCasts_S1x240x52_S240x52

/-- Level 3's control table. -/
def ctrlTab3 (t : Arr F S7x240x4) : Arr F S240x4 :=
  shapeCast S240x4 (extractStridedSlice S1x240x4 ![2, 0, 0] t slices_S7x240x4_S1x240x4_2_0_0) shapeCasts_S1x240x4_S240x4

/-- The scale. -/
theorem read3s (V : Valuation τ sig (Elt F)) :
    after ops3A V (Proc.devRef .tc main_v179) = (scale3 (V (Proc.devRef .tc main_v30))) := by
  unfold ops3A
  simp only [clipOps, argminOps, takeOps, List.cons_append, List.nil_append]
  after_results_simp
  rfl

/-- The distances. -/
theorem read3d (V : Valuation τ sig (Elt F)) :
    after ops3A V (Proc.devRef .tc main_v193) = distArr (V (Proc.devRef .tc main_v35)) (V (Proc.devRef .tc main_arg14)) (scaledArr (V (Proc.devRef .tc main_v176)) (scale3 (V (Proc.devRef .tc main_v30)))) := by
  unfold ops3A
  simp only [clipOps, argminOps, takeOps, List.cons_append, List.nil_append]
  after_results_simp
  rfl

/-- The nearest root. -/
theorem read3i (V : Valuation τ sig (Elt F)) :
    after ops3B V (Proc.devRef .tc main_v194) = nearestArr (V (Proc.devRef .tc main_v193)) := by
  unfold ops3B
  simp only [clipOps, argminOps, takeOps, List.cons_append, List.nil_append]
  after_results_simp
  rfl

/-- The embedding. -/
theorem read3e (V : Valuation τ sig (Elt F)) :
    after ops3B V (Proc.devRef .tc main_v216) = embArr (V (Proc.devRef .tc main_v166)) (attnArr (V (Proc.devRef .tc main_v193)) (tempOf 0x42800000#32 0x42FA0000#32)) (embTab3 (V (Proc.devRef .tc main_arg5))) (V (Proc.devRef .tc main_v179)) := by
  unfold ops3B
  simp only [clipOps, argminOps, takeOps, List.cons_append, List.nil_append]
  after_results_simp
  rfl

/-- The control. -/
theorem read3c (V : Valuation τ sig (Elt F)) :
    after ops3B V (Proc.devRef .tc main_v222) = ctrlArr (V (Proc.devRef .tc main_v172)) (attnArr (V (Proc.devRef .tc main_v193)) (tempOf 0x42800000#32 0x42FA0000#32)) (ctrlTab3 (V (Proc.devRef .tc main_arg7))) (V (Proc.devRef .tc main_v179)) := by
  unfold ops3B
  simp only [clipOps, argminOps, takeOps, List.cons_append, List.nil_append]
  after_results_simp
  rfl

/-- The residual. -/
theorem read3r (V : Valuation τ sig (Elt F)) :
    after ops3C V (Proc.devRef .tc main_v226) = residArr (V (Proc.devRef .tc main_v176)) (rowsAt (V (Proc.devRef .tc main_arg14)) (V (Proc.devRef .tc main_v194))) (V (Proc.devRef .tc main_v179)) := by
  unfold ops3C
  simp only [clipOps, argminOps, takeOps, List.cons_append, List.nil_append]
  after_results_simp
  simp only [residArr, rowsAt, inTable, wrapped, TRef.ofBuf, TRef.toBuf, cast_eq, cast_cast]

/-- Level 4's scale, from the decay. -/
def scale4 (d : Arr F S_) : Arr F S_ := Host.divf (constant S_ .f32 0x40000000#32) (mulf (mulf d d) (mulf d d))

/-- Level 4's embedding table. -/
def embTab4 (t : Arr F S8x240x52) : Arr F S240x52 :=
  shapeCast S240x52 (extractStridedSlice S1x240x52 ![4, 0, 0] t slices_S8x240x52_S1x240x52_4_0_0) shapeCasts_S1x240x52_S240x52

/-- Level 4's control table. -/
def ctrlTab4 (t : Arr F S7x240x4) : Arr F S240x4 :=
  shapeCast S240x4 (extractStridedSlice S1x240x4 ![3, 0, 0] t slices_S7x240x4_S1x240x4_3_0_0) shapeCasts_S1x240x4_S240x4

/-- The scale. -/
theorem read4s (V : Valuation τ sig (Elt F)) :
    after ops4A V (Proc.devRef .tc main_v229) = (scale4 (V (Proc.devRef .tc main_v30))) := by
  unfold ops4A
  simp only [clipOps, argminOps, takeOps, List.cons_append, List.nil_append]
  after_results_simp
  rfl

/-- The distances. -/
theorem read4d (V : Valuation τ sig (Elt F)) :
    after ops4A V (Proc.devRef .tc main_v243) = distArr (V (Proc.devRef .tc main_v35)) (V (Proc.devRef .tc main_arg14)) (scaledArr (V (Proc.devRef .tc main_v226)) (scale4 (V (Proc.devRef .tc main_v30)))) := by
  unfold ops4A
  simp only [clipOps, argminOps, takeOps, List.cons_append, List.nil_append]
  after_results_simp
  rfl

/-- The nearest root. -/
theorem read4i (V : Valuation τ sig (Elt F)) :
    after ops4B V (Proc.devRef .tc main_v244) = nearestArr (V (Proc.devRef .tc main_v243)) := by
  unfold ops4B
  simp only [clipOps, argminOps, takeOps, List.cons_append, List.nil_append]
  after_results_simp
  rfl

/-- The embedding. -/
theorem read4e (V : Valuation τ sig (Elt F)) :
    after ops4B V (Proc.devRef .tc main_v266) = embArr (V (Proc.devRef .tc main_v216)) (attnArr (V (Proc.devRef .tc main_v243)) (tempOf 0x43800000#32 0x441C4000#32)) (embTab4 (V (Proc.devRef .tc main_arg5))) (V (Proc.devRef .tc main_v229)) := by
  unfold ops4B
  simp only [clipOps, argminOps, takeOps, List.cons_append, List.nil_append]
  after_results_simp
  rfl

/-- The control. -/
theorem read4c (V : Valuation τ sig (Elt F)) :
    after ops4B V (Proc.devRef .tc main_v272) = ctrlArr (V (Proc.devRef .tc main_v222)) (attnArr (V (Proc.devRef .tc main_v243)) (tempOf 0x43800000#32 0x441C4000#32)) (ctrlTab4 (V (Proc.devRef .tc main_arg7))) (V (Proc.devRef .tc main_v229)) := by
  unfold ops4B
  simp only [clipOps, argminOps, takeOps, List.cons_append, List.nil_append]
  after_results_simp
  rfl

/-- The residual. -/
theorem read4r (V : Valuation τ sig (Elt F)) :
    after ops4C V (Proc.devRef .tc main_v276) = residArr (V (Proc.devRef .tc main_v226)) (rowsAt (V (Proc.devRef .tc main_arg14)) (V (Proc.devRef .tc main_v244))) (V (Proc.devRef .tc main_v229)) := by
  unfold ops4C
  simp only [clipOps, argminOps, takeOps, List.cons_append, List.nil_append]
  after_results_simp
  simp only [residArr, rowsAt, inTable, wrapped, TRef.ofBuf, TRef.toBuf, cast_eq, cast_cast]

/-- Level 5's scale, from the decay. -/
def scale5 (d : Arr F S_) : Arr F S_ := Host.divf (constant S_ .f32 0x40000000#32) (mulf d (mulf (mulf d d) (mulf d d)))

/-- Level 5's embedding table. -/
def embTab5 (t : Arr F S8x240x52) : Arr F S240x52 :=
  shapeCast S240x52 (extractStridedSlice S1x240x52 ![5, 0, 0] t slices_S8x240x52_S1x240x52_5_0_0) shapeCasts_S1x240x52_S240x52

/-- Level 5's control table. -/
def ctrlTab5 (t : Arr F S7x240x4) : Arr F S240x4 :=
  shapeCast S240x4 (extractStridedSlice S1x240x4 ![4, 0, 0] t slices_S7x240x4_S1x240x4_4_0_0) shapeCasts_S1x240x4_S240x4

/-- The scale. -/
theorem read5s (V : Valuation τ sig (Elt F)) :
    after ops5A V (Proc.devRef .tc main_v280) = (scale5 (V (Proc.devRef .tc main_v30))) := by
  unfold ops5A
  simp only [clipOps, argminOps, takeOps, List.cons_append, List.nil_append]
  after_results_simp
  rfl

/-- The distances. -/
theorem read5d (V : Valuation τ sig (Elt F)) :
    after ops5A V (Proc.devRef .tc main_v294) = distArr (V (Proc.devRef .tc main_v35)) (V (Proc.devRef .tc main_arg14)) (scaledArr (V (Proc.devRef .tc main_v276)) (scale5 (V (Proc.devRef .tc main_v30)))) := by
  unfold ops5A
  simp only [clipOps, argminOps, takeOps, List.cons_append, List.nil_append]
  after_results_simp
  rfl

/-- The nearest root. -/
theorem read5i (V : Valuation τ sig (Elt F)) :
    after ops5B V (Proc.devRef .tc main_v295) = nearestArr (V (Proc.devRef .tc main_v294)) := by
  unfold ops5B
  simp only [clipOps, argminOps, takeOps, List.cons_append, List.nil_append]
  after_results_simp
  rfl

/-- The embedding. -/
theorem read5e (V : Valuation τ sig (Elt F)) :
    after ops5B V (Proc.devRef .tc main_v317) = embArr (V (Proc.devRef .tc main_v266)) (attnArr (V (Proc.devRef .tc main_v294)) (tempOf 0x44800000#32 0x45435000#32)) (embTab5 (V (Proc.devRef .tc main_arg5))) (V (Proc.devRef .tc main_v280)) := by
  unfold ops5B
  simp only [clipOps, argminOps, takeOps, List.cons_append, List.nil_append]
  after_results_simp
  rfl

/-- The control. -/
theorem read5c (V : Valuation τ sig (Elt F)) :
    after ops5B V (Proc.devRef .tc main_v323) = ctrlArr (V (Proc.devRef .tc main_v272)) (attnArr (V (Proc.devRef .tc main_v294)) (tempOf 0x44800000#32 0x45435000#32)) (ctrlTab5 (V (Proc.devRef .tc main_arg7))) (V (Proc.devRef .tc main_v280)) := by
  unfold ops5B
  simp only [clipOps, argminOps, takeOps, List.cons_append, List.nil_append]
  after_results_simp
  rfl

/-- The residual. -/
theorem read5r (V : Valuation τ sig (Elt F)) :
    after ops5C V (Proc.devRef .tc main_v327) = residArr (V (Proc.devRef .tc main_v276)) (rowsAt (V (Proc.devRef .tc main_arg14)) (V (Proc.devRef .tc main_v295))) (V (Proc.devRef .tc main_v280)) := by
  unfold ops5C
  simp only [clipOps, argminOps, takeOps, List.cons_append, List.nil_append]
  after_results_simp
  simp only [residArr, rowsAt, inTable, wrapped, TRef.ofBuf, TRef.toBuf, cast_eq, cast_cast]

/-- Level 6's scale, from the decay. -/
def scale6 (d : Arr F S_) : Arr F S_ := Host.divf (constant S_ .f32 0x40000000#32) (mulf (mulf d d) (mulf (mulf d d) (mulf d d)))

/-- Level 6's embedding table. -/
def embTab6 (t : Arr F S8x240x52) : Arr F S240x52 :=
  shapeCast S240x52 (extractStridedSlice S1x240x52 ![6, 0, 0] t slices_S8x240x52_S1x240x52_6_0_0) shapeCasts_S1x240x52_S240x52

/-- Level 6's control table. -/
def ctrlTab6 (t : Arr F S7x240x4) : Arr F S240x4 :=
  shapeCast S240x4 (extractStridedSlice S1x240x4 ![5, 0, 0] t slices_S7x240x4_S1x240x4_5_0_0) shapeCasts_S1x240x4_S240x4

/-- The scale. -/
theorem read6s (V : Valuation τ sig (Elt F)) :
    after ops6A V (Proc.devRef .tc main_v331) = (scale6 (V (Proc.devRef .tc main_v30))) := by
  unfold ops6A
  simp only [clipOps, argminOps, takeOps, List.cons_append, List.nil_append]
  after_results_simp
  rfl

/-- The distances. -/
theorem read6d (V : Valuation τ sig (Elt F)) :
    after ops6A V (Proc.devRef .tc main_v345) = distArr (V (Proc.devRef .tc main_v35)) (V (Proc.devRef .tc main_arg14)) (scaledArr (V (Proc.devRef .tc main_v327)) (scale6 (V (Proc.devRef .tc main_v30)))) := by
  unfold ops6A
  simp only [clipOps, argminOps, takeOps, List.cons_append, List.nil_append]
  after_results_simp
  rfl

/-- The nearest root. -/
theorem read6i (V : Valuation τ sig (Elt F)) :
    after ops6B V (Proc.devRef .tc main_v346) = nearestArr (V (Proc.devRef .tc main_v345)) := by
  unfold ops6B
  simp only [clipOps, argminOps, takeOps, List.cons_append, List.nil_append]
  after_results_simp
  rfl

/-- The embedding. -/
theorem read6e (V : Valuation τ sig (Elt F)) :
    after ops6B V (Proc.devRef .tc main_v368) = embArr (V (Proc.devRef .tc main_v317)) (attnArr (V (Proc.devRef .tc main_v345)) (tempOf 0x45800000#32 0x46742400#32)) (embTab6 (V (Proc.devRef .tc main_arg5))) (V (Proc.devRef .tc main_v331)) := by
  unfold ops6B
  simp only [clipOps, argminOps, takeOps, List.cons_append, List.nil_append]
  after_results_simp
  rfl

/-- The control. -/
theorem read6c (V : Valuation τ sig (Elt F)) :
    after ops6B V (Proc.devRef .tc main_v374) = ctrlArr (V (Proc.devRef .tc main_v323)) (attnArr (V (Proc.devRef .tc main_v345)) (tempOf 0x45800000#32 0x46742400#32)) (ctrlTab6 (V (Proc.devRef .tc main_arg7))) (V (Proc.devRef .tc main_v331)) := by
  unfold ops6B
  simp only [clipOps, argminOps, takeOps, List.cons_append, List.nil_append]
  after_results_simp
  rfl

/-- The residual. -/
theorem read6r (V : Valuation τ sig (Elt F)) :
    after ops6C V (Proc.devRef .tc main_v378) = residArr (V (Proc.devRef .tc main_v327)) (rowsAt (V (Proc.devRef .tc main_arg14)) (V (Proc.devRef .tc main_v346))) (V (Proc.devRef .tc main_v331)) := by
  unfold ops6C
  simp only [clipOps, argminOps, takeOps, List.cons_append, List.nil_append]
  after_results_simp
  simp only [residArr, rowsAt, inTable, wrapped, TRef.ofBuf, TRef.toBuf, cast_eq, cast_cast]

/-- Level 7's scale, from the decay. -/
def scale7 (d : Arr F S_) : Arr F S_ := Host.divf (constant S_ .f32 0x40000000#32) (mulf (mulf d (mulf d d)) (mulf (mulf d d) (mulf d d)))

/-- Level 7's embedding table. -/
def embTab7 (t : Arr F S8x240x52) : Arr F S240x52 :=
  shapeCast S240x52 (extractStridedSlice S1x240x52 ![7, 0, 0] t slices_S8x240x52_S1x240x52_7_0_0) shapeCasts_S1x240x52_S240x52

/-- Level 7's control table. -/
def ctrlTab7 (t : Arr F S7x240x4) : Arr F S240x4 :=
  shapeCast S240x4 (extractStridedSlice S1x240x4 ![6, 0, 0] t slices_S7x240x4_S1x240x4_6_0_0) shapeCasts_S1x240x4_S240x4

/-- The scale. -/
theorem read7s (V : Valuation τ sig (Elt F)) :
    after ops7A V (Proc.devRef .tc main_v383) = (scale7 (V (Proc.devRef .tc main_v30))) := by
  unfold ops7A
  simp only [clipOps, argminOps, takeOps, List.cons_append, List.nil_append]
  after_results_simp
  rfl

/-- The distances. -/
theorem read7d (V : Valuation τ sig (Elt F)) :
    after ops7A V (Proc.devRef .tc main_v397) = distArr (V (Proc.devRef .tc main_v35)) (V (Proc.devRef .tc main_arg14)) (scaledArr (V (Proc.devRef .tc main_v378)) (scale7 (V (Proc.devRef .tc main_v30)))) := by
  unfold ops7A
  simp only [clipOps, argminOps, takeOps, List.cons_append, List.nil_append]
  after_results_simp
  rfl

/-- The nearest root. -/
theorem read7i (V : Valuation τ sig (Elt F)) :
    after ops7B V (Proc.devRef .tc main_v398) = nearestArr (V (Proc.devRef .tc main_v397)) := by
  unfold ops7B
  simp only [clipOps, argminOps, takeOps, List.cons_append, List.nil_append]
  after_results_simp
  rfl

/-- The embedding. -/
theorem read7e (V : Valuation τ sig (Elt F)) :
    after ops7B V (Proc.devRef .tc main_v420) = embArr (V (Proc.devRef .tc main_v368)) (attnArr (V (Proc.devRef .tc main_v397)) (tempOf 0x46800000#32 0x47989680#32)) (embTab7 (V (Proc.devRef .tc main_arg5))) (V (Proc.devRef .tc main_v383)) := by
  unfold ops7B
  simp only [clipOps, argminOps, takeOps, List.cons_append, List.nil_append]
  after_results_simp
  rfl

/-- The control. -/
theorem read7c (V : Valuation τ sig (Elt F)) :
    after ops7B V (Proc.devRef .tc main_v426) = ctrlArr (V (Proc.devRef .tc main_v374)) (attnArr (V (Proc.devRef .tc main_v397)) (tempOf 0x46800000#32 0x47989680#32)) (ctrlTab7 (V (Proc.devRef .tc main_arg7))) (V (Proc.devRef .tc main_v383)) := by
  unfold ops7B
  simp only [clipOps, argminOps, takeOps, List.cons_append, List.nil_append]
  after_results_simp
  rfl

/-- The residual. -/
theorem read7r (V : Valuation τ sig (Elt F)) :
    after ops7C V (Proc.devRef .tc main_v430) = residArr (V (Proc.devRef .tc main_v378)) (rowsAt (V (Proc.devRef .tc main_arg14)) (V (Proc.devRef .tc main_v398))) (V (Proc.devRef .tc main_v383)) := by
  unfold ops7C
  simp only [clipOps, argminOps, takeOps, List.cons_append, List.nil_append]
  after_results_simp
  simp only [residArr, rowsAt, inTable, wrapped, TRef.ofBuf, TRef.toBuf, cast_eq, cast_cast]

/-- The normalised rows. -/
theorem readPre_q (V : Valuation τ sig (Elt F)) :
    after opsPre V (Proc.devRef .tc main_v29) = normed (rawQ (V (Proc.devRef .tc main_arg0)) (V (Proc.devRef .tc main_arg1)) (V (Proc.devRef .tc main_arg2)) (V (Proc.devRef .tc main_arg3)) (V (Proc.devRef .tc main_arg4))) := by
  unfold opsPre
  simp only [normOps, List.cons_append, List.nil_append]
  after_results_simp
  rfl

/-- The decay. -/
theorem readPre_decay (V : Valuation τ sig (Elt F)) :
    after opsPre V (Proc.devRef .tc main_v30) = (Host.exp (V (Proc.devRef .tc main_arg8)) : Arr F S_) := by
  unfold opsPre
  simp only [normOps, List.cons_append, List.nil_append]
  after_results_simp

/-- The embedding before the levels. -/
theorem readPre_emb (V : Valuation τ sig (Elt F)) :
    after opsPre V (Proc.devRef .tc main_v31) = broadcastInDim S16384x52 ![] bcast_S_S16384x52 (constant S_ .f32 0x00000000#32) := by
  unfold opsPre
  simp only [normOps, List.cons_append, List.nil_append]
  after_results_simp

/-- The control before the levels. -/
theorem readPre_ctrl (V : Valuation τ sig (Elt F)) :
    after opsPre V (Proc.devRef .tc main_v32) = broadcastInDim S16384x4 ![] bcast_S_S16384x4 (constant S_ .f32 0x00000000#32) := by
  unfold opsPre
  simp only [normOps, List.cons_append, List.nil_append]
  after_results_simp

/-- The roots' squared lengths. -/
theorem readPre_len (V : Valuation τ sig (Elt F)) :
    after opsPre V (Proc.devRef .tc main_v35) = rootLen (V (Proc.devRef .tc main_arg14)) := by
  unfold opsPre
  simp only [normOps, List.cons_append, List.nil_append]
  after_results_simp
  rfl

/-- The refined embedding. -/
theorem readEnd (V : Valuation τ sig (Elt F)) :
    after opsEnd V (Proc.devRef .tc main_v456) = refined (V (Proc.devRef .tc main_v420)) (V (Proc.devRef .tc main_arg9)) (V (Proc.devRef .tc main_arg10)) (V (Proc.devRef .tc main_arg11)) (V (Proc.devRef .tc main_arg12)) (V (Proc.devRef .tc main_arg13)) := by
  unfold opsEnd
  simp only [normOps, List.cons_append, List.nil_append]
  after_results_simp
  rfl

end Cert.Rcpl.Ref

end
-- ==== Proof.RefVal.lean ====
/- The reference's results as functions of its arguments: its levels as one step repeated. -/
module

public import proofs.«01_k».proof.Proof.RefRead

@[expose] public section

set_option maxRecDepth 16384

noncomputable section

namespace Cert.Rcpl.Ref

open Cert.ReferenceIdeal Cert.ReferenceIdeal.Gen Idealize.ShloMosaic Idealize.ShloMosaic.TcCoe
  Idealize.SL.Sem Idealize.ShloMosaic.StableHlo

variable {F : FTy → Type} [FloatOps F]

/-- The scale, the temperature and the tables of a level. -/
structure Level (F : FTy → Type) where
  /-- the scale -/
  s : Arr F S_
  /-- the temperature -/
  t : Arr F S_
  /-- the embedding table -/
  e : Arr F S240x52
  /-- the control table -/
  c : Arr F S240x4

/-- The levels, from the decay and the tables. -/
def levels (d : Arr F S_) (et : Arr F S8x240x52) (c0 : Arr F S240x4) (ct : Arr F S7x240x4) : ℕ → Level F
  | 0 => ⟨scale0, tempOf 0x3F800000#32 0x3F800000#32, embTab0 et, c0⟩
  | 1 => ⟨scale1 d, tempOf 0x40800000#32 0x40A00000#32, embTab1 et, ctrlTab1 ct⟩
  | 2 => ⟨scale2 d, tempOf 0x41800000#32 0x41C80000#32, embTab2 et, ctrlTab2 ct⟩
  | 3 => ⟨scale3 d, tempOf 0x42800000#32 0x42FA0000#32, embTab3 et, ctrlTab3 ct⟩
  | 4 => ⟨scale4 d, tempOf 0x43800000#32 0x441C4000#32, embTab4 et, ctrlTab4 ct⟩
  | 5 => ⟨scale5 d, tempOf 0x44800000#32 0x45435000#32, embTab5 et, ctrlTab5 ct⟩
  | 6 => ⟨scale6 d, tempOf 0x45800000#32 0x46742400#32, embTab6 et, ctrlTab6 ct⟩
  | _ => ⟨scale7 d, tempOf 0x46800000#32 0x47989680#32, embTab7 et, ctrlTab7 ct⟩

/-- The residual before a level. -/
def resid (p : ℕ → Level F) (len : Arr F S1x240) (R : Arr F S240x8) (q : Arr F S16384x8) : ℕ → Arr F S16384x8
  | 0 => q
  | n + 1 => residArr (resid p len R q n)
      (rowsAt R (nearestArr (distArr len R (scaledArr (resid p len R q n) (p n).s)))) (p n).s

/-- A level's distances. -/
def dist (p : ℕ → Level F) (len : Arr F S1x240) (R : Arr F S240x8) (q : Arr F S16384x8) (n : ℕ) : Arr F S16384x240 :=
  distArr len R (scaledArr (resid p len R q n) (p n).s)

/-- A level's attention. -/
def attn (p : ℕ → Level F) (len : Arr F S1x240) (R : Arr F S240x8) (q : Arr F S16384x8) (n : ℕ) : Arr F S16384x240 :=
  attnArr (dist p len R q n) (p n).t

/-- The embedding before a level. -/
def emb (p : ℕ → Level F) (len : Arr F S1x240) (R : Arr F S240x8) (q : Arr F S16384x8) : ℕ → Arr F S16384x52
  | 0 => broadcastInDim S16384x52 ![] bcast_S_S16384x52 (constant S_ .f32 0x00000000#32)
  | n + 1 => embArr (emb p len R q n) (attn p len R q n) (p n).e (p n).s

/-- The control before a level. -/
def ctrl (p : ℕ → Level F) (len : Arr F S1x240) (R : Arr F S240x8) (q : Arr F S16384x8) : ℕ → Arr F S16384x4
  | 0 => broadcastInDim S16384x4 ![] bcast_S_S16384x4 (constant S_ .f32 0x00000000#32)
  | 1 => ctrlArr0 (ctrl p len R q 0) (attn p len R q 0) (p 0).c
  | n + 2 => ctrlArr (ctrl p len R q (n + 1)) (attn p len R q (n + 1)) (p (n + 1)).c (p (n + 1)).s

/-- The buffers that no level writes and the levels or their end read: the arguments, the decay and the lengths. -/
abbrev fixedRefs : List (Ref sig .tc) :=
  [main_arg0, main_arg1, main_arg2, main_arg3, main_arg4, main_arg5, main_arg6, main_arg7, main_arg8, main_arg9,
    main_arg10, main_arg11, main_arg12, main_arg13, main_arg14, main_v30, main_v35]

/-- Two contents agree on the buffers that no level writes. -/
def Same (V W : Valuation τ sig (Elt F)) : Prop :=
  ∀ r ∈ fixedRefs, W (Proc.devRef .tc r) = V (Proc.devRef .tc r)

/-- Operations that write none of those buffers keep them. -/
theorem Same.next {V W : Valuation τ sig (Elt F)} (h : Same V W) {w : List (Ref sig .tc)} {l : Ops F}
    (hW : l.Forall fun op => op.writes ⊆ (w.map (Proc.devRef (τ := τ) .tc)).toFinset) (hd : ∀ r ∈ fixedRefs, r ∉ w) :
    Same V (after l W) := fun r hr => (after_of_writes_sub l W hW (hd r hr)).trans (h r hr)

section Levels

variable (V W : Valuation τ sig (Elt F))

/-- The levels, from the contents before them. -/
abbrev lv : ℕ → Level F :=
  levels (V (Proc.devRef .tc main_v30)) (V (Proc.devRef .tc main_arg5)) (V (Proc.devRef .tc main_arg6))
    (V (Proc.devRef .tc main_arg7))

/-- The residual before a level, from the contents before the levels. -/
abbrev rOf (n : ℕ) : Arr F S16384x8 :=
  resid (lv V) (V (Proc.devRef .tc main_v35)) (V (Proc.devRef .tc main_arg14)) (V (Proc.devRef .tc main_v29)) n

/-- The distances of a level, from the contents before the levels. -/
abbrev dOf (n : ℕ) : Arr F S16384x240 :=
  dist (lv V) (V (Proc.devRef .tc main_v35)) (V (Proc.devRef .tc main_arg14)) (V (Proc.devRef .tc main_v29)) n

/-- The embedding before a level, from the contents before the levels. -/
abbrev eOf (n : ℕ) : Arr F S16384x52 :=
  emb (lv V) (V (Proc.devRef .tc main_v35)) (V (Proc.devRef .tc main_arg14)) (V (Proc.devRef .tc main_v29)) n

/-- The control before a level, from the contents before the levels. -/
abbrev cOf (n : ℕ) : Arr F S16384x4 :=
  ctrl (lv V) (V (Proc.devRef .tc main_v35)) (V (Proc.devRef .tc main_arg14)) (V (Proc.devRef .tc main_v29)) n

/-- Level 0's step. -/
theorem level0 (h : Same V W) (hr : W (Proc.devRef .tc main_v29) = rOf V 0) (he : W (Proc.devRef .tc main_v31) = eOf V 0)
    (hc : W (Proc.devRef .tc main_v32) = cOf V 0) :
    Same V (after ops0C (after ops0B (after ops0A W))) ∧ (after ops0C (after ops0B (after ops0A W))) (Proc.devRef .tc main_v79) = rOf V 1
      ∧ (after ops0C (after ops0B (after ops0A W))) (Proc.devRef .tc main_v73) = eOf V 1
      ∧ (after ops0C (after ops0B (after ops0A W))) (Proc.devRef .tc main_v75) = cOf V 1 := by
  have hA : Same V (after ops0A W) := h.next ops0A_writes (by decide)
  have hB : Same V (after ops0B (after ops0A W)) := hA.next ops0B_writes (by decide)
  have s : (after ops0A W) (Proc.devRef .tc main_v36) = (lv V 0).s := by
    rw [read0s]
    rfl
  have d : (after ops0A W) (Proc.devRef .tc main_v50) = dOf V 0 := by
    rw [read0d, hr, h main_v35 (by decide), h main_arg14 (by decide)]
    rfl
  have r : (after ops0A W) (Proc.devRef .tc main_v29) = rOf V 0 := (after_of_writes_sub _ _ ops0A_writes (by decide)).trans hr
  have e : (after ops0A W) (Proc.devRef .tc main_v31) = eOf V 0 := (after_of_writes_sub _ _ ops0A_writes (by decide)).trans he
  have c : (after ops0A W) (Proc.devRef .tc main_v32) = cOf V 0 := (after_of_writes_sub _ _ ops0A_writes (by decide)).trans hc
  have rB : (after ops0B (after ops0A W)) (Proc.devRef .tc main_v29) = rOf V 0 := (after_of_writes_sub _ _ ops0B_writes (by decide)).trans r
  have sB : (after ops0B (after ops0A W)) (Proc.devRef .tc main_v36) = (lv V 0).s := (after_of_writes_sub _ _ ops0B_writes (by decide)).trans s
  refine ⟨hB.next ops0C_writes (by decide), ?_, ?_, ?_⟩
  · rw [read0r, read0i, d, hB main_arg14 (by decide), rB, sB]
    rfl
  · rw [after_of_writes_sub _ _ ops0C_writes (by decide), read0e, e, d, s, hA main_arg5 (by decide)]
    rfl
  · rw [after_of_writes_sub _ _ ops0C_writes (by decide), read0c, c, d, hA main_arg6 (by decide)]
    rfl

/-- Level 1's step. -/
theorem level1 (h : Same V W) (hr : W (Proc.devRef .tc main_v79) = rOf V 1) (he : W (Proc.devRef .tc main_v73) = eOf V 1)
    (hc : W (Proc.devRef .tc main_v75) = cOf V 1) :
    Same V (after ops1C (after ops1B (after ops1A W))) ∧ (after ops1C (after ops1B (after ops1A W))) (Proc.devRef .tc main_v127) = rOf V 2
      ∧ (after ops1C (after ops1B (after ops1A W))) (Proc.devRef .tc main_v117) = eOf V 2
      ∧ (after ops1C (after ops1B (after ops1A W))) (Proc.devRef .tc main_v123) = cOf V 2 := by
  have hA : Same V (after ops1A W) := h.next ops1A_writes (by decide)
  have hB : Same V (after ops1B (after ops1A W)) := hA.next ops1B_writes (by decide)
  have s : (after ops1A W) (Proc.devRef .tc main_v80) = (lv V 1).s := by
    rw [read1s, h main_v30 (by decide)]
    rfl
  have d : (after ops1A W) (Proc.devRef .tc main_v94) = dOf V 1 := by
    rw [read1d, hr, h main_v35 (by decide), h main_arg14 (by decide), h main_v30 (by decide)]
    rfl
  have r : (after ops1A W) (Proc.devRef .tc main_v79) = rOf V 1 := (after_of_writes_sub _ _ ops1A_writes (by decide)).trans hr
  have e : (after ops1A W) (Proc.devRef .tc main_v73) = eOf V 1 := (after_of_writes_sub _ _ ops1A_writes (by decide)).trans he
  have c : (after ops1A W) (Proc.devRef .tc main_v75) = cOf V 1 := (after_of_writes_sub _ _ ops1A_writes (by decide)).trans hc
  have rB : (after ops1B (after ops1A W)) (Proc.devRef .tc main_v79) = rOf V 1 := (after_of_writes_sub _ _ ops1B_writes (by decide)).trans r
  have sB : (after ops1B (after ops1A W)) (Proc.devRef .tc main_v80) = (lv V 1).s := (after_of_writes_sub _ _ ops1B_writes (by decide)).trans s
  refine ⟨hB.next ops1C_writes (by decide), ?_, ?_, ?_⟩
  · rw [read1r, read1i, d, hB main_arg14 (by decide), rB, sB]
    rfl
  · rw [after_of_writes_sub _ _ ops1C_writes (by decide), read1e, e, d, s, hA main_arg5 (by decide)]
    rfl
  · rw [after_of_writes_sub _ _ ops1C_writes (by decide), read1c, c, d, s, hA main_arg7 (by decide)]
    rfl

/-- Level 2's step. -/
theorem level2 (h : Same V W) (hr : W (Proc.devRef .tc main_v127) = rOf V 2) (he : W (Proc.devRef .tc main_v117) = eOf V 2)
    (hc : W (Proc.devRef .tc main_v123) = cOf V 2) :
    Same V (after ops2C (after ops2B (after ops2A W))) ∧ (after ops2C (after ops2B (after ops2A W))) (Proc.devRef .tc main_v176) = rOf V 3
      ∧ (after ops2C (after ops2B (after ops2A W))) (Proc.devRef .tc main_v166) = eOf V 3
      ∧ (after ops2C (after ops2B (after ops2A W))) (Proc.devRef .tc main_v172) = cOf V 3 := by
  have hA : Same V (after ops2A W) := h.next ops2A_writes (by decide)
  have hB : Same V (after ops2B (after ops2A W)) := hA.next ops2B_writes (by decide)
  have s : (after ops2A W) (Proc.devRef .tc main_v129) = (lv V 2).s := by
    rw [read2s, h main_v30 (by decide)]
    rfl
  have d : (after ops2A W) (Proc.devRef .tc main_v143) = dOf V 2 := by
    rw [read2d, hr, h main_v35 (by decide), h main_arg14 (by decide), h main_v30 (by decide)]
    rfl
  have r : (after ops2A W) (Proc.devRef .tc main_v127) = rOf V 2 := (after_of_writes_sub _ _ ops2A_writes (by decide)).trans hr
  have e : (after ops2A W) (Proc.devRef .tc main_v117) = eOf V 2 := (after_of_writes_sub _ _ ops2A_writes (by decide)).trans he
  have c : (after ops2A W) (Proc.devRef .tc main_v123) = cOf V 2 := (after_of_writes_sub _ _ ops2A_writes (by decide)).trans hc
  have rB : (after ops2B (after ops2A W)) (Proc.devRef .tc main_v127) = rOf V 2 := (after_of_writes_sub _ _ ops2B_writes (by decide)).trans r
  have sB : (after ops2B (after ops2A W)) (Proc.devRef .tc main_v129) = (lv V 2).s := (after_of_writes_sub _ _ ops2B_writes (by decide)).trans s
  refine ⟨hB.next ops2C_writes (by decide), ?_, ?_, ?_⟩
  · rw [read2r, read2i, d, hB main_arg14 (by decide), rB, sB]
    rfl
  · rw [after_of_writes_sub _ _ ops2C_writes (by decide), read2e, e, d, s, hA main_arg5 (by decide)]
    rfl
  · rw [after_of_writes_sub _ _ ops2C_writes (by decide), read2c, c, d, s, hA main_arg7 (by decide)]
    rfl

/-- Level 3's step. -/
theorem level3 (h : Same V W) (hr : W (Proc.devRef .tc main_v176) = rOf V 3) (he : W (Proc.devRef .tc main_v166) = eOf V 3)
    (hc : W (Proc.devRef .tc main_v172) = cOf V 3) :
    Same V (after ops3C (after ops3B (after ops3A W))) ∧ (after ops3C (after ops3B (after ops3A W))) (Proc.devRef .tc main_v226) = rOf V 4
      ∧ (after ops3C (after ops3B (after ops3A W))) (Proc.devRef .tc main_v216) = eOf V 4
      ∧ (after ops3C (after ops3B (after ops3A W))) (Proc.devRef .tc main_v222) = cOf V 4 := by
  have hA : Same V (after ops3A W) := h.next ops3A_writes (by decide)
  have hB : Same V (after ops3B (after ops3A W)) := hA.next ops3B_writes (by decide)
  have s : (after ops3A W) (Proc.devRef .tc main_v179) = (lv V 3).s := by
    rw [read3s, h main_v30 (by decide)]
    rfl
  have d : (after ops3A W) (Proc.devRef .tc main_v193) = dOf V 3 := by
    rw [read3d, hr, h main_v35 (by decide), h main_arg14 (by decide), h main_v30 (by decide)]
    rfl
  have r : (after ops3A W) (Proc.devRef .tc main_v176) = rOf V 3 := (after_of_writes_sub _ _ ops3A_writes (by decide)).trans hr
  have e : (after ops3A W) (Proc.devRef .tc main_v166) = eOf V 3 := (after_of_writes_sub _ _ ops3A_writes (by decide)).trans he
  have c : (after ops3A W) (Proc.devRef .tc main_v172) = cOf V 3 := (after_of_writes_sub _ _ ops3A_writes (by decide)).trans hc
  have rB : (after ops3B (after ops3A W)) (Proc.devRef .tc main_v176) = rOf V 3 := (after_of_writes_sub _ _ ops3B_writes (by decide)).trans r
  have sB : (after ops3B (after ops3A W)) (Proc.devRef .tc main_v179) = (lv V 3).s := (after_of_writes_sub _ _ ops3B_writes (by decide)).trans s
  refine ⟨hB.next ops3C_writes (by decide), ?_, ?_, ?_⟩
  · rw [read3r, read3i, d, hB main_arg14 (by decide), rB, sB]
    rfl
  · rw [after_of_writes_sub _ _ ops3C_writes (by decide), read3e, e, d, s, hA main_arg5 (by decide)]
    rfl
  · rw [after_of_writes_sub _ _ ops3C_writes (by decide), read3c, c, d, s, hA main_arg7 (by decide)]
    rfl

/-- Level 4's step. -/
theorem level4 (h : Same V W) (hr : W (Proc.devRef .tc main_v226) = rOf V 4) (he : W (Proc.devRef .tc main_v216) = eOf V 4)
    (hc : W (Proc.devRef .tc main_v222) = cOf V 4) :
    Same V (after ops4C (after ops4B (after ops4A W))) ∧ (after ops4C (after ops4B (after ops4A W))) (Proc.devRef .tc main_v276) = rOf V 5
      ∧ (after ops4C (after ops4B (after ops4A W))) (Proc.devRef .tc main_v266) = eOf V 5
      ∧ (after ops4C (after ops4B (after ops4A W))) (Proc.devRef .tc main_v272) = cOf V 5 := by
  have hA : Same V (after ops4A W) := h.next ops4A_writes (by decide)
  have hB : Same V (after ops4B (after ops4A W)) := hA.next ops4B_writes (by decide)
  have s : (after ops4A W) (Proc.devRef .tc main_v229) = (lv V 4).s := by
    rw [read4s, h main_v30 (by decide)]
    rfl
  have d : (after ops4A W) (Proc.devRef .tc main_v243) = dOf V 4 := by
    rw [read4d, hr, h main_v35 (by decide), h main_arg14 (by decide), h main_v30 (by decide)]
    rfl
  have r : (after ops4A W) (Proc.devRef .tc main_v226) = rOf V 4 := (after_of_writes_sub _ _ ops4A_writes (by decide)).trans hr
  have e : (after ops4A W) (Proc.devRef .tc main_v216) = eOf V 4 := (after_of_writes_sub _ _ ops4A_writes (by decide)).trans he
  have c : (after ops4A W) (Proc.devRef .tc main_v222) = cOf V 4 := (after_of_writes_sub _ _ ops4A_writes (by decide)).trans hc
  have rB : (after ops4B (after ops4A W)) (Proc.devRef .tc main_v226) = rOf V 4 := (after_of_writes_sub _ _ ops4B_writes (by decide)).trans r
  have sB : (after ops4B (after ops4A W)) (Proc.devRef .tc main_v229) = (lv V 4).s := (after_of_writes_sub _ _ ops4B_writes (by decide)).trans s
  refine ⟨hB.next ops4C_writes (by decide), ?_, ?_, ?_⟩
  · rw [read4r, read4i, d, hB main_arg14 (by decide), rB, sB]
    rfl
  · rw [after_of_writes_sub _ _ ops4C_writes (by decide), read4e, e, d, s, hA main_arg5 (by decide)]
    rfl
  · rw [after_of_writes_sub _ _ ops4C_writes (by decide), read4c, c, d, s, hA main_arg7 (by decide)]
    rfl

/-- Level 5's step. -/
theorem level5 (h : Same V W) (hr : W (Proc.devRef .tc main_v276) = rOf V 5) (he : W (Proc.devRef .tc main_v266) = eOf V 5)
    (hc : W (Proc.devRef .tc main_v272) = cOf V 5) :
    Same V (after ops5C (after ops5B (after ops5A W))) ∧ (after ops5C (after ops5B (after ops5A W))) (Proc.devRef .tc main_v327) = rOf V 6
      ∧ (after ops5C (after ops5B (after ops5A W))) (Proc.devRef .tc main_v317) = eOf V 6
      ∧ (after ops5C (after ops5B (after ops5A W))) (Proc.devRef .tc main_v323) = cOf V 6 := by
  have hA : Same V (after ops5A W) := h.next ops5A_writes (by decide)
  have hB : Same V (after ops5B (after ops5A W)) := hA.next ops5B_writes (by decide)
  have s : (after ops5A W) (Proc.devRef .tc main_v280) = (lv V 5).s := by
    rw [read5s, h main_v30 (by decide)]
    rfl
  have d : (after ops5A W) (Proc.devRef .tc main_v294) = dOf V 5 := by
    rw [read5d, hr, h main_v35 (by decide), h main_arg14 (by decide), h main_v30 (by decide)]
    rfl
  have r : (after ops5A W) (Proc.devRef .tc main_v276) = rOf V 5 := (after_of_writes_sub _ _ ops5A_writes (by decide)).trans hr
  have e : (after ops5A W) (Proc.devRef .tc main_v266) = eOf V 5 := (after_of_writes_sub _ _ ops5A_writes (by decide)).trans he
  have c : (after ops5A W) (Proc.devRef .tc main_v272) = cOf V 5 := (after_of_writes_sub _ _ ops5A_writes (by decide)).trans hc
  have rB : (after ops5B (after ops5A W)) (Proc.devRef .tc main_v276) = rOf V 5 := (after_of_writes_sub _ _ ops5B_writes (by decide)).trans r
  have sB : (after ops5B (after ops5A W)) (Proc.devRef .tc main_v280) = (lv V 5).s := (after_of_writes_sub _ _ ops5B_writes (by decide)).trans s
  refine ⟨hB.next ops5C_writes (by decide), ?_, ?_, ?_⟩
  · rw [read5r, read5i, d, hB main_arg14 (by decide), rB, sB]
    rfl
  · rw [after_of_writes_sub _ _ ops5C_writes (by decide), read5e, e, d, s, hA main_arg5 (by decide)]
    rfl
  · rw [after_of_writes_sub _ _ ops5C_writes (by decide), read5c, c, d, s, hA main_arg7 (by decide)]
    rfl

/-- Level 6's step. -/
theorem level6 (h : Same V W) (hr : W (Proc.devRef .tc main_v327) = rOf V 6) (he : W (Proc.devRef .tc main_v317) = eOf V 6)
    (hc : W (Proc.devRef .tc main_v323) = cOf V 6) :
    Same V (after ops6C (after ops6B (after ops6A W))) ∧ (after ops6C (after ops6B (after ops6A W))) (Proc.devRef .tc main_v378) = rOf V 7
      ∧ (after ops6C (after ops6B (after ops6A W))) (Proc.devRef .tc main_v368) = eOf V 7
      ∧ (after ops6C (after ops6B (after ops6A W))) (Proc.devRef .tc main_v374) = cOf V 7 := by
  have hA : Same V (after ops6A W) := h.next ops6A_writes (by decide)
  have hB : Same V (after ops6B (after ops6A W)) := hA.next ops6B_writes (by decide)
  have s : (after ops6A W) (Proc.devRef .tc main_v331) = (lv V 6).s := by
    rw [read6s, h main_v30 (by decide)]
    rfl
  have d : (after ops6A W) (Proc.devRef .tc main_v345) = dOf V 6 := by
    rw [read6d, hr, h main_v35 (by decide), h main_arg14 (by decide), h main_v30 (by decide)]
    rfl
  have r : (after ops6A W) (Proc.devRef .tc main_v327) = rOf V 6 := (after_of_writes_sub _ _ ops6A_writes (by decide)).trans hr
  have e : (after ops6A W) (Proc.devRef .tc main_v317) = eOf V 6 := (after_of_writes_sub _ _ ops6A_writes (by decide)).trans he
  have c : (after ops6A W) (Proc.devRef .tc main_v323) = cOf V 6 := (after_of_writes_sub _ _ ops6A_writes (by decide)).trans hc
  have rB : (after ops6B (after ops6A W)) (Proc.devRef .tc main_v327) = rOf V 6 := (after_of_writes_sub _ _ ops6B_writes (by decide)).trans r
  have sB : (after ops6B (after ops6A W)) (Proc.devRef .tc main_v331) = (lv V 6).s := (after_of_writes_sub _ _ ops6B_writes (by decide)).trans s
  refine ⟨hB.next ops6C_writes (by decide), ?_, ?_, ?_⟩
  · rw [read6r, read6i, d, hB main_arg14 (by decide), rB, sB]
    rfl
  · rw [after_of_writes_sub _ _ ops6C_writes (by decide), read6e, e, d, s, hA main_arg5 (by decide)]
    rfl
  · rw [after_of_writes_sub _ _ ops6C_writes (by decide), read6c, c, d, s, hA main_arg7 (by decide)]
    rfl

/-- Level 7's step. -/
theorem level7 (h : Same V W) (hr : W (Proc.devRef .tc main_v378) = rOf V 7) (he : W (Proc.devRef .tc main_v368) = eOf V 7)
    (hc : W (Proc.devRef .tc main_v374) = cOf V 7) :
    Same V (after ops7C (after ops7B (after ops7A W))) ∧ (after ops7C (after ops7B (after ops7A W))) (Proc.devRef .tc main_v430) = rOf V 8
      ∧ (after ops7C (after ops7B (after ops7A W))) (Proc.devRef .tc main_v420) = eOf V 8
      ∧ (after ops7C (after ops7B (after ops7A W))) (Proc.devRef .tc main_v426) = cOf V 8 := by
  have hA : Same V (after ops7A W) := h.next ops7A_writes (by decide)
  have hB : Same V (after ops7B (after ops7A W)) := hA.next ops7B_writes (by decide)
  have s : (after ops7A W) (Proc.devRef .tc main_v383) = (lv V 7).s := by
    rw [read7s, h main_v30 (by decide)]
    rfl
  have d : (after ops7A W) (Proc.devRef .tc main_v397) = dOf V 7 := by
    rw [read7d, hr, h main_v35 (by decide), h main_arg14 (by decide), h main_v30 (by decide)]
    rfl
  have r : (after ops7A W) (Proc.devRef .tc main_v378) = rOf V 7 := (after_of_writes_sub _ _ ops7A_writes (by decide)).trans hr
  have e : (after ops7A W) (Proc.devRef .tc main_v368) = eOf V 7 := (after_of_writes_sub _ _ ops7A_writes (by decide)).trans he
  have c : (after ops7A W) (Proc.devRef .tc main_v374) = cOf V 7 := (after_of_writes_sub _ _ ops7A_writes (by decide)).trans hc
  have rB : (after ops7B (after ops7A W)) (Proc.devRef .tc main_v378) = rOf V 7 := (after_of_writes_sub _ _ ops7B_writes (by decide)).trans r
  have sB : (after ops7B (after ops7A W)) (Proc.devRef .tc main_v383) = (lv V 7).s := (after_of_writes_sub _ _ ops7B_writes (by decide)).trans s
  refine ⟨hB.next ops7C_writes (by decide), ?_, ?_, ?_⟩
  · rw [read7r, read7i, d, hB main_arg14 (by decide), rB, sB]
    rfl
  · rw [after_of_writes_sub _ _ ops7C_writes (by decide), read7e, e, d, s, hA main_arg5 (by decide)]
    rfl
  · rw [after_of_writes_sub _ _ ops7C_writes (by decide), read7c, c, d, s, hA main_arg7 (by decide)]
    rfl

end Levels

/-- The levels, from the arguments. -/
abbrev lvOf (V : Valuation τ sig (Elt F)) : ℕ → Level F :=
  levels (Host.exp (V (Proc.devRef .tc main_arg8) : Arr F S_)) (V (Proc.devRef .tc main_arg5)) (V (Proc.devRef .tc main_arg6))
    (V (Proc.devRef .tc main_arg7))

/-- The rows before the levels, from the arguments. -/
abbrev qOf (V : Valuation τ sig (Elt F)) : Arr F S16384x8 :=
  normed (rawQ (V (Proc.devRef .tc main_arg0)) (V (Proc.devRef .tc main_arg1)) (V (Proc.devRef .tc main_arg2))
    (V (Proc.devRef .tc main_arg3)) (V (Proc.devRef .tc main_arg4)))

/-- The embedding after the levels, from the arguments. -/
abbrev embOf (V : Valuation τ sig (Elt F)) : Arr F S16384x52 :=
  emb (lvOf V) (rootLen (V (Proc.devRef .tc main_arg14))) (V (Proc.devRef .tc main_arg14)) (qOf V) 8

/-- The first result, from the arguments. -/
abbrev programOf (V : Valuation τ sig (Elt F)) : Arr F S16384x52 :=
  refined (embOf V) (V (Proc.devRef .tc main_arg9)) (V (Proc.devRef .tc main_arg10)) (V (Proc.devRef .tc main_arg11))
    (V (Proc.devRef .tc main_arg12)) (V (Proc.devRef .tc main_arg13))

/-- The second result, from the arguments. -/
abbrev controlOf (V : Valuation τ sig (Elt F)) : Arr F S16384x4 :=
  ctrl (lvOf V) (rootLen (V (Proc.devRef .tc main_arg14))) (V (Proc.devRef .tc main_arg14)) (qOf V) 8

/-- The arguments. -/
abbrev argRefs : List (Ref sig .tc) :=
  [main_arg0, main_arg1, main_arg2, main_arg3, main_arg4, main_arg5, main_arg6, main_arg7, main_arg8, main_arg9,
    main_arg10, main_arg11, main_arg12, main_arg13, main_arg14]

/-- What the whole program leaves: both results, and the arguments as they were. -/
theorem result (V : Valuation τ sig (Elt F)) :
    after ops V (Proc.devRef .tc main_v456) = programOf V ∧ after ops V (Proc.devRef .tc main_v426) = controlOf V
      ∧ ∀ r ∈ argRefs, after ops V (Proc.devRef .tc r) = V (Proc.devRef .tc r) := by
  have ha : ∀ r ∈ argRefs, after opsPre V (Proc.devRef .tc r) = V (Proc.devRef .tc r) := fun r hr =>
    after_of_writes_sub opsPre V opsPre_writes ((by decide : ∀ r ∈ argRefs, r ∉ opsPre_W) r hr)
  have hq : after opsPre V (Proc.devRef .tc main_v29) = qOf V := readPre_q V
  have hd : after opsPre V (Proc.devRef .tc main_v30) = (Host.exp (V (Proc.devRef .tc main_arg8) : Arr F S_) : Arr F S_) :=
    readPre_decay V
  have hl : after opsPre V (Proc.devRef .tc main_v35) = rootLen (V (Proc.devRef .tc main_arg14)) := readPre_len V
  have hE : eOf (after opsPre V) 8 = embOf V := by
    show emb (levels _ _ _ _) _ _ _ 8 = emb (levels _ _ _ _) _ _ _ 8
    rw [hq, hd, hl, ha main_arg5 (by decide), ha main_arg6 (by decide), ha main_arg7 (by decide), ha main_arg14 (by decide)]
  have hC : cOf (after opsPre V) 8 = controlOf V := by
    show ctrl (levels _ _ _ _) _ _ _ 8 = ctrl (levels _ _ _ _) _ _ _ 8
    rw [hq, hd, hl, ha main_arg5 (by decide), ha main_arg6 (by decide), ha main_arg7 (by decide), ha main_arg14 (by decide)]
  have h0 : Same (after opsPre V) (after opsPre V) := fun _ _ => rfl
  obtain ⟨h1, r1, e1, c1⟩ := level0 _ _ h0 rfl (readPre_emb V) (readPre_ctrl V)
  obtain ⟨h2, r2, e2, c2⟩ := level1 _ _ h1 r1 e1 c1
  obtain ⟨h3, r3, e3, c3⟩ := level2 _ _ h2 r2 e2 c2
  obtain ⟨h4, r4, e4, c4⟩ := level3 _ _ h3 r3 e3 c3
  obtain ⟨h5, r5, e5, c5⟩ := level4 _ _ h4 r4 e4 c4
  obtain ⟨h6, r6, e6, c6⟩ := level5 _ _ h5 r5 e5 c5
  obtain ⟨h7, r7, e7, c7⟩ := level6 _ _ h6 r6 e6 c6
  obtain ⟨h8, r8, e8, c8⟩ := level7 _ _ h7 r7 e7 c7
  have hk : ∀ r ∈ argRefs, r ∈ fixedRefs := by decide
  simp only [ops, after_append]
  refine ⟨?_, ?_, fun r hr => ?_⟩
  · rw [readEnd, e8, hE]
    rw [h8 main_arg9 (by decide), h8 main_arg10 (by decide), h8 main_arg11 (by decide), h8 main_arg12 (by decide),
      h8 main_arg13 (by decide), ha main_arg9 (by decide), ha main_arg10 (by decide), ha main_arg11 (by decide),
      ha main_arg12 (by decide), ha main_arg13 (by decide)]
  · rw [after_of_writes_sub _ _ opsEnd_writes (by decide), c8, hC]
  · rw [after_of_writes_sub _ _ opsEnd_writes ((by decide : ∀ r ∈ argRefs, r ∉ opsEnd_W) r hr), h8 r (hk r hr), ha r hr]

end Cert.Rcpl.Ref

end
-- ==== Proof.RefAt.lean ====
/- The reference's level, read at a row and a column. -/
module

public import proofs.«01_k».proof.Proof.RefStep
public import proofs.«01_k».proof.Proof.Row
public import Idealize.ShloMosaic.Lib.Pointwise
public import Idealize.ShloMosaic.Lib.Routing.Ops

@[expose] public section

set_option maxRecDepth 16384

noncomputable section

namespace Cert.Rcpl.Ref

open Cert.ReferenceIdeal Cert.ReferenceIdeal.Gen Idealize.ShloMosaic Idealize.ShloMosaic.TcCoe Idealize.SL.Sem

/-- The distances of a row. -/
theorem dist_at (l : FVec Ideal S1x240 .f32) (R : FVec Ideal S240x8 .f32) (x : FVec Ideal S16384x8 .f32)
    (j : Fin 16384) (n : Fin 240) :
    distArr (F := Ideal) l R x (ix2 j n)
      = Row.rDist (fun n => l (ix2 0 n)) (fun n k => R (ix2 n k)) (fun k => x (ix2 j k)) n := by
  unfold Row.rDist
  pointwise [distArr]

/-- The logits of a row. -/
theorem logits_at (d : FVec Ideal S16384x240 .f32) (t : FVec Ideal S_ .f32) (j : Fin 16384) (n : Fin 240) :
    logits (F := Ideal) d t (ix2 j n) = Row.rLogit (fun n => d (ix2 j n)) (t ix0) n := by
  unfold Row.rLogit
  pointwise [logits]

/-- The greatest logit of a row. -/
theorem rowMax_at (x : FVec Ideal S16384x240 .f32) (j : Fin 16384) :
    Host.reduce (FloatOps.maximumf (F := Ideal) (φ := .f32)) x (constant S_ .f32 0xFF800000#32 : FVec Ideal S_ .f32)
      reducesTo_S16384x240_S16384_d1 h_S_ (ix1 j) = Row.greatest fun n => x (ix2 j n) := by
  unfold Row.greatest
  pointwise []

/-- The exponential of a row less a number of that row. -/
theorem expLess_at (x : FVec Ideal S16384x240 .f32) (w : FVec Ideal S16384 .f32) (j : Fin 16384) (n : Fin 240) :
    Host.exp (subf x (broadcastInDim S16384x240 ![0, 1] bcast_S16384x1_S16384x240_0_1
      (broadcastInDim S16384x1 ![0] bcast_S16384_S16384x1_0
        (maximumf (broadcastInDim S16384 ![] bcast_S_S16384 (constant S_ .f32 0xFF800000#32)) w)))) (ix2 j n)
      = Ideal.exp (x (ix2 j n) - max (Ideal.ofBits .f32 0xFF800000#32) (w (ix1 j))) := by
  pointwise []

/-- The exponentials of a row. -/
theorem exp_at (x : FVec Ideal S16384x240 .f32) (j : Fin 16384) (n : Fin 240) :
    expArr (F := Ideal) x (ix2 j n) = Row.rWeight (fun n => x (ix2 j n)) n := by
  unfold expArr Row.rWeight
  rw [expLess_at, rowMax_at]

/-- A row over its sum. -/
theorem share_at (e : FVec Ideal S16384x240 .f32) (j : Fin 16384) (n : Fin 240) :
    rowShare (F := Ideal) e (ix2 j n) = Row.rShare (fun n => e (ix2 j n)) n := by
  unfold Row.rShare
  pointwise [rowShare]

/-- The attention of a row. -/
theorem attn_at (d : FVec Ideal S16384x240 .f32) (t : FVec Ideal S_ .f32) (j : Fin 16384) (n : Fin 240) :
    attnArr (F := Ideal) d t (ix2 j n)
      = Row.rShare (Row.rWeight (Row.rLogit (fun n => d (ix2 j n)) (t ix0))) n := by
  unfold attnArr
  rw [share_at, funext fun m => exp_at (logits (F := Ideal) d t) j m]
  rw [funext fun m => logits_at d t j m]

/-- The embedding after a level. -/
theorem emb_at (a : FVec Ideal S16384x52 .f32) (w : FVec Ideal S16384x240 .f32) (t : FVec Ideal S240x52 .f32)
    (s : FVec Ideal S_ .f32) (j : Fin 16384) (o : Fin 52) :
    embArr (F := Ideal) a w t s (ix2 j o) = a (ix2 j o) + (∑ n, w (ix2 j n) * t (ix2 n o)) * s ix0 := by
  pointwise [embArr]

/-- The control after the first level. -/
theorem ctrl0_at (a : FVec Ideal S16384x4 .f32) (w : FVec Ideal S16384x240 .f32) (t : FVec Ideal S240x4 .f32)
    (j : Fin 16384) (o : Fin 4) :
    ctrlArr0 (F := Ideal) a w t (ix2 j o) = a (ix2 j o) + ∑ n, w (ix2 j n) * t (ix2 n o) := by
  pointwise [ctrlArr0]

/-- The control after a later level. -/
theorem ctrl_at (a : FVec Ideal S16384x4 .f32) (w : FVec Ideal S16384x240 .f32) (t : FVec Ideal S240x4 .f32)
    (s : FVec Ideal S_ .f32) (j : Fin 16384) (o : Fin 4) :
    ctrlArr (F := Ideal) a w t s (ix2 j o) = a (ix2 j o) + (∑ n, w (ix2 j n) * t (ix2 n o)) * s ix0 := by
  pointwise [ctrlArr]

/-- A level's temperature. -/
theorem temp_at (a b : BitVec 32) :
    tempOf (F := Ideal) a b ix0 = Ideal.div (Ideal.ofBits .f32 a) (Ideal.ofBits .f32 b) := by
  pointwise [tempOf]

/-- The residual in units of the scale. -/
theorem scaled_at (r : FVec Ideal S16384x8 .f32) (s : FVec Ideal S_ .f32) (j : Fin 16384) (k : Fin 8) :
    scaledArr (F := Ideal) r s (ix2 j k) = Ideal.div (r (ix2 j k)) (s ix0) := by
  pointwise [scaledArr]

/-- The residual after a level. -/
theorem resid_at (r q : FVec Ideal S16384x8 .f32) (s : FVec Ideal S_ .f32) (j : Fin 16384) (k : Fin 8) :
    residArr (F := Ideal) r q s (ix2 j k) = r (ix2 j k) - q (ix2 j k) * s ix0 := by
  pointwise [residArr]

end Cert.Rcpl.Ref

end
-- ==== Proof.RefPick.lean ====
/- The reference's choice of a root: the first at which a row's distance is least, and that root's row. -/
module

public import proofs.«01_k».proof.Proof.RefStep
public import proofs.«01_k».proof.Proof.Row
public import Idealize.ShloMosaic.Lib.Pointwise
public import Idealize.ShloMosaic.Lib.Routing.Ops

@[expose] public section

set_option maxRecDepth 16384

noncomputable section

namespace Cert.Rcpl.Ref

open Cert.ReferenceIdeal Cert.ReferenceIdeal.Gen Idealize.ShloMosaic Idealize.ShloMosaic.TcCoe Idealize.SL.Sem

/-- One pair comes before another: a smaller value, or the same value and an index that is no larger. -/
def Before (p q : EReal × BitVec 32) : Prop := p.1 < q.1 ∨ (p.1 = q.1 ∧ p.2.toInt ≤ q.2.toInt)

/-- A candidate is no worse than itself. -/
theorem Before.refl (p : EReal × BitVec 32) : Before p p := .inr ⟨rfl, le_rfl⟩

/-- The order of the candidates is transitive. -/
theorem Before.trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The body of the reduction keeps one of its pairs, which comes before both. -/
theorem body_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, k⟩ := b
  have h : reducer_argmin_f32_i32 (F := Ideal) (x, i) (y, k)
      = (if x < y then x else y, if x < y ∨ (x = y ∧ i.toInt < k.toInt) then i else k) := by
    simp only [reducer_argmin_f32_i32, FloatOps.cmpf, Ideal.cmp, IntOp.ori, IntOp.andi, IntOp.cmpi, Scalar.select,
      BitVec.slt]
    by_cases h1 : x < y <;> by_cases h2 : x = y <;> by_cases h3 : i.toInt < k.toInt <;> simp [h1, h2, h3]
  rw [h]
  rcases lt_trichotomy x y with hxy | hxy | hxy
  · simp only [hxy, if_true, true_or]
    exact ⟨trivial, .refl _, .inl hxy⟩
  · subst hxy
    by_cases h3 : i.toInt < k.toInt
    · simp only [lt_irrefl, h3, if_false, and_self, or_true, if_true]
      exact ⟨.inl trivial, .refl _, .inr ⟨rfl, h3.le⟩⟩
    · simp only [lt_irrefl, h3, if_false, and_false, or_false]
      exact ⟨.inr trivial, .inr ⟨rfl, not_lt.1 h3⟩, .refl _⟩
  · simp only [not_lt_of_gt hxy, hxy.ne', if_false, false_and, or_false]
    exact ⟨.inr trivial, .inl hxy, .refl _⟩

/-- Folding the body over a list gives the starting pair or one of the list's, and it comes before all of them. -/
theorem fold_spec (L : List (EReal × BitVec 32)) (p : EReal × BitVec 32) :
    (L.foldl (reducer_argmin_f32_i32 (F := Ideal)) p = p ∨ L.foldl (reducer_argmin_f32_i32 (F := Ideal)) p ∈ L)
      ∧ Before (L.foldl (reducer_argmin_f32_i32 (F := Ideal)) p) p
      ∧ ∀ q ∈ L, Before (L.foldl (reducer_argmin_f32_i32 (F := Ideal)) p) q := by
  induction L generalizing p with
  | nil => exact ⟨.inl rfl, .refl _, fun q h => absurd h (by simp)⟩
  | cons a L ih =>
    obtain ⟨hm, hp, hL⟩ := ih (reducer_argmin_f32_i32 (F := Ideal) p a)
    obtain ⟨hs, h1, h2⟩ := body_spec p a
    rw [List.foldl_cons]
    refine ⟨?_, hp.trans h1, fun q hq => ?_⟩
    · rcases hm with hm | hm
      · rw [hm]
        rcases hs with hs | hs
        · exact .inl hs
        · exact .inr (List.mem_cons.2 (.inl hs))
      · exact .inr (List.mem_cons_of_mem _ hm)
    · rcases List.mem_cons.1 hq with rfl | hq
      · exact hp.trans h2
      · exact hL q hq

/-- A pair is folded over for row `j` exactly where it is an entry of that row with its column's index. -/
theorem mem_fiber {N M : ℕ} (h : (⟨2, ![N, M]⟩ : Shape).ReducesTo [1] (⟨1, ![N]⟩ : Shape)) (d : FVec Ideal (⟨2, ![N, M]⟩ : Shape) .f32)
    (y : IVec (⟨2, ![N, M]⟩ : Shape) 32) (j : Fin N) (p : EReal × BitVec 32) :
    p ∈ Host.argReduceFiber d y h (ix1 j) ↔ ∃ n : Fin M, p = (d (ix2 j n), y (ix2 j n)) := by
  unfold Host.argReduceFiber
  simp only [List.mem_map, List.mem_filter, List.mem_finRange, true_and, decide_eq_true_eq]
  constructor
  · rintro ⟨m, hm, rfl⟩
    generalize (⟨2, ![N, M]⟩ : Shape).rowMajor.symm m = k at hm ⊢
    have h0 : (k 0).val = j.val := by
      have := Shape.ReducesTo.drop_apply_val h k 0
      rw [hm] at this
      exact this.symm
    have hk : k = ix2 j (k 1) := by
      funext a; apply Fin.ext
      match a with
      | 0 => exact h0
      | 1 => rfl
    exact ⟨k 1, Prod.ext (congrArg d hk) (congrArg y hk)⟩
  · rintro ⟨n, rfl⟩
    refine ⟨(⟨2, ![N, M]⟩ : Shape).rowMajor (ix2 j n), ?_, ?_⟩
    · rw [Equiv.symm_apply_apply]
      funext a; apply Fin.ext
      match a with
      | 0 => exact Shape.ReducesTo.drop_apply_val h (ix2 j n) 0
    · rw [Equiv.symm_apply_apply]

/-- A column read as a signed integer. -/
theorem col_toInt (n : Fin 240) : (BitVec.ofNat 32 n.val).toInt = n.val := by
  rw [BitVec.toInt_ofNat', Int.bmod_eq_of_le] <;> omega

/-- Where a row's values are not plus infinity, the index chosen is the first position of the least one. -/
theorem pick_at {N : ℕ} (h : (⟨2, ![N, 240]⟩ : Shape).ReducesTo [1] (⟨1, ![N]⟩ : Shape)) (d : FVec Ideal (⟨2, ![N, 240]⟩ : Shape) .f32)
    (y : IVec (⟨2, ![N, 240]⟩ : Shape) 32) (hy : ∀ j n, y (ix2 j n) = BitVec.ofNat 32 n.val) (iv : FVec Ideal S_ .f32)
    (ii : IVec S_ 32) (hiv : ∀ b, iv b = ⊤) (j : Fin N) (hd : ∀ n, d (ix2 j n) ≠ ⊤) :
    ∃ (i : Fin 240) (e : EReal), Row.IsFirst (fun n => d (ix2 j n)) i ∧
      Host.argReduce (reducer_argmin_f32_i32 (F := Ideal)) d y iv ii h h_S_ (ix1 j) = (e, BitVec.ofNat 32 i.val) := by
  rw [Ideal.argReduce_eq_reduce2, Host.reduce2_eq_foldl_fiber]
  have hf := mem_fiber h d y j
  generalize Host.argReduceFiber d y h (ix1 j) = L at hf ⊢
  obtain ⟨hm, -, hL⟩ := fold_spec L (iv (Shape.Idx.first h_S_), ii (Shape.Idx.first h_S_))
  generalize L.foldl (reducer_argmin_f32_i32 (F := Ideal)) (iv (Shape.Idx.first h_S_), ii (Shape.Idx.first h_S_)) = r
    at hm hL ⊢
  have hb := fun n : Fin 240 => hL _ ((hf _).2 ⟨n, rfl⟩)
  rcases hm with rfl | hm
  · rcases hb 0 with h | ⟨h, -⟩
    · rw [hiv] at h
      exact absurd h not_top_lt
    · rw [hiv] at h
      exact absurd h.symm (hd 0)
  · obtain ⟨i, rfl⟩ := (hf _).1 hm
    refine ⟨i, _, fun n => ?_, Prod.ext rfl (hy j i)⟩
    rcases hb n with h | ⟨h, h'⟩
    · exact .inl h
    · refine .inr ⟨h, Fin.le_def.2 ?_⟩
      rw [hy, hy, col_toInt, col_toInt] at h'
      exact_mod_cast h'

/-- Where a row's distances are not plus infinity, the root chosen is the first at which the distance is least. -/
theorem nearest_at (d : FVec Ideal S16384x240 .f32) (j : Fin 16384) (hd : ∀ n, d (ix2 j n) ≠ ⊤) :
    ∃ i : Fin 240, Row.IsFirst (fun n => d (ix2 j n)) i ∧ nearestArr (F := Ideal) d (ix1 j) = BitVec.ofNat 32 i := by
  have hy : ∀ (j : Fin 16384) (n : Fin 240), iotaInDim S16384x240 32 1 (ix2 j n) = BitVec.ofNat 32 n.val :=
    fun j n => rfl
  obtain ⟨i, e, hi, he⟩ := pick_at (N := 16384) reducesTo_S16384x240_S16384_d1 d (iotaInDim S16384x240 32 1) hy
    (constant S_ .f32 0x7F800000#32) (constantI S_ 32 0#32) (fun b => Row.bits_top) j hd
  refine ⟨i, hi, ?_⟩
  unfold nearestArr
  exact secondOf_at _ _ _ _ he

/-- An index that is a column is not wrapped. -/
theorem wrapped_at (i : Idx Ideal) (j : Fin 16384) (n : Fin 240) (h : i (ix1 j) = BitVec.ofNat 32 n) :
    wrapped (F := Ideal) i (ix2 j 0) = BitVec.ofNat 32 n := by
  have hs : IntOp.cmpi .slt (BitVec.ofNat 32 n) 0#32 = 0#1 := by
    show BitVec.ofBool ((BitVec.ofNat 32 n).slt 0#32) = 0#1
    rw [BitVec.slt, col_toInt]; simp [show ¬ ((n.val : ℤ) < 0) by omega]
  pointwise [wrapped]
  rw [h, hs]
  rfl

/-- Whether all of a row's bits are set, where the row is one bit. -/
theorem allOf_at (v : (⟨S16384x1, .i1⟩ : BufTy).Contents (Elt Ideal)) (j : Fin 16384) :
    Host.reduce IntOp.andi v (constantI S_ 1 1#1) reducesTo_S16384x1_S16384_d1 h_S_ (ix1 j)
      = Finset.univ.fold IntOp.andi 1#1 fun k : Fin 1 => v (ix2 j k) := by
  pointwise []

/-- Such an index is one of the table's rows. -/
theorem inTable_at (w : (⟨S16384x1, .i32⟩ : BufTy).Contents (Elt Ideal)) (j : Fin 16384) (n : Fin 240)
    (h : w (ix2 j 0) = BitVec.ofNat 32 n) : inTable (F := Ideal) w (ix1 j) = 1#1 := by
  have h1 : IntOp.cmpi .sge (BitVec.ofNat 32 n) 0#32 = 1#1 := by
    show BitVec.ofBool ((0#32).sle (BitVec.ofNat 32 n)) = 1#1
    rw [BitVec.sle, col_toInt]; simp
  have h2 : IntOp.cmpi .sle (BitVec.ofNat 32 n) 239#32 = 1#1 := by
    show BitVec.ofBool ((BitVec.ofNat 32 n).sle 239#32) = 1#1
    rw [BitVec.sle, col_toInt, show (239#32).toInt = 239 by decide]
    simp [show ((n.val : ℤ) ≤ 239) by omega]
  unfold inTable
  rw [allOf_at]
  refine (Finset.fold_congr (g := fun _ => 1#1) fun k _ => ?_).trans (by decide)
  obtain rfl : k = 0 := Subsingleton.elim _ _
  pointwise []
  rw [h, h1, h2]
  rfl

/-- The row of the roots at an index that is a column. -/
theorem rows_at (R : FVec Ideal S240x8 .f32) (i : Idx Ideal) (j : Fin 16384) (k : Fin 8) (n : Fin 240)
    (h : i (ix1 j) = BitVec.ofNat 32 n) : rowsAt (F := Ideal) R i (ix2 j k) = R (ix2 n k) := by
  have hw := wrapped_at i j n h
  have ht := inTable_at _ j n hw
  have hg := Routing.gather_row gather_S240x8_S16384x1_S16384x8_1_0_n_n_0_1_18 rfl rfl rfl rfl rfl R
    (wrapped (F := Ideal) i) j k n hw (by decide)
  unfold rowsAt
  generalize inTable (F := Ideal) (wrapped (F := Ideal) i) = t at ht ⊢
  generalize Host.gather gather_S240x8_S16384x1_S16384x8_1_0_n_n_0_1_18 R (wrapped (F := Ideal) i) = g at hg ⊢
  pointwise []
  rw [ht]
  exact hg

end Cert.Rcpl.Ref

end
-- ==== Proof.KerStep.lean ====
/- The kernel's block computation as one step repeated over the levels. -/
module

public import proofs.«01_k».proof.Proof.Gen.KernelIdeal.Frame

@[expose] public section

set_option maxRecDepth 16384

noncomputable section

namespace Cert.Rcpl.Ker

open Cert.KernelIdeal Cert.KernelIdeal.Gen Idealize.ShloMosaic Idealize.ShloMosaic.TcCoe Idealize.SL.Sem

variable {F : FTy → Type} [FloatOps F]

/-- A residual (one column per row of the batch) in units of its level's scale. -/
def scaledB (r : FVec F S8x8192 .f32) (s : F .f32) : FVec F S8x8192 .f32 := divf r (broadcast S8x8192 s)

/-- The squared distances to the roots, clipped at zero; `l` is the roots' common squared length. -/
def distB (l : F .f32) (rn : Vec F S240x8 .f32) (x : FVec F S8x8192 .f32) : FVec F S240x8192 .f32 :=
  maximumf (addf
      (broadcastTo S240x8192 (addf
        (shapeCast S1x8192 (multiReduction .add [0] S8192 (mulf x x) 0x00000000#32 reduces_S8x8192_S8192 (.inl rfl) rfl)
          shapeCasts_S8192_S1x8192)
        (broadcast S1x8192 l)) broadcasts_S1x8192_S240x8192)
      (matmul dot_S240x8_S8x8192_S240x8192_1_0_0_1_n_n none
        (shapeCast S240x8 rn shapeCasts_S240x8_S240x8 : FVec F S240x8 .f32) x (constant S240x8192 .f32 0x00000000#32)))
    (broadcast S240x8192 (Scalar.ofBits .f32 0x00000000#32))

/-- The least entry of each column. -/
def leastB (d : FVec F S240x8192 .f32) : FVec F S1x8192 .f32 :=
  shapeCast S1x8192 (multiReduction .minimumf [0] S8192 d 0x7F800000#32 reduces_S240x8192_S8192 (.inl rfl) rfl)
    shapeCasts_S8192_S1x8192

/-- The exponentials of a column's least entry less its entries, times `c`. -/
def weightB (d : FVec F S240x8192 .f32) (c : F .f32) : FVec F S240x8192 .bf16 :=
  truncf .bf16 (exp (mulf (subf (broadcastTo S240x8192 (leastB d) broadcasts_S1x8192_S240x8192) d)
    (broadcast S240x8192 c))) bitsLt_bf16_f32

/-- A level's table applied to the weights; the table's last row is constant one. -/
def outB (d : FVec F S240x8192 .f32) (c : F .f32) (tab : Vec F S1x57x240 .f32) : FVec F S57x8192 .f32 :=
  matmul dot_S57x240_S240x8192_S57x8192_1_0_0_1_n_n none
    (shapeCast S57x240 tab shapeCasts_S1x57x240_S57x240 : FVec F S57x240 .f32) (weightB d c)
    (constant S57x8192 .f32 0x00000000#32)

/-- The accumulated embedding and control after a level. -/
def accB (a : FVec F S56x8192 .f32) (o : FVec F S57x8192 .f32) : FVec F S56x8192 .f32 :=
  addf a (mulf (extractStridedSlice S56x8192 ![0, 0] o slices_S57x8192_o0_0_S56x8192)
    (broadcastTo S56x8192 (divf (broadcast S1x8192 (Scalar.ofBits .f32 0x3F800000#32))
      (extractStridedSlice S1x8192 ![56, 0] o slices_S57x8192_o56_0_S1x8192)) broadcasts_S1x8192_S56x8192))

/-- The first position of each column's least entry, as a number. -/
def firstB (d : FVec F S240x8192 .f32) : FVec F S1x8192 .f32 :=
  leastB (select (cmpf .oeq d (broadcastTo S240x8192 (leastB d) broadcasts_S1x8192_S240x8192)) k0_pay7
    (broadcast S240x8192 (Scalar.ofBits .f32 0x43700000#32)))

/-- One at the first position of each column's least entry, zero elsewhere. -/
def onehotB (d : FVec F S240x8192 .f32) : FVec F S240x8192 .bf16 :=
  truncf .bf16 (sitofp .f32 (extui 32 (cmpf .oeq (k0_pay7 (F := F))
    (broadcastTo S240x8192 (firstB d) broadcasts_S1x8192_S240x8192)) natLt_1_32)) bitsLt_bf16_f32

/-- A residual less its codeword. -/
def residB (r : FVec F S8x8192 .f32) (s : F .f32) (d : FVec F S240x8192 .f32) (rt : Vec F S8x240 .f32) :
    FVec F S8x8192 .f32 :=
  subf r (mulf (matmul dot_S8x240_S240x8192_S8x8192_1_0_0_1_n_n none
      (shapeCast S8x240 rt shapeCasts_S8x240_S8x240 : FVec F S8x240 .f32) (onehotB d)
      (constant S8x8192 .f32 0x00000000#32))
    (broadcast S8x8192 s))

/-- The scale, the exponent's factor and the table of a level. -/
structure Level (F : FTy → Type) where
  /-- the scale -/
  s : F .f32
  /-- the exponent's factor -/
  c : F .f32
  /-- the table -/
  tab : Vec F S1x57x240 .f32

/-- The residual before a level. -/
def residAt (p : ℕ → Level F) (l : F .f32) (rn : Vec F S240x8 .f32) (rt : Vec F S8x240 .f32) (q : FVec F S8x8192 .f32) :
    ℕ → FVec F S8x8192 .f32
  | 0 => q
  | n + 1 => residB (residAt p l rn rt q n) (p n).s (distB l rn (scaledB (residAt p l rn rt q n) (p n).s)) rt

/-- A level's distances. -/
def distAt (p : ℕ → Level F) (l : F .f32) (rn : Vec F S240x8 .f32) (rt : Vec F S8x240 .f32) (q : FVec F S8x8192 .f32)
    (n : ℕ) : FVec F S240x8192 .f32 :=
  distB l rn (scaledB (residAt p l rn rt q n) (p n).s)

/-- What is accumulated before a level. -/
def accAt (p : ℕ → Level F) (l : F .f32) (rn : Vec F S240x8 .f32) (rt : Vec F S8x240 .f32) (q : FVec F S8x8192 .f32) :
    ℕ → FVec F S56x8192 .f32
  | 0 => broadcast S56x8192 (Scalar.ofBits .f32 0x00000000#32)
  | n + 1 => accB (accAt p l rn rt q n) (outB (distAt p l rn rt q n) (p n).c (p n).tab)

/-- A one-element block as a number. -/
def oneOf (v : Vec F S1x1 .f32) : F .f32 := extractAt ![0, 0] v inpos_S1x1_p0_0

/-- The levels as the blocks hold them. -/
def levels (x1 : Vec F S1x8 .f32) (x10 : Vec F S8x57x240 .f32) : ℕ → Level F
  | 0 => ⟨oneOf (View.ld x1 r0_7), Scalar.ofBits .f32 0x3F800000#32, View.ld x10 r0_9⟩
  | 1 => ⟨oneOf (View.ld x1 r0_11), Scalar.ofBits .f32 0x3FA00000#32, View.ld x10 r0_12⟩
  | 2 => ⟨oneOf (View.ld x1 r0_13), Scalar.ofBits .f32 0x3FC80000#32, View.ld x10 r0_14⟩
  | 3 => ⟨oneOf (View.ld x1 r0_15), Scalar.ofBits .f32 0x3FFA0000#32, View.ld x10 r0_16⟩
  | 4 => ⟨oneOf (View.ld x1 r0_17), Scalar.ofBits .f32 0x401C4000#32, View.ld x10 r0_18⟩
  | 5 => ⟨oneOf (View.ld x1 r0_19), Scalar.ofBits .f32 0x40435000#32, View.ld x10 r0_20⟩
  | 6 => ⟨oneOf (View.ld x1 r0_21), Scalar.ofBits .f32 0x40742400#32, View.ld x10 r0_22⟩
  | _ => ⟨oneOf (View.ld x1 r0_23), Scalar.ofBits .f32 0x40989680#32, View.ld x10 r0_24⟩

section Block

variable (x0 : Vec F S1x1 .f32) (x1 : Vec F S1x8 .f32) (x2 : Vec F S14x8192 .f32) (x3 : Vec F S32x14 .f32)
  (x4 : Vec F S32x1 .f32) (x5 : Vec F S8x32 .f32) (x6 : Vec F S8x1 .f32) (x7 : Vec F S240x8 .f32)
  (x8 : Vec F S8x240 .f32) (x9 : Vec F S240x1 .f32) (x10 : Vec F S8x57x240 .f32) (x11 : Vec F S52x52 .f32)
  (x12 : Vec F S52x1 .f32) (x13 : Vec F S52x52 .f32) (x14 : Vec F S52x1 .f32)

/-- The block's residual before level `n`. -/
abbrev rAt (n : ℕ) : FVec F S8x8192 .f32 :=
  residAt (levels x1 x10) (oneOf (View.ld x9 r0_6)) (View.ld x7 r0_8) (View.ld x8 r0_10)
    (k0_pay58 x0 x1 x2 x3 x4 x5 x6 x7 x8 x9 x10 x11 x12 x13 x14) n

/-- The block's distances at level `n`. -/
abbrev dAt (n : ℕ) : FVec F S240x8192 .f32 :=
  distAt (levels x1 x10) (oneOf (View.ld x9 r0_6)) (View.ld x7 r0_8) (View.ld x8 r0_10)
    (k0_pay58 x0 x1 x2 x3 x4 x5 x6 x7 x8 x9 x10 x11 x12 x13 x14) n

/-- What the block has accumulated before level `n`. -/
abbrev aAt (n : ℕ) : FVec F S56x8192 .f32 :=
  accAt (levels x1 x10) (oneOf (View.ld x9 r0_6)) (View.ld x7 r0_8) (View.ld x8 r0_10)
    (k0_pay58 x0 x1 x2 x3 x4 x5 x6 x7 x8 x9 x10 x11 x12 x13 x14) n

/-- The residual before the first level. -/
theorem resid0 : (k0_pay58 x0 x1 x2 x3 x4 x5 x6 x7 x8 x9 x10 x11 x12 x13 x14)
    = rAt x0 x1 x2 x3 x4 x5 x6 x7 x8 x9 x10 x11 x12 x13 x14 0 := rfl

/-- The distances at level 0. -/
theorem dist0 : (k0_pay9 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8))
    = dAt x0 x1 x2 x3 x4 x5 x6 x7 x8 x9 x10 x11 x12 x13 x14 0 :=
  (rfl : _ = distB (oneOf (View.ld x9 r0_6)) (View.ld x7 r0_8) (scaledB (k0_pay58 x0 x1 x2 x3 x4 x5 x6 x7 x8 x9 x10 x11 x12 x13 x14) (levels x1 x10 0).s)).trans
    (congrArg (fun r => distB (oneOf (View.ld x9 r0_6)) (View.ld x7 r0_8) (scaledB r (levels x1 x10 0).s))
      (resid0 x0 x1 x2 x3 x4 x5 x6 x7 x8 x9 x10 x11 x12 x13 x14))

/-- The residual before level 1. -/
theorem resid1 : (k0_pay61 x0 x1 x2 x3 x4 x5 x6 x7 x8 x9 x10 x11 x12 x13 x14)
    = rAt x0 x1 x2 x3 x4 x5 x6 x7 x8 x9 x10 x11 x12 x13 x14 1 :=
  (rfl : _ = residB (k0_pay58 x0 x1 x2 x3 x4 x5 x6 x7 x8 x9 x10 x11 x12 x13 x14) (levels x1 x10 0).s (k0_pay9 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8)) (View.ld x8 r0_10)).trans
    (congrArg₂ (fun r d => residB r (levels x1 x10 0).s d (View.ld x8 r0_10))
      (resid0 x0 x1 x2 x3 x4 x5 x6 x7 x8 x9 x10 x11 x12 x13 x14) (dist0 x0 x1 x2 x3 x4 x5 x6 x7 x8 x9 x10 x11 x12 x13 x14))

/-- The distances at level 1. -/
theorem dist1 : (k0_pay62 x0 x1 x2 x3 x4 x5 x6 x7 x8 x9 x10 x11 x12 x13 x14)
    = dAt x0 x1 x2 x3 x4 x5 x6 x7 x8 x9 x10 x11 x12 x13 x14 1 :=
  (rfl : _ = distB (oneOf (View.ld x9 r0_6)) (View.ld x7 r0_8) (scaledB (k0_pay61 x0 x1 x2 x3 x4 x5 x6 x7 x8 x9 x10 x11 x12 x13 x14) (levels x1 x10 1).s)).trans
    (congrArg (fun r => distB (oneOf (View.ld x9 r0_6)) (View.ld x7 r0_8) (scaledB r (levels x1 x10 1).s))
      (resid1 x0 x1 x2 x3 x4 x5 x6 x7 x8 x9 x10 x11 x12 x13 x14))

/-- The residual before level 2. -/
theorem resid2 : (k0_pay64 x0 x1 x2 x3 x4 x5 x6 x7 x8 x9 x10 x11 x12 x13 x14)
    = rAt x0 x1 x2 x3 x4 x5 x6 x7 x8 x9 x10 x11 x12 x13 x14 2 :=
  (rfl : _ = residB (k0_pay61 x0 x1 x2 x3 x4 x5 x6 x7 x8 x9 x10 x11 x12 x13 x14) (levels x1 x10 1).s (k0_pay62 x0 x1 x2 x3 x4 x5 x6 x7 x8 x9 x10 x11 x12 x13 x14) (View.ld x8 r0_10)).trans
    (congrArg₂ (fun r d => residB r (levels x1 x10 1).s d (View.ld x8 r0_10))
      (resid1 x0 x1 x2 x3 x4 x5 x6 x7 x8 x9 x10 x11 x12 x13 x14) (dist1 x0 x1 x2 x3 x4 x5 x6 x7 x8 x9 x10 x11 x12 x13 x14))

/-- The distances at level 2. -/
theorem dist2 : (k0_pay65 x0 x1 x2 x3 x4 x5 x6 x7 x8 x9 x10 x11 x12 x13 x14)
    = dAt x0 x1 x2 x3 x4 x5 x6 x7 x8 x9 x10 x11 x12 x13 x14 2 :=
  (rfl : _ = distB (oneOf (View.ld x9 r0_6)) (View.ld x7 r0_8) (scaledB (k0_pay64 x0 x1 x2 x3 x4 x5 x6 x7 x8 x9 x10 x11 x12 x13 x14) (levels x1 x10 2).s)).trans
    (congrArg (fun r => distB (oneOf (View.ld x9 r0_6)) (View.ld x7 r0_8) (scaledB r (levels x1 x10 2).s))
      (resid2 x0 x1 x2 x3 x4 x5 x6 x7 x8 x9 x10 x11 x12 x13 x14))

/-- The residual before level 3. -/
theorem resid3 : (k0_pay67 x0 x1 x2 x3 x4 x5 x6 x7 x8 x9 x10 x11 x12 x13 x14)
    = rAt x0 x1 x2 x3 x4 x5 x6 x7 x8 x9 x10 x11 x12 x13 x14 3 :=
  (rfl : _ = residB (k0_pay64 x0 x1 x2 x3 x4 x5 x6 x7 x8 x9 x10 x11 x12 x13 x14) (levels x1 x10 2).s (k0_pay65 x0 x1 x2 x3 x4 x5 x6 x7 x8 x9 x10 x11 x12 x13 x14) (View.ld x8 r0_10)).trans
    (congrArg₂ (fun r d => residB r (levels x1 x10 2).s d (View.ld x8 r0_10))
      (resid2 x0 x1 x2 x3 x4 x5 x6 x7 x8 x9 x10 x11 x12 x13 x14) (dist2 x0 x1 x2 x3 x4 x5 x6 x7 x8 x9 x10 x11 x12 x13 x14))

/-- The distances at level 3. -/
theorem dist3 : (k0_pay29 (k0_pay68 x0 x1 x2 x3 x4 x5 x6 x7 x8 x9 x10 x11 x12 x13 x14) (Scalar.ofBits .f32 0x00000000#32))
    = dAt x0 x1 x2 x3 x4 x5 x6 x7 x8 x9 x10 x11 x12 x13 x14 3 :=
  (rfl : _ = distB (oneOf (View.ld x9 r0_6)) (View.ld x7 r0_8) (scaledB (k0_pay67 x0 x1 x2 x3 x4 x5 x6 x7 x8 x9 x10 x11 x12 x13 x14) (levels x1 x10 3).s)).trans
    (congrArg (fun r => distB (oneOf (View.ld x9 r0_6)) (View.ld x7 r0_8) (scaledB r (levels x1 x10 3).s))
      (resid3 x0 x1 x2 x3 x4 x5 x6 x7 x8 x9 x10 x11 x12 x13 x14))

/-- The residual before level 4. -/
theorem resid4 : (k0_pay32 (k0_pay59 x0 x1 x2 x3 x4 x5 x6 x7 x8 x9 x10 x11 x12 x13 x14) (k0_pay67 x0 x1 x2 x3 x4 x5 x6 x7 x8 x9 x10 x11 x12 x13 x14) (k0_pay27 (View.ld x1 r0_15)) (k0_pay68 x0 x1 x2 x3 x4 x5 x6 x7 x8 x9 x10 x11 x12 x13 x14) (Scalar.ofBits .f32 0x00000000#32) (View.ld x8 r0_10))
    = rAt x0 x1 x2 x3 x4 x5 x6 x7 x8 x9 x10 x11 x12 x13 x14 4 :=
  (rfl : _ = residB (k0_pay67 x0 x1 x2 x3 x4 x5 x6 x7 x8 x9 x10 x11 x12 x13 x14) (levels x1 x10 3).s (k0_pay29 (k0_pay68 x0 x1 x2 x3 x4 x5 x6 x7 x8 x9 x10 x11 x12 x13 x14) (Scalar.ofBits .f32 0x00000000#32)) (View.ld x8 r0_10)).trans
    (congrArg₂ (fun r d => residB r (levels x1 x10 3).s d (View.ld x8 r0_10))
      (resid3 x0 x1 x2 x3 x4 x5 x6 x7 x8 x9 x10 x11 x12 x13 x14) (dist3 x0 x1 x2 x3 x4 x5 x6 x7 x8 x9 x10 x11 x12 x13 x14))

/-- The distances at level 4. -/
theorem dist4 : (k0_pay37 (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8))
    = dAt x0 x1 x2 x3 x4 x5 x6 x7 x8 x9 x10 x11 x12 x13 x14 4 :=
  (rfl : _ = distB (oneOf (View.ld x9 r0_6)) (View.ld x7 r0_8) (scaledB (k0_pay32 (k0_pay59 x0 x1 x2 x3 x4 x5 x6 x7 x8 x9 x10 x11 x12 x13 x14) (k0_pay67 x0 x1 x2 x3 x4 x5 x6 x7 x8 x9 x10 x11 x12 x13 x14) (k0_pay27 (View.ld x1 r0_15)) (k0_pay68 x0 x1 x2 x3 x4 x5 x6 x7 x8 x9 x10 x11 x12 x13 x14) (Scalar.ofBits .f32 0x00000000#32) (View.ld x8 r0_10)) (levels x1 x10 4).s)).trans
    (congrArg (fun r => distB (oneOf (View.ld x9 r0_6)) (View.ld x7 r0_8) (scaledB r (levels x1 x10 4).s))
      (resid4 x0 x1 x2 x3 x4 x5 x6 x7 x8 x9 x10 x11 x12 x13 x14))

/-- The residual before level 5. -/
theorem resid5 : (k0_pay72 x0 x1 x2 x3 x4 x5 x6 x7 x8 x9 x10 x11 x12 x13 x14)
    = rAt x0 x1 x2 x3 x4 x5 x6 x7 x8 x9 x10 x11 x12 x13 x14 5 :=
  (rfl : _ = residB (k0_pay32 (k0_pay59 x0 x1 x2 x3 x4 x5 x6 x7 x8 x9 x10 x11 x12 x13 x14) (k0_pay67 x0 x1 x2 x3 x4 x5 x6 x7 x8 x9 x10 x11 x12 x13 x14) (k0_pay27 (View.ld x1 r0_15)) (k0_pay68 x0 x1 x2 x3 x4 x5 x6 x7 x8 x9 x10 x11 x12 x13 x14) (Scalar.ofBits .f32 0x00000000#32) (View.ld x8 r0_10)) (levels x1 x10 4).s (k0_pay37 (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8)) (View.ld x8 r0_10)).trans
    (congrArg₂ (fun r d => residB r (levels x1 x10 4).s d (View.ld x8 r0_10))
      (resid4 x0 x1 x2 x3 x4 x5 x6 x7 x8 x9 x10 x11 x12 x13 x14) (dist4 x0 x1 x2 x3 x4 x5 x6 x7 x8 x9 x10 x11 x12 x13 x14))

/-- The distances at level 5. -/
theorem dist5 : (k0_pay42 (k0_pay6 (View.ld x9 r0_6)) (k0_pay72 x0 x1 x2 x3 x4 x5 x6 x7 x8 x9 x10 x11 x12 x13 x14) (View.ld x1 r0_19) (View.ld x7 r0_8))
    = dAt x0 x1 x2 x3 x4 x5 x6 x7 x8 x9 x10 x11 x12 x13 x14 5 :=
  (rfl : _ = distB (oneOf (View.ld x9 r0_6)) (View.ld x7 r0_8) (scaledB (k0_pay72 x0 x1 x2 x3 x4 x5 x6 x7 x8 x9 x10 x11 x12 x13 x14) (levels x1 x10 5).s)).trans
    (congrArg (fun r => distB (oneOf (View.ld x9 r0_6)) (View.ld x7 r0_8) (scaledB r (levels x1 x10 5).s))
      (resid5 x0 x1 x2 x3 x4 x5 x6 x7 x8 x9 x10 x11 x12 x13 x14))

/-- The residual before level 6. -/
theorem resid6 : (k0_pay74 x0 x1 x2 x3 x4 x5 x6 x7 x8 x9 x10 x11 x12 x13 x14)
    = rAt x0 x1 x2 x3 x4 x5 x6 x7 x8 x9 x10 x11 x12 x13 x14 6 :=
  (rfl : _ = residB (k0_pay72 x0 x1 x2 x3 x4 x5 x6 x7 x8 x9 x10 x11 x12 x13 x14) (levels x1 x10 5).s (k0_pay42 (k0_pay6 (View.ld x9 r0_6)) (k0_pay72 x0 x1 x2 x3 x4 x5 x6 x7 x8 x9 x10 x11 x12 x13 x14) (View.ld x1 r0_19) (View.ld x7 r0_8)) (View.ld x8 r0_10)).trans
    (congrArg₂ (fun r d => residB r (levels x1 x10 5).s d (View.ld x8 r0_10))
      (resid5 x0 x1 x2 x3 x4 x5 x6 x7 x8 x9 x10 x11 x12 x13 x14) (dist5 x0 x1 x2 x3 x4 x5 x6 x7 x8 x9 x10 x11 x12 x13 x14))

/-- The distances at level 6. -/
theorem dist6 : (k0_pay48 (k0_pay6 (View.ld x9 r0_6)) (k0_pay72 x0 x1 x2 x3 x4 x5 x6 x7 x8 x9 x10 x11 x12 x13 x14) (k0_pay41 (View.ld x1 r0_19)) (k0_pay73 x0 x1 x2 x3 x4 x5 x6 x7 x8 x9 x10 x11 x12 x13 x14) (View.ld x8 r0_10) (View.ld x1 r0_21) (View.ld x7 r0_8))
    = dAt x0 x1 x2 x3 x4 x5 x6 x7 x8 x9 x10 x11 x12 x13 x14 6 :=
  (rfl : _ = distB (oneOf (View.ld x9 r0_6)) (View.ld x7 r0_8) (scaledB (k0_pay74 x0 x1 x2 x3 x4 x5 x6 x7 x8 x9 x10 x11 x12 x13 x14) (levels x1 x10 6).s)).trans
    (congrArg (fun r => distB (oneOf (View.ld x9 r0_6)) (View.ld x7 r0_8) (scaledB r (levels x1 x10 6).s))
      (resid6 x0 x1 x2 x3 x4 x5 x6 x7 x8 x9 x10 x11 x12 x13 x14))

/-- The residual before level 7. -/
theorem resid7 : (residB (k0_pay74 x0 x1 x2 x3 x4 x5 x6 x7 x8 x9 x10 x11 x12 x13 x14) (levels x1 x10 6).s (k0_pay48 (k0_pay6 (View.ld x9 r0_6)) (k0_pay72 x0 x1 x2 x3 x4 x5 x6 x7 x8 x9 x10 x11 x12 x13 x14) (k0_pay41 (View.ld x1 r0_19)) (k0_pay73 x0 x1 x2 x3 x4 x5 x6 x7 x8 x9 x10 x11 x12 x13 x14) (View.ld x8 r0_10) (View.ld x1 r0_21) (View.ld x7 r0_8)) (View.ld x8 r0_10))
    = rAt x0 x1 x2 x3 x4 x5 x6 x7 x8 x9 x10 x11 x12 x13 x14 7 :=
  (rfl : _ = residB (k0_pay74 x0 x1 x2 x3 x4 x5 x6 x7 x8 x9 x10 x11 x12 x13 x14) (levels x1 x10 6).s (k0_pay48 (k0_pay6 (View.ld x9 r0_6)) (k0_pay72 x0 x1 x2 x3 x4 x5 x6 x7 x8 x9 x10 x11 x12 x13 x14) (k0_pay41 (View.ld x1 r0_19)) (k0_pay73 x0 x1 x2 x3 x4 x5 x6 x7 x8 x9 x10 x11 x12 x13 x14) (View.ld x8 r0_10) (View.ld x1 r0_21) (View.ld x7 r0_8)) (View.ld x8 r0_10)).trans
    (congrArg₂ (fun r d => residB r (levels x1 x10 6).s d (View.ld x8 r0_10))
      (resid6 x0 x1 x2 x3 x4 x5 x6 x7 x8 x9 x10 x11 x12 x13 x14) (dist6 x0 x1 x2 x3 x4 x5 x6 x7 x8 x9 x10 x11 x12 x13 x14))

/-- The last level's weighted table. -/
theorem out7 : (k0_pay77 x0 x1 x2 x3 x4 x5 x6 x7 x8 x9 x10 x11 x12 x13 x14)
    = outB (dAt x0 x1 x2 x3 x4 x5 x6 x7 x8 x9 x10 x11 x12 x13 x14 7) (levels x1 x10 7).c (levels x1 x10 7).tab :=
  (rfl : _ = outB (distB (oneOf (View.ld x9 r0_6)) (View.ld x7 r0_8) (scaledB (residB (k0_pay74 x0 x1 x2 x3 x4 x5 x6 x7 x8 x9 x10 x11 x12 x13 x14) (levels x1 x10 6).s (k0_pay48 (k0_pay6 (View.ld x9 r0_6)) (k0_pay72 x0 x1 x2 x3 x4 x5 x6 x7 x8 x9 x10 x11 x12 x13 x14) (k0_pay41 (View.ld x1 r0_19)) (k0_pay73 x0 x1 x2 x3 x4 x5 x6 x7 x8 x9 x10 x11 x12 x13 x14) (View.ld x8 r0_10) (View.ld x1 r0_21) (View.ld x7 r0_8)) (View.ld x8 r0_10)) (levels x1 x10 7).s)) (levels x1 x10 7).c (levels x1 x10 7).tab).trans
    (congrArg (fun r => outB (distB (oneOf (View.ld x9 r0_6)) (View.ld x7 r0_8) (scaledB r (levels x1 x10 7).s)) (levels x1 x10 7).c (levels x1 x10 7).tab)
      (resid7 x0 x1 x2 x3 x4 x5 x6 x7 x8 x9 x10 x11 x12 x13 x14))

/-- Nothing is accumulated before the first level. -/
theorem acc0 : (broadcast S56x8192 (Scalar.ofBits .f32 0x00000000#32) : FVec F S56x8192 .f32)
    = aAt x0 x1 x2 x3 x4 x5 x6 x7 x8 x9 x10 x11 x12 x13 x14 0 := rfl

/-- What is accumulated before level 1. -/
theorem acc1 : (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9))
    = aAt x0 x1 x2 x3 x4 x5 x6 x7 x8 x9 x10 x11 x12 x13 x14 1 :=
  (rfl : _ = accB (broadcast S56x8192 (Scalar.ofBits .f32 0x00000000#32) : FVec F S56x8192 .f32) (outB (k0_pay9 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8)) (levels x1 x10 0).c (levels x1 x10 0).tab)).trans
    (congrArg₂ (fun a d => accB a (outB d (levels x1 x10 0).c (levels x1 x10 0).tab))
      (acc0 x0 x1 x2 x3 x4 x5 x6 x7 x8 x9 x10 x11 x12 x13 x14) (dist0 x0 x1 x2 x3 x4 x5 x6 x7 x8 x9 x10 x11 x12 x13 x14))

/-- What is accumulated before level 2. -/
theorem acc2 : (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)))
    = aAt x0 x1 x2 x3 x4 x5 x6 x7 x8 x9 x10 x11 x12 x13 x14 2 :=
  (rfl : _ = accB (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (outB (k0_pay62 x0 x1 x2 x3 x4 x5 x6 x7 x8 x9 x10 x11 x12 x13 x14) (levels x1 x10 1).c (levels x1 x10 1).tab)).trans
    (congrArg₂ (fun a d => accB a (outB d (levels x1 x10 1).c (levels x1 x10 1).tab))
      (acc1 x0 x1 x2 x3 x4 x5 x6 x7 x8 x9 x10 x11 x12 x13 x14) (dist1 x0 x1 x2 x3 x4 x5 x6 x7 x8 x9 x10 x11 x12 x13 x14))

/-- What is accumulated before level 3. -/
theorem acc3 : (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14))
    = aAt x0 x1 x2 x3 x4 x5 x6 x7 x8 x9 x10 x11 x12 x13 x14 3 :=
  (rfl : _ = accB (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (outB (k0_pay65 x0 x1 x2 x3 x4 x5 x6 x7 x8 x9 x10 x11 x12 x13 x14) (levels x1 x10 2).c (levels x1 x10 2).tab)).trans
    (congrArg₂ (fun a d => accB a (outB d (levels x1 x10 2).c (levels x1 x10 2).tab))
      (acc2 x0 x1 x2 x3 x4 x5 x6 x7 x8 x9 x10 x11 x12 x13 x14) (dist2 x0 x1 x2 x3 x4 x5 x6 x7 x8 x9 x10 x11 x12 x13 x14))

/-- What is accumulated before level 4. -/
theorem acc4 : (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16))
    = aAt x0 x1 x2 x3 x4 x5 x6 x7 x8 x9 x10 x11 x12 x13 x14 4 :=
  (rfl : _ = accB (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (outB (k0_pay29 (k0_pay68 x0 x1 x2 x3 x4 x5 x6 x7 x8 x9 x10 x11 x12 x13 x14) (Scalar.ofBits .f32 0x00000000#32)) (levels x1 x10 3).c (levels x1 x10 3).tab)).trans
    (congrArg₂ (fun a d => accB a (outB d (levels x1 x10 3).c (levels x1 x10 3).tab))
      (acc3 x0 x1 x2 x3 x4 x5 x6 x7 x8 x9 x10 x11 x12 x13 x14) (dist3 x0 x1 x2 x3 x4 x5 x6 x7 x8 x9 x10 x11 x12 x13 x14))

/-- What is accumulated before level 5. -/
theorem acc5 : (k0_pay39 (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16)) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8) (View.ld x10 r0_18))
    = aAt x0 x1 x2 x3 x4 x5 x6 x7 x8 x9 x10 x11 x12 x13 x14 5 :=
  (rfl : _ = accB (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16)) (outB (k0_pay37 (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8)) (levels x1 x10 4).c (levels x1 x10 4).tab)).trans
    (congrArg₂ (fun a d => accB a (outB d (levels x1 x10 4).c (levels x1 x10 4).tab))
      (acc4 x0 x1 x2 x3 x4 x5 x6 x7 x8 x9 x10 x11 x12 x13 x14) (dist4 x0 x1 x2 x3 x4 x5 x6 x7 x8 x9 x10 x11 x12 x13 x14))

/-- What is accumulated before level 6. -/
theorem acc6 : (k0_pay44 (k0_pay6 (View.ld x9 r0_6)) (k0_pay39 (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16)) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8) (View.ld x10 r0_18)) (k0_pay72 x0 x1 x2 x3 x4 x5 x6 x7 x8 x9 x10 x11 x12 x13 x14) (View.ld x1 r0_19) (View.ld x7 r0_8) (View.ld x10 r0_20))
    = aAt x0 x1 x2 x3 x4 x5 x6 x7 x8 x9 x10 x11 x12 x13 x14 6 :=
  (rfl : _ = accB (k0_pay39 (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16)) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8) (View.ld x10 r0_18)) (outB (k0_pay42 (k0_pay6 (View.ld x9 r0_6)) (k0_pay72 x0 x1 x2 x3 x4 x5 x6 x7 x8 x9 x10 x11 x12 x13 x14) (View.ld x1 r0_19) (View.ld x7 r0_8)) (levels x1 x10 5).c (levels x1 x10 5).tab)).trans
    (congrArg₂ (fun a d => accB a (outB d (levels x1 x10 5).c (levels x1 x10 5).tab))
      (acc5 x0 x1 x2 x3 x4 x5 x6 x7 x8 x9 x10 x11 x12 x13 x14) (dist5 x0 x1 x2 x3 x4 x5 x6 x7 x8 x9 x10 x11 x12 x13 x14))

/-- What is accumulated before level 7. -/
theorem acc7 : (k0_pay75 x0 x1 x2 x3 x4 x5 x6 x7 x8 x9 x10 x11 x12 x13 x14)
    = aAt x0 x1 x2 x3 x4 x5 x6 x7 x8 x9 x10 x11 x12 x13 x14 7 :=
  (rfl : _ = accB (k0_pay44 (k0_pay6 (View.ld x9 r0_6)) (k0_pay39 (k0_pay31 (k0_pay25 (k0_pay19 (k0_pay11 (k0_pay56 x0 x1 x2 x3 x4 x5 x6 x7 x8 x9 x10 x11 x12 x13 x14) (k0_pay57 x0 x1 x2 x3 x4 x5 x6 x7 x8 x9 x10 x11 x12 x13 x14) (View.ld x9 r0_6) (View.ld x1 r0_7) (View.ld x7 r0_8) (View.ld x10 r0_9)) (k0_pay17 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12)) (k0_pay18 (k0_pay58 x0 x1 x2 x3 x4 x5 x6 x7 x8 x9 x10 x11 x12 x13 x14) (k0_pay6 (View.ld x9 r0_6)) (k0_pay59 x0 x1 x2 x3 x4 x5 x6 x7 x8 x9 x10 x11 x12 x13 x14) (k0_pay8 (View.ld x1 r0_7)) (k0_pay60 x0 x1 x2 x3 x4 x5 x6 x7 x8 x9 x10 x11 x12 x13 x14) (Scalar.ofBits .f32 0x43700000#32) (View.ld x8 r0_10) (View.ld x1 r0_11) (View.ld x7 r0_8) (View.ld x10 r0_12))) (k0_pay24 (k0_pay6 (View.ld x9 r0_6)) (k0_pay59 x0 x1 x2 x3 x4 x5 x6 x7 x8 x9 x10 x11 x12 x13 x14) (k0_pay61 x0 x1 x2 x3 x4 x5 x6 x7 x8 x9 x10 x11 x12 x13 x14) (k0_pay14 (View.ld x1 r0_11)) (k0_pay62 x0 x1 x2 x3 x4 x5 x6 x7 x8 x9 x10 x11 x12 x13 x14) (k0_pay63 x0 x1 x2 x3 x4 x5 x6 x7 x8 x9 x10 x11 x12 x13 x14) (View.ld x8 r0_10) (View.ld x1 r0_13) (View.ld x7 r0_8)) (View.ld x10 r0_14)) (k0_pay68 x0 x1 x2 x3 x4 x5 x6 x7 x8 x9 x10 x11 x12 x13 x14) (Scalar.ofBits .f32 0x00000000#32) (View.ld x10 r0_16)) (k0_pay69 x0 x1 x2 x3 x4 x5 x6 x7 x8 x9 x10 x11 x12 x13 x14) (k0_pay70 x0 x1 x2 x3 x4 x5 x6 x7 x8 x9 x10 x11 x12 x13 x14) (k0_pay71 x0 x1 x2 x3 x4 x5 x6 x7 x8 x9 x10 x11 x12 x13 x14) (View.ld x7 r0_8) (View.ld x10 r0_18)) (k0_pay72 x0 x1 x2 x3 x4 x5 x6 x7 x8 x9 x10 x11 x12 x13 x14) (View.ld x1 r0_19) (View.ld x7 r0_8) (View.ld x10 r0_20)) (outB (k0_pay48 (k0_pay6 (View.ld x9 r0_6)) (k0_pay72 x0 x1 x2 x3 x4 x5 x6 x7 x8 x9 x10 x11 x12 x13 x14) (k0_pay41 (View.ld x1 r0_19)) (k0_pay73 x0 x1 x2 x3 x4 x5 x6 x7 x8 x9 x10 x11 x12 x13 x14) (View.ld x8 r0_10) (View.ld x1 r0_21) (View.ld x7 r0_8)) (levels x1 x10 6).c (levels x1 x10 6).tab)).trans
    (congrArg₂ (fun a d => accB a (outB d (levels x1 x10 6).c (levels x1 x10 6).tab))
      (acc6 x0 x1 x2 x3 x4 x5 x6 x7 x8 x9 x10 x11 x12 x13 x14) (dist6 x0 x1 x2 x3 x4 x5 x6 x7 x8 x9 x10 x11 x12 x13 x14))

/-- What is accumulated at the end. -/
theorem acc8 : k0_pay54 (k0_pay75 x0 x1 x2 x3 x4 x5 x6 x7 x8 x9 x10 x11 x12 x13 x14) (k0_pay77 x0 x1 x2 x3 x4 x5 x6 x7 x8 x9 x10 x11 x12 x13 x14) (k0_pay78 x0 x1 x2 x3 x4 x5 x6 x7 x8 x9 x10 x11 x12 x13 x14)
    = aAt x0 x1 x2 x3 x4 x5 x6 x7 x8 x9 x10 x11 x12 x13 x14 8 :=
  (rfl : _ = accB (k0_pay75 x0 x1 x2 x3 x4 x5 x6 x7 x8 x9 x10 x11 x12 x13 x14) (k0_pay77 x0 x1 x2 x3 x4 x5 x6 x7 x8 x9 x10 x11 x12 x13 x14)).trans
    (congrArg₂ accB (acc7 x0 x1 x2 x3 x4 x5 x6 x7 x8 x9 x10 x11 x12 x13 x14) (out7 x0 x1 x2 x3 x4 x5 x6 x7 x8 x9 x10 x11 x12 x13 x14))

end Block

end Cert.Rcpl.Ker

end
-- ==== Proof.Net.lean ====
/- The two small networks at one row of the batch, over the extended reals. -/
module

public import proofs.«01_k».proof.Proof.Row

@[expose] public section

noncomputable section

namespace Cert.Rcpl.Row

open Idealize.ShloMosaic

/-- The tanh approximation of gelu. -/
def gelu (u : EReal) : EReal :=
  u * (Ideal.ofBits .f32 0x3F000000#32 * (1 + Ideal.tanh (Ideal.ofBits .f32 0x3F4C422A#32
    * (u + Ideal.ofBits .f32 0x3D372713#32 * (u * u * u)))))

/-- Two layers with a gelu between them. -/
def layers {a b c : ℕ} (x : Fin a → EReal) (w₁ : Fin b → Fin a → EReal) (b₁ : Fin b → EReal)
    (w₂ : Fin c → Fin b → EReal) (b₂ : Fin c → EReal) (k : Fin c) : EReal :=
  ∑ m, gelu (∑ i, x i * w₁ m i + b₁ m) * w₂ k m + b₂ k

/-- A row of eight scaled to norm √2. -/
def normRow (q : Fin 8 → EReal) (k : Fin 8) : EReal :=
  Ideal.div (q k) (Ideal.sqrt (∑ i, q i * q i) + Ideal.ofBits .f32 0x2B8CBCCC#32) * Ideal.ofBits .f32 0x3FB504F3#32

end Cert.Rcpl.Row

end
-- ==== Proof.KerAt.lean ====
/- The kernel's level, read at a row and a column of the block. -/
module

public import proofs.«01_k».proof.Proof.KerStep
public import proofs.«01_k».proof.Proof.Net
public import Idealize.ShloMosaic.Lib.Pointwise

@[expose] public section

set_option maxRecDepth 16384

noncomputable section

namespace Cert.Rcpl.Ker

open Cert.KernelIdeal Cert.KernelIdeal.Gen Idealize.ShloMosaic Idealize.ShloMosaic.TcCoe Idealize.SL.Sem

/-- The distances of a column. -/
theorem dist_at (l : EReal) (rn : FVec Ideal S240x8 .f32) (x : FVec Ideal S8x8192 .f32) (n : Fin 240) (j : Fin 8192) :
    distB (F := Ideal) l rn x (ix2 n j) = Row.kDist l (fun n k => rn (ix2 n k)) (fun k => x (ix2 k j)) n := by
  unfold Row.kDist
  pointwise [distB]

/-- The residual in units of the scale. -/
theorem scaled_at (r : FVec Ideal S8x8192 .f32) (s : EReal) (k : Fin 8) (j : Fin 8192) :
    scaledB (F := Ideal) r s (ix2 k j) = Ideal.div (r (ix2 k j)) s := by
  pointwise [scaledB]

/-- The least distance of a column. -/
theorem least_at (d : FVec Ideal S240x8192 .f32) (j : Fin 8192) :
    leastB (F := Ideal) d (ix2 0 j) = Row.least fun n => d (ix2 n j) := by
  unfold Row.least
  pointwise [leastB]

/-- The weights of a column. -/
theorem weight_at (d : FVec Ideal S240x8192 .f32) (c : EReal) (n : Fin 240) (j : Fin 8192) :
    weightB (F := Ideal) d c (ix2 n j) = Row.kWeight (fun n => d (ix2 n j)) c n := by
  unfold Row.kWeight
  rw [← least_at]
  pointwise [weightB]

/-- The table applied to the weights. -/
theorem out_at (d : FVec Ideal S240x8192 .f32) (c : EReal) (tab : FVec Ideal S1x57x240 .f32) (o : Fin 57) (j : Fin 8192) :
    outB (F := Ideal) d c tab (ix2 o j) = ∑ n, tab (ix3 0 o n) * Row.kWeight (fun n => d (ix2 n j)) c n := by
  simp only [← weight_at]
  pointwise [outB]

/-- The accumulated rows after a level. -/
theorem acc_at (a : FVec Ideal S56x8192 .f32) (u : FVec Ideal S57x8192 .f32) (o : Fin 56) (j : Fin 8192) :
    accB (F := Ideal) a u (ix2 o j)
      = a (ix2 o j) + u (ix2 ⟨o, by omega⟩ j) * Ideal.div 1 (u (ix2 56 j)) := by
  pointwise [accB]

end Cert.Rcpl.Ker

end
-- ==== Proof.KerPick.lean ====
/- The kernel's choice of a root and the residual, read at a row and a column of the block. -/
module

public import proofs.«01_k».proof.Proof.KerAt
public import proofs.«01_k».proof.Proof.Net
public import Idealize.ShloMosaic.Lib.Pointwise

@[expose] public section

set_option maxRecDepth 16384

noncomputable section

namespace Cert.Rcpl.Ker

open Cert.KernelIdeal Cert.KernelIdeal.Gen Idealize.ShloMosaic Idealize.ShloMosaic.TcCoe Idealize.SL.Sem

/-- The positions of a column that hold the least distance, and 240 elsewhere. -/
theorem mark_at (d : FVec Ideal S240x8192 .f32) (w : FVec Ideal S1x8192 .f32) (n : Fin 240) (j : Fin 8192) :
    select (cmpf .oeq d (broadcastTo S240x8192 w broadcasts_S1x8192_S240x8192)) (k0_pay7 (F := Ideal))
        (broadcast S240x8192 (Scalar.ofBits .f32 0x43700000#32) : FVec Ideal S240x8192 .f32) (ix2 n j)
      = if d (ix2 n j) = w (ix2 0 j) then Row.pos n else Ideal.ofBits .f32 0x43700000#32 := by
  pointwise [k0_pay7]
  rfl

/-- The first position of a column's least distance. -/
theorem first_at (d : FVec Ideal S240x8192 .f32) (j : Fin 8192) :
    firstB (F := Ideal) d (ix2 0 j) = Row.kFirst fun n => d (ix2 n j) := by
  unfold firstB Row.kFirst
  rw [least_at]
  congr 1
  funext n
  rw [mark_at, least_at]

/-- The selector of a column, from a row of positions. -/
theorem hotOf_at (w : FVec Ideal S1x8192 .f32) (n : Fin 240) (j : Fin 8192) :
    truncf .bf16 (sitofp .f32 (extui 32 (cmpf .oeq (k0_pay7 (F := Ideal))
      (broadcastTo S240x8192 w broadcasts_S1x8192_S240x8192)) natLt_1_32) : FVec Ideal S240x8192 .f32) bitsLt_bf16_f32 (ix2 n j)
      = FloatOps.sitofp (F := Ideal) .f32 (BitVec.setWidth 32 (BitVec.ofBool (decide (Row.pos n = w (ix2 0 j))))) := by
  pointwise [k0_pay7]
  rfl

/-- The selector of a column. -/
theorem onehot_at (d : FVec Ideal S240x8192 .f32) (n : Fin 240) (j : Fin 8192) :
    onehotB (F := Ideal) d (ix2 n j) = Row.kHot (fun n => d (ix2 n j)) n := by
  unfold onehotB Row.kHot
  rw [hotOf_at, first_at]

/-- The residual after a level. -/
theorem resid_at (r : FVec Ideal S8x8192 .f32) (s : EReal) (d : FVec Ideal S240x8192 .f32) (rt : FVec Ideal S8x240 .f32)
    (k : Fin 8) (j : Fin 8192) :
    residB (F := Ideal) r s d rt (ix2 k j)
      = r (ix2 k j) - (∑ n, rt (ix2 k n) * Row.kHot (fun n => d (ix2 n j)) n) * s := by
  simp only [← onehot_at]
  unfold residB
  generalize onehotB (F := Ideal) d = h
  pointwise []

end Cert.Rcpl.Ker

end
-- ==== Proof.Levels.lean ====
/- The levels of the two programs, side by side at one row of the batch. -/
module

public import proofs.«01_k».proof.Proof.RowStep
public import proofs.«01_k».proof.Proof.RefVal
public import proofs.«01_k».proof.Proof.RefAt
public import proofs.«01_k».proof.Proof.RefPick
public import proofs.«01_k».proof.Proof.KerStep
public import proofs.«01_k».proof.Proof.KerPick

@[expose] public section

set_option maxRecDepth 16384

noncomputable section

namespace Cert.Rcpl

open Idealize.ShloMosaic Idealize.ShloMosaic.TcCoe Idealize.SL.Sem

/-- A level of the two programs: one scale, reciprocal temperatures, and the kernel's table made of the reference's,
scaled; `f` is the factor of the control. -/
structure Agree (p : Ker.Level Ideal) (p' : Ref.Level Ideal) (f : EReal) : Prop where
  /-- the scale -/
  s : p'.s ix0 = p.s
  /-- the factors -/
  factors : Row.Factors p.s p.s ∧ Row.Factors p.s f
  /-- the temperature -/
  t : ∃ τ : ℝ, 0 < τ ∧ p'.t ix0 = τ ∧ p.c = ((1 / τ : ℝ) : EReal)
  /-- the embedding's rows of the table -/
  e : ∀ (o : Fin 52) (n : Fin 240), p.tab (ix3 0 ⟨o, by omega⟩ n) = p'.e (ix2 n o) * p.s
  /-- the control's rows of the table -/
  c : ∀ (o : Fin 4) (n : Fin 240), p.tab (ix3 0 ⟨52 + o, by omega⟩ n) = p'.c (ix2 n o) * f
  /-- the table's last row -/
  one : ∀ n : Fin 240, p.tab (ix3 0 56 n) = 1

variable {p : Ker.Level Ideal} {p' : Ref.Level Ideal} {f : EReal}
variable {len : FVec Ideal Cert.ReferenceIdeal.S1x240 .f32} {R : FVec Ideal Cert.ReferenceIdeal.S240x8 .f32}
  {rn : FVec Ideal Cert.KernelIdeal.S240x8 .f32} {rt : FVec Ideal Cert.KernelIdeal.S8x240 .f32}

/-- The reference's distances at a row. -/
theorem refDist_at (r : FVec Ideal Cert.ReferenceIdeal.S16384x8 .f32) (s : FVec Ideal Cert.ReferenceIdeal.S_ .f32)
    (i : Fin 16384) (n : Fin 240) :
    Ref.distArr (F := Ideal) len R (Ref.scaledArr (F := Ideal) r s) (ix2 i n)
      = Row.rDist (fun n => len (ix2 0 n)) (fun n k => R (ix2 n k)) (fun k => Ideal.div (r (ix2 i k)) (s ix0)) n := by
  rw [Ref.dist_at]
  exact congrArg (fun x => Row.rDist _ _ x n) (funext fun k => Ref.scaled_at r s i k)

/-- The kernel's distances at a column. -/
theorem kerDist_at (l : EReal) (r : FVec Ideal Cert.KernelIdeal.S8x8192 .f32) (s : EReal) (j : Fin 8192) (n : Fin 240) :
    Ker.distB (F := Ideal) l rn (Ker.scaledB (F := Ideal) r s) (ix2 n j)
      = Row.kDist l (fun n k => rn (ix2 n k)) (fun k => Ideal.div (r (ix2 k j)) s) n := by
  rw [Ker.dist_at]
  exact congrArg (fun x => Row.kDist _ _ x n) (funext fun k => Ker.scaled_at r s k j)

section Step

variable (A : Agree p p' f)
  (H : Row.Roots (fun n => len (ix2 0 n)) (fun n k => R (ix2 n k)) (fun n k => rn (ix2 n k)))
  (hrt : ∀ k n, rt (ix2 k n) = R (ix2 n k))
  {r' : FVec Ideal Cert.ReferenceIdeal.S16384x8 .f32} {r : FVec Ideal Cert.KernelIdeal.S8x8192 .f32}
  {i : Fin 16384} {j : Fin 8192} (hr : ∀ k, ∃ ξ : ℝ, r' (ix2 i k) = ξ ∧ r (ix2 k j) = ξ)

include A H hr

/-- A level's residual. -/
theorem step_resid (hrt : ∀ k n, rt (ix2 k n) = R (ix2 n k)) (k : Fin 8) :
    ∃ ξ : ℝ, Ref.residArr (F := Ideal) r' (Ref.rowsAt (F := Ideal) R (Ref.nearestArr (F := Ideal)
        (Ref.distArr (F := Ideal) len R (Ref.scaledArr (F := Ideal) r' p'.s)))) p'.s (ix2 i k) = ξ
      ∧ Ker.residB (F := Ideal) r p.s (Ker.distB (F := Ideal) (len (ix2 0 0)) rn (Ker.scaledB (F := Ideal) r p.s)) rt
          (ix2 k j) = ξ := by
  have hk : ∀ k, r (ix2 k j) = r' (ix2 i k) := fun k => by obtain ⟨ξ, h, h'⟩ := hr k; rw [h, h']
  have hD := refDist_at (len := len) (R := R) r' p'.s i
  generalize hd : Ref.distArr (F := Ideal) len R (Ref.scaledArr (F := Ideal) r' p'.s) = d at hD ⊢
  rw [Ref.resid_at, Ker.resid_at]
  simp only [kerDist_at, hrt, hk]
  rw [A.s] at hD ⊢
  refine H.resid (fun k => r' (ix2 i k)) (fun k => Ref.rowsAt (F := Ideal) R (Ref.nearestArr (F := Ideal) d) (ix2 i k))
    (fun k => (hr k).imp fun _ h => h.1) A.factors.1 (fun hn => ?_) k
  obtain ⟨m, hm, e⟩ := Ref.nearest_at d i fun n => (hD n) ▸ hn n
  rw [funext hD] at hm
  exact ⟨m, hm, fun k => Ref.rows_at R _ i k m e⟩

/-- What the kernel's level adds at a row of its accumulator, over the table's row `t` scaled by `g`. -/
theorem step_add {g : EReal} (hg : Row.Factors p.s g) (t : Fin 240 → EReal) (o : Fin 56)
    (ht : ∀ n, p.tab (ix3 0 ⟨o, by omega⟩ n) = t n * g) (a : FVec Ideal Cert.KernelIdeal.S56x8192 .f32) :
    Ker.accB (F := Ideal) a (Ker.outB (F := Ideal)
        (Ker.distB (F := Ideal) (len (ix2 0 0)) rn (Ker.scaledB (F := Ideal) r p.s)) p.c p.tab) (ix2 o j)
      = a (ix2 o j) + (∑ n, Ref.attnArr (F := Ideal) (Ref.distArr (F := Ideal) len R
          (Ref.scaledArr (F := Ideal) r' p'.s)) p'.t (ix2 i n) * t n) * g := by
  have hk : ∀ k, r (ix2 k j) = r' (ix2 i k) := fun k => by obtain ⟨ξ, h, h'⟩ := hr k; rw [h, h']
  obtain ⟨τ, hτ, htr, htk⟩ := A.t
  simp only [Ref.attn_at, refDist_at]
  rw [Ker.acc_at, Ker.out_at, Ker.out_at]
  simp only [kerDist_at, hk, ht, A.one, A.s, htr, htk]
  exact congrArg (a (ix2 o j) + ·)
    (H.add (fun k => r' (ix2 i k)) (fun k => (hr k).imp fun _ h => h.1) hg hτ t).symm

/-- A level's embedding. -/
theorem step_emb {a' : FVec Ideal Cert.ReferenceIdeal.S16384x52 .f32} {a : FVec Ideal Cert.KernelIdeal.S56x8192 .f32}
    (o : Fin 52) (ha : a (ix2 ⟨o, by omega⟩ j) = a' (ix2 i o)) :
    Ker.accB (F := Ideal) a (Ker.outB (F := Ideal)
        (Ker.distB (F := Ideal) (len (ix2 0 0)) rn (Ker.scaledB (F := Ideal) r p.s)) p.c p.tab) (ix2 ⟨o, by omega⟩ j)
      = Ref.embArr (F := Ideal) a' (Ref.attnArr (F := Ideal) (Ref.distArr (F := Ideal) len R
          (Ref.scaledArr (F := Ideal) r' p'.s)) p'.t) p'.e p'.s (ix2 i o) := by
  rw [Ref.emb_at, step_add A H hr A.factors.1 (fun n => p'.e (ix2 n o)) ⟨o, by omega⟩ (fun n => A.e o n) a, ha, A.s]

/-- A later level's control. -/
theorem step_ctrl (hf : f = p.s) {a' : FVec Ideal Cert.ReferenceIdeal.S16384x4 .f32}
    {a : FVec Ideal Cert.KernelIdeal.S56x8192 .f32} (o : Fin 4) (ha : a (ix2 ⟨52 + o, by omega⟩ j) = a' (ix2 i o)) :
    Ker.accB (F := Ideal) a (Ker.outB (F := Ideal)
        (Ker.distB (F := Ideal) (len (ix2 0 0)) rn (Ker.scaledB (F := Ideal) r p.s)) p.c p.tab) (ix2 ⟨52 + o, by omega⟩ j)
      = Ref.ctrlArr (F := Ideal) a' (Ref.attnArr (F := Ideal) (Ref.distArr (F := Ideal) len R
          (Ref.scaledArr (F := Ideal) r' p'.s)) p'.t) p'.c p'.s (ix2 i o) := by
  rw [Ref.ctrl_at, step_add A H hr A.factors.2 (fun n => p'.c (ix2 n o)) ⟨52 + o, by omega⟩ (fun n => A.c o n) a, ha,
    A.s, hf]

/-- The first level's control. -/
theorem step_ctrl0 (hf : f = 1) {a' : FVec Ideal Cert.ReferenceIdeal.S16384x4 .f32}
    {a : FVec Ideal Cert.KernelIdeal.S56x8192 .f32} (o : Fin 4) (ha : a (ix2 ⟨52 + o, by omega⟩ j) = a' (ix2 i o)) :
    Ker.accB (F := Ideal) a (Ker.outB (F := Ideal)
        (Ker.distB (F := Ideal) (len (ix2 0 0)) rn (Ker.scaledB (F := Ideal) r p.s)) p.c p.tab) (ix2 ⟨52 + o, by omega⟩ j)
      = Ref.ctrlArr0 (F := Ideal) a' (Ref.attnArr (F := Ideal) (Ref.distArr (F := Ideal) len R
          (Ref.scaledArr (F := Ideal) r' p'.s)) p'.t) p'.c (ix2 i o) := by
  rw [Ref.ctrl0_at, step_add A H hr A.factors.2 (fun n => p'.c (ix2 n o)) ⟨52 + o, by omega⟩ (fun n => A.c o n) a, ha,
    hf, mul_one]

end Step

section All

variable {P : ℕ → Ker.Level Ideal} {P' : ℕ → Ref.Level Ideal} {φ : ℕ → EReal}
  {q' : FVec Ideal Cert.ReferenceIdeal.S16384x8 .f32} {q : FVec Ideal Cert.KernelIdeal.S8x8192 .f32}
  {i : Fin 16384} {j : Fin 8192}
  (A : ∀ n, n < 8 → Agree (P n) (P' n) (φ n))
  (H : Row.Roots (fun n => len (ix2 0 n)) (fun n k => R (ix2 n k)) (fun n k => rn (ix2 n k)))
  (hrt : ∀ k n, rt (ix2 k n) = R (ix2 n k))
  (hq : ∀ k, ∃ ξ : ℝ, q' (ix2 i k) = ξ ∧ q (ix2 k j) = ξ)

include A H hrt hq

/-- The residuals of a row agree before every level. -/
theorem resid_eq : ∀ n, n ≤ 8 → ∀ k, ∃ ξ : ℝ, Ref.resid P' len R q' n (ix2 i k) = ξ
    ∧ Ker.residAt P (len (ix2 0 0)) rn rt q n (ix2 k j) = ξ
  | 0, _, k => hq k
  | n + 1, h, k => step_resid (A n h) H (resid_eq n (by omega)) hrt k

/-- The embeddings of a row agree before every level. -/
theorem emb_eq (o : Fin 52) : ∀ n, n ≤ 8 →
    Ker.accAt P (len (ix2 0 0)) rn rt q n (ix2 ⟨o, by omega⟩ j) = Ref.emb P' len R q' n (ix2 i o)
  | 0, _ => rfl
  | n + 1, h => step_emb (A n h) H (resid_eq A H hrt hq n (by omega)) o (emb_eq o n (by omega))

/-- The controls of a row agree before every level. -/
theorem ctrl_eq (h0 : φ 0 = 1) (h1 : ∀ n, φ (n + 1) = (P (n + 1)).s) (o : Fin 4) : ∀ n, n ≤ 8 →
    Ker.accAt P (len (ix2 0 0)) rn rt q n (ix2 ⟨52 + o, by omega⟩ j) = Ref.ctrl P' len R q' n (ix2 i o)
  | 0, _ => rfl
  | 1, h => step_ctrl0 (A 0 h) H (resid_eq A H hrt hq 0 (by omega)) h0 o (ctrl_eq h0 h1 o 0 (by omega))
  | n + 2, h => step_ctrl (A (n + 1) h) H (resid_eq A H hrt hq (n + 1) (by omega)) (h1 n) o
      (ctrl_eq h0 h1 o (n + 1) (by omega))

end All

end Cert.Rcpl

end
-- ==== Proof.KerLevel.lean ====
/- The kernel's levels, read at an index. -/
module

public import proofs.«01_k».proof.Proof.KerStep
public import Idealize.ShloMosaic.Lib.Pointwise
public import Idealize.ShloMosaic.Lib.Pipeline.ValueKit

@[expose] public section

set_option maxRecDepth 16384

noncomputable section

namespace Cert.Rcpl.Ker

open Cert.KernelIdeal Cert.KernelIdeal.Gen Idealize.ShloMosaic Idealize.ShloMosaic.TcCoe Idealize.SL.Sem

variable (x1 : Vec Ideal S1x8 .f32) (x10 : Vec Ideal S8x57x240 .f32)

/-- One entry of the scales, as the body loads it. -/
theorem scale_at (l : ℕ) (hl : l < 8) (inb : ∀ a, (![0, l] : Fin 2 → ℕ) a + S1x1.size a ≤ S1x8.size a) :
    oneOf (F := Ideal) (View.ld x1 (Rect.unit (s := S1x8) ![0, l] S1x1.size inb)) = x1 (ix2 0 ⟨l, hl⟩) := by
  pointwise [oneOf]

/-- A level's scale. -/
theorem level_s (k : Fin 8) : (levels (F := Ideal) x1 x10 k).s = x1 (ix2 0 k) := by
  fin_cases k
  all_goals exact scale_at x1 _ _ _

/-- One level's table, a slice of all the tables. -/
theorem tab_at (l : ℕ) (hl : l < 8) (inb : ∀ a, (![l, 0, 0] : Fin 3 → ℕ) a + S1x57x240.size a ≤ S8x57x240.size a)
    (o : Fin 57) (n : Fin 240) :
    (View.ld x10 (Rect.unit (s := S8x57x240) ![l, 0, 0] S1x57x240.size inb) : Vec Ideal S1x57x240 .f32) (ix3 0 o n)
      = x10 (ix3 ⟨l, hl⟩ o n) := by
  pointwise []

/-- A level's table. -/
theorem level_tab (k : Fin 8) (o : Fin 57) (n : Fin 240) :
    (levels (F := Ideal) x1 x10 k).tab (ix3 0 o n) = x10 (ix3 k o n) := by
  fin_cases k
  all_goals exact tab_at x10 _ _ _ o n

/-- The patterns of the reciprocal temperatures. -/
def bitsC : Fin 8 → BitVec 32 := ![0x3F800000#32, 0x3FA00000#32, 0x3FC80000#32, 0x3FFA0000#32, 0x401C4000#32,
  0x40435000#32, 0x40742400#32, 0x40989680#32]

/-- They are the powers of five quarters. -/
theorem bitsC_eq (k : Fin 8) : Ideal.ofBits .f32 (bitsC k) = (((5 / 4 : ℝ) ^ (k : ℕ) : ℝ) : EReal) := by
  fin_cases k
  all_goals simp [bitsC, Ideal.ofBits, Ideal.ieee]
  all_goals first | (rw [← EReal.coe_mul]; norm_num; done) | (norm_cast; norm_num; done)

/-- A level's reciprocal temperature. -/
theorem level_c (k : Fin 8) : (levels (F := Ideal) x1 x10 k).c = (((5 / 4 : ℝ) ^ (k : ℕ) : ℝ) : EReal) := by
  refine Eq.trans ?_ (bitsC_eq k)
  fin_cases k <;> rfl

end Cert.Rcpl.Ker

end
-- ==== Proof.RefLevel.lean ====
/- The reference's levels, read at an index. -/
module

public import proofs.«01_k».proof.Proof.RefVal
public import proofs.«01_k».proof.Proof.RefAt
public import proofs.«01_k».proof.Proof.Row

@[expose] public section

set_option maxRecDepth 16384

noncomputable section

namespace Cert.Rcpl.Ref

open Cert.ReferenceIdeal Cert.ReferenceIdeal.Gen Idealize.ShloMosaic Idealize.ShloMosaic.TcCoe Idealize.SL.Sem

variable (d : FVec Ideal S_ .f32) (et : FVec Ideal S8x240x52 .f32) (c0 : FVec Ideal S240x4 .f32)
  (ct : FVec Ideal S7x240x4 .f32)

/-- A level's scale: two over a power of the decay. -/
theorem level_s (k : Fin 8) :
    (levels (F := Ideal) d et c0 ct k).s ix0 = Ideal.div ((2 : ℝ) : EReal) (d ix0 ^ (k : ℕ)) := by
  rw [← Row.bits_two]
  fin_cases k
  · show scale0 (F := Ideal) ix0 = Ideal.div _ (d ix0 ^ 0)
    rw [pow_zero, ← Ideal.ofBits_one_f32]; rfl
  · show scale1 (F := Ideal) d ix0 = Ideal.div _ (d ix0 ^ 1)
    rw [pow_one]; rfl
  · show Ideal.div (Ideal.ofBits .f32 0x40000000#32) (d ix0 * d ix0) = Ideal.div _ (d ix0 ^ 2)
    simp only [pow_succ, pow_zero, one_mul, mul_assoc]
  · show Ideal.div (Ideal.ofBits .f32 0x40000000#32) (d ix0 * d ix0 * d ix0) = Ideal.div _ (d ix0 ^ 3)
    simp only [pow_succ, pow_zero, one_mul, mul_assoc]
  · show Ideal.div (Ideal.ofBits .f32 0x40000000#32) (d ix0 * d ix0 * (d ix0 * d ix0)) = Ideal.div _ (d ix0 ^ 4)
    simp only [pow_succ, pow_zero, one_mul, mul_assoc]
  · show Ideal.div (Ideal.ofBits .f32 0x40000000#32) (d ix0 * (d ix0 * d ix0 * (d ix0 * d ix0))) = Ideal.div _ (d ix0 ^ 5)
    simp only [pow_succ, pow_zero, one_mul, mul_assoc]
  · show Ideal.div (Ideal.ofBits .f32 0x40000000#32) (d ix0 * d ix0 * (d ix0 * d ix0 * (d ix0 * d ix0))) = Ideal.div _ (d ix0 ^ 6)
    simp only [pow_succ, pow_zero, one_mul, mul_assoc]
  · show Ideal.div (Ideal.ofBits .f32 0x40000000#32) (d ix0 * (d ix0 * d ix0) * (d ix0 * d ix0 * (d ix0 * d ix0))) = Ideal.div _ (d ix0 ^ 7)
    simp only [pow_succ, pow_zero, one_mul, mul_assoc]

/-- A level's embedding table. -/
theorem level_e (k : Fin 8) (n : Fin 240) (o : Fin 52) :
    (levels (F := Ideal) d et c0 ct k).e (ix2 n o) = et (ix3 k n o) := by
  fin_cases k
  · show embTab0 (F := Ideal) et (ix2 n o) = et (ix3 0 n o); pointwise [embTab0]
  · show embTab1 (F := Ideal) et (ix2 n o) = et (ix3 1 n o); pointwise [embTab1]
  · show embTab2 (F := Ideal) et (ix2 n o) = et (ix3 2 n o); pointwise [embTab2]
  · show embTab3 (F := Ideal) et (ix2 n o) = et (ix3 3 n o); pointwise [embTab3]
  · show embTab4 (F := Ideal) et (ix2 n o) = et (ix3 4 n o); pointwise [embTab4]
  · show embTab5 (F := Ideal) et (ix2 n o) = et (ix3 5 n o); pointwise [embTab5]
  · show embTab6 (F := Ideal) et (ix2 n o) = et (ix3 6 n o); pointwise [embTab6]
  · show embTab7 (F := Ideal) et (ix2 n o) = et (ix3 7 n o); pointwise [embTab7]

/-- A later level's control table. -/
theorem level_c (k : Fin 7) (n : Fin 240) (o : Fin 4) :
    (levels (F := Ideal) d et c0 ct (k + 1)).c (ix2 n o) = ct (ix3 k n o) := by
  fin_cases k
  · show ctrlTab1 (F := Ideal) ct (ix2 n o) = ct (ix3 0 n o); pointwise [ctrlTab1]
  · show ctrlTab2 (F := Ideal) ct (ix2 n o) = ct (ix3 1 n o); pointwise [ctrlTab2]
  · show ctrlTab3 (F := Ideal) ct (ix2 n o) = ct (ix3 2 n o); pointwise [ctrlTab3]
  · show ctrlTab4 (F := Ideal) ct (ix2 n o) = ct (ix3 3 n o); pointwise [ctrlTab4]
  · show ctrlTab5 (F := Ideal) ct (ix2 n o) = ct (ix3 4 n o); pointwise [ctrlTab5]
  · show ctrlTab6 (F := Ideal) ct (ix2 n o) = ct (ix3 5 n o); pointwise [ctrlTab6]
  · show ctrlTab7 (F := Ideal) ct (ix2 n o) = ct (ix3 6 n o); pointwise [ctrlTab7]

/-- The patterns of the powers of four. -/
def bits4 : Fin 8 → BitVec 32 := ![0x3F800000#32, 0x40800000#32, 0x41800000#32, 0x42800000#32, 0x43800000#32,
  0x44800000#32, 0x45800000#32, 0x46800000#32]

/-- The patterns of the powers of five. -/
def bits5 : Fin 8 → BitVec 32 := ![0x3F800000#32, 0x40A00000#32, 0x41C80000#32, 0x42FA0000#32, 0x441C4000#32,
  0x45435000#32, 0x46742400#32, 0x47989680#32]

/-- The words of the powers of four. -/
theorem bits4_eq (k : Fin 8) : Ideal.ofBits .f32 (bits4 k) = (((4 : ℝ) ^ (k : ℕ) : ℝ) : EReal) := by
  fin_cases k
  all_goals simp [bits4, Ideal.ofBits, Ideal.ieee]
  all_goals first | (rw [← EReal.coe_mul]; norm_num; done) | (norm_cast; norm_num; done)

/-- The words of the powers of five. -/
theorem bits5_eq (k : Fin 8) : Ideal.ofBits .f32 (bits5 k) = (((5 : ℝ) ^ (k : ℕ) : ℝ) : EReal) := by
  fin_cases k
  all_goals simp [bits5, Ideal.ofBits, Ideal.ieee]
  all_goals first | (rw [← EReal.coe_mul]; norm_num; done) | (norm_cast; norm_num; done)

/-- A level's temperature. -/
theorem level_t (k : Fin 8) :
    (levels (F := Ideal) d et c0 ct k).t ix0 = (((4 : ℝ) ^ (k : ℕ) * (1 / 5 ^ (k : ℕ)) : ℝ) : EReal) := by
  have h : (levels (F := Ideal) d et c0 ct k).t = tempOf (F := Ideal) (bits4 k) (bits5 k) := by fin_cases k <;> rfl
  rw [h, temp_at, bits4_eq, bits5_eq, Row.div_real _ (by positivity)]

end Cert.Rcpl.Ref

end
-- ==== Proof.KerHost.lean ====
/- The arrays the kernel's host lines prepare: the scales, the tables and the roots' lengths. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.Rcpl.Ker

open Cert.KernelIdeal Cert.KernelIdeal.Gen Idealize.ShloMosaic Idealize.ShloMosaic.TcCoe Idealize.SL.Sem

variable {F : FTy → Type} [FloatOps F]

/-- Two over a power of the decay. -/
def two (p : FVec F S_ .f32) : FVec F S_ .f32 := Host.divf (constant S_ .f32 0x40000000#32) p

/-- Eight numbers as a row. -/
def rowOf (a b c d e f g h : FVec F S_ .f32) : FVec F S1x8 .f32 :=
  broadcastInDim S1x8 ![1] bcast_S8_S1x8_1 (concatenate S8 0
    [⟨S1, broadcastInDim S1 ![] bcast_S_S1 a⟩, ⟨S1, broadcastInDim S1 ![] bcast_S_S1 b⟩,
     ⟨S1, broadcastInDim S1 ![] bcast_S_S1 c⟩, ⟨S1, broadcastInDim S1 ![] bcast_S_S1 d⟩,
     ⟨S1, broadcastInDim S1 ![] bcast_S_S1 e⟩, ⟨S1, broadcastInDim S1 ![] bcast_S_S1 f⟩,
     ⟨S1, broadcastInDim S1 ![] bcast_S_S1 g⟩, ⟨S1, broadcastInDim S1 ![] bcast_S_S1 h⟩]
    concatenates_S1_S1_S1_S1_S1_S1_S1_S1_S8_d0)

/-- The levels' scales. -/
def scales (d : FVec F S_ .f32) : FVec F S1x8 .f32 :=
  rowOf (two (constant S_ .f32 0x3F800000#32)) (two d) (two (mulf d d)) (two (mulf (mulf d d) d))
    (two (mulf (mulf d d) (mulf d d))) (two (mulf d (mulf (mulf d d) (mulf d d))))
    (two (mulf (mulf d d) (mulf (mulf d d) (mulf d d)))) (two (mulf (mulf d (mulf d d)) (mulf (mulf d d) (mulf d d))))

/-- The factors of the controls: the scales, the first one replaced by one. -/
def ctrlScales (s : FVec F S1x8 .f32) : FVec F S1x8 .f32 :=
  Host.scatter scatter_S1x8_S2_S__n_01_01_0 (fun _ b => b) s
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (constant S_ .f32 0x3F800000#32)

/-- The controls' tables of all levels. -/
def ctrlTabs (c0 : FVec F S240x4 .f32) (ct : FVec F S7x240x4 .f32) : FVec F S8x240x4 .f32 :=
  concatenate S8x240x4 0 [⟨S1x240x4, broadcastInDim S1x240x4 ![1, 2] bcast_S240x4_S1x240x4_1_2 c0⟩, ⟨S7x240x4, ct⟩]
    concatenates_S1x240x4_S7x240x4_S8x240x4_d0

/-- The levels' tables: scaled embedding, scaled control, ones. -/
def tables (s u : FVec F S1x8 .f32) (et : FVec F S8x240x52 .f32) (ct : FVec F S8x240x4 .f32) : FVec F S8x57x240 .f32 :=
  transpose S8x57x240 [0, 2, 1] (concatenate S8x240x57 2
    [⟨S8x240x52, mulf et (broadcastInDim S8x240x52 ![0, 1, 2] bcast_S8x1x1_S8x240x52_0_1_2
        (broadcastInDim S8x1x1 ![0, 1] bcast_S8x1_S8x1x1_0_1 (transpose S8x1 [1, 0] s transposes_S1x8_S8x1_1_0)))⟩,
     ⟨S8x240x4, mulf ct (broadcastInDim S8x240x4 ![0, 1, 2] bcast_S8x1x1_S8x240x4_0_1_2
        (broadcastInDim S8x1x1 ![0, 1] bcast_S8x1_S8x1x1_0_1 (transpose S8x1 [1, 0] u transposes_S1x8_S8x1_1_0)))⟩,
     ⟨S8x240x1, broadcastInDim S8x240x1 ![] bcast_S_S8x240x1 (constant S_ .f32 0x3F800000#32)⟩]
    concatenates_S8x240x52_S8x240x4_S8x240x1_S8x240x57_d2) transposes_S8x240x57_S8x57x240_0_2_1

/-- The roots' squared lengths. -/
def rootLens (R : FVec F S240x8 .f32) : FVec F S240x1 .f32 :=
  broadcastInDim S240x1 ![0] bcast_S240_S240x1_0
    (Host.reduceAdd (mulf R R) (constant S_ .f32 0x00000000#32) reducesTo_S240x8_S240_d1 h_S_)

/-- The roots times minus two. -/
def negRoots (R : FVec F S240x8 .f32) : FVec F S240x8 .f32 :=
  mulf (broadcastInDim S240x8 ![] bcast_S_S240x8 (constant S_ .f32 0xC0000000#32)) R

section Reads

variable (m : (ℓ : Loc nD τ sig) → Buf (Elt F) ℓ) (c : Dev nD)

set_option maxHeartbeats 1600000 in
/-- The scales, after the host lines up to them. -/
theorem head_scales (W : Valuation τ sig (Elt F)) :
    StableHlo.after ((hostOps0 : List (HloOp τ sig (Elt F))).take 43) W (Proc.devRef .tc main_v33)
      = scales (Host.exp (W (Proc.devRef .tc main_arg8))) := by
  simp only [hostOps0, List.take_succ_cons, List.take_zero]
  after_results_simp
  rfl

/-- Those lines leave an argument as it was. -/
theorem head_args (W : Valuation τ sig (Elt F)) :
    StableHlo.after ((hostOps0 : List (HloOp τ sig (Elt F))).take 43) W (Proc.devRef .tc main_arg5) = W (Proc.devRef .tc main_arg5)
      ∧ StableHlo.after ((hostOps0 : List (HloOp τ sig (Elt F))).take 43) W (Proc.devRef .tc main_arg6) = W (Proc.devRef .tc main_arg6)
      ∧ StableHlo.after ((hostOps0 : List (HloOp τ sig (Elt F))).take 43) W (Proc.devRef .tc main_arg7) = W (Proc.devRef .tc main_arg7) := by
  simp only [hostOps0, List.take_succ_cons, List.take_zero]
  refine ⟨?_, ?_, ?_⟩ <;> after_results_simp

set_option maxHeartbeats 1600000 in
/-- The tables, after the host lines that follow the scales. -/
theorem tail_tables (W : Valuation τ sig (Elt F)) :
    StableHlo.after ((hostOps0 : List (HloOp τ sig (Elt F))).drop 43) W (Proc.devRef .tc main_v54)
      = tables (W (Proc.devRef .tc main_v33)) (ctrlScales (W (Proc.devRef .tc main_v33))) (W (Proc.devRef .tc main_arg5))
          (ctrlTabs (W (Proc.devRef .tc main_arg6)) (W (Proc.devRef .tc main_arg7))) := by
  simp only [hostOps0, List.drop_succ_cons, List.drop_zero]
  after_results_simp
  rfl

/-- Those lines leave the scales as they were. -/
theorem tail_scales (W : Valuation τ sig (Elt F)) :
    StableHlo.after ((hostOps0 : List (HloOp τ sig (Elt F))).drop 43) W (Proc.devRef .tc main_v33) = W (Proc.devRef .tc main_v33) := by
  simp only [hostOps0, List.drop_succ_cons, List.drop_zero]
  after_results_simp

/-- The contents before the region, the host lines cut after the scales. -/
theorem V0_cut (W : Valuation τ sig (Elt F)) :
    StableHlo.after (List.flatten [hostOps0]) W
      = StableHlo.after ((hostOps0 : List (HloOp τ sig (Elt F))).drop 43)
          (StableHlo.after ((hostOps0 : List (HloOp τ sig (Elt F))).take 43) W) := by
  rw [← StableHlo.after_append, List.take_append_drop, List.flatten_cons, List.flatten_nil, List.append_nil]

/-- The scales before the region. -/
theorem V_scales : V m c main_v33 = scales (Host.exp (m ((c : Thread nD τ).loc main_arg8))) :=
  (congrFun (V0_cut fun b => m (c, b)) _).trans ((tail_scales _).trans (head_scales _))

/-- The tables before the region. -/
theorem V_tables : V m c main_v54
    = tables (scales (Host.exp (m ((c : Thread nD τ).loc main_arg8))))
        (ctrlScales (scales (Host.exp (m ((c : Thread nD τ).loc main_arg8))))) (m ((c : Thread nD τ).loc main_arg5))
        (ctrlTabs (m ((c : Thread nD τ).loc main_arg6)) (m ((c : Thread nD τ).loc main_arg7))) := by
  refine (congrFun (V0_cut fun b => m (c, b)) _).trans ((tail_tables _).trans ?_)
  rw [head_scales, (head_args _).1, (head_args _).2.1, (head_args _).2.2]

/-- The lengths before the region. -/
theorem V_lens : V m c main_v37 = rootLens (m ((c : Thread nD τ).loc main_arg14)) := by
  entry_read
  rfl

/-- The roots times minus two, before the region. -/
theorem V_neg : V m c main_v59 = negRoots (m ((c : Thread nD τ).loc main_arg14)) := by
  entry_read
  rfl

/-- The roots transposed, before the region. -/
theorem V_rootsT : V m c main_v60
    = transpose S8x240 [1, 0] (m ((c : Thread nD τ).loc main_arg14)) transposes_S240x8_S8x240_1_0 := by
  entry_read
  rfl

/-- The batch transposed, before the region. -/
theorem V_batch : V m c main_v55
    = transpose S14x16384 [1, 0] (m ((c : Thread nD τ).loc main_arg0)) transposes_S16384x14_S14x16384_1_0 := by
  entry_read
  rfl

/-- The gate before the region. -/
theorem V_gate : V m c main_v34 = shapeCast S1x1 (m ((c : Thread nD τ).loc main_arg13)) shapeCasts_S_S1x1 := by
  entry_read
  rfl

/-- The first network's first bias, before the region. -/
theorem V_b1 : V m c main_v56 = broadcastInDim S32x1 ![0] bcast_S32_S32x1_0 (m ((c : Thread nD τ).loc main_arg2)) := by
  entry_read
  rfl

/-- The first network's second bias, before the region. -/
theorem V_b2 : V m c main_v57 = broadcastInDim S8x1 ![0] bcast_S8_S8x1_0 (m ((c : Thread nD τ).loc main_arg4)) := by
  entry_read
  rfl

/-- The second network's first bias, before the region. -/
theorem V_c1 : V m c main_v61 = broadcastInDim S52x1 ![0] bcast_S52_S52x1_0 (m ((c : Thread nD τ).loc main_arg10)) := by
  entry_read
  rfl

/-- The second network's second bias, before the region. -/
theorem V_c2 : V m c main_v62 = broadcastInDim S52x1 ![0] bcast_S52_S52x1_0 (m ((c : Thread nD τ).loc main_arg12)) := by
  entry_read
  rfl

end Reads

end Cert.Rcpl.Ker

end
-- ==== Proof.KerHostAt.lean ====
/- The arrays the kernel's host lines prepare, read at an index. -/
module

public import proofs.«01_k».proof.Proof.KerHost
public import proofs.«01_k».proof.Proof.Row
public import Idealize.ShloMosaic.Lib.Pointwise
public import Idealize.ShloMosaic.Lib.Routing.OpsOne

@[expose] public section

set_option maxRecDepth 16384

noncomputable section

namespace Cert.Rcpl.Ker

open Cert.KernelIdeal Cert.KernelIdeal.Gen Idealize.ShloMosaic Idealize.ShloMosaic.TcCoe Idealize.SL.Sem

/-- Eight numbers as a row, read at a position. -/
theorem rowOf_at (a b c d e f g h : FVec Ideal S_ .f32) (k : Fin 8) :
    rowOf (F := Ideal) a b c d e f g h (ix2 0 k)
      = (![a ix0, b ix0, c ix0, d ix0, e ix0, f ix0, g ix0, h ix0] : Fin 8 → EReal) k := by
  fin_cases k
  all_goals pointwise [rowOf]
  all_goals rfl

/-- The controls' factors. -/
theorem ctrlScales_at (s : FVec Ideal S1x8 .f32) (k : Fin 8) :
    ctrlScales (F := Ideal) s (ix2 0 k) = if k = 0 then 1 else s (ix2 0 k) := by
  unfold ctrlScales
  generalize hi : (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) = idx
  have h0 : idx (ValueIdx.ix1 0) = 0#32 :=
    (show idx (ix1 0) = 0#32 by rw [← hi]; pointwise [])
  have h1 : idx (ValueIdx.ix1 1) = 0#32 :=
    (show idx (ix1 1) = 0#32 by rw [← hi]; pointwise [])
  refine (Routing.scatter_cell_signed scatter_S1x8_S2_S__n_01_01_0 rfl rfl rfl s idx
    (constant S_ .f32 0x3F800000#32 : FVec Ideal S_ .f32) 0 k).trans ?_
  rw [h0, h1]
  have hk : ((0#32 : BitVec 32).toInt = ((0 : Fin 1) : ℕ) ∧ (0#32 : BitVec 32).toInt = (k : ℕ)) ↔ k = 0 := by
    rw [show (0#32 : BitVec 32).toInt = 0 from rfl, Fin.ext_iff]
    show _ ↔ (k : ℕ) = 0
    simp
    omega
  simp only [hk]
  congr 1
  exact Ideal.ofBits_one_f32

/-- The first level's control table. -/
theorem ctrlTabs_zero (c0 : FVec Ideal S240x4 .f32) (ct : FVec Ideal S7x240x4 .f32) (n : Fin 240) (o : Fin 4) :
    ctrlTabs (F := Ideal) c0 ct (ix3 0 n o) = c0 (ix2 n o) := by
  pointwise [ctrlTabs]

/-- A later level's control table. -/
theorem ctrlTabs_succ (c0 : FVec Ideal S240x4 .f32) (ct : FVec Ideal S7x240x4 .f32) (l : Fin 7) (n : Fin 240) (o : Fin 4) :
    ctrlTabs (F := Ideal) c0 ct (ix3 l.succ n o) = ct (ix3 l n o) := by
  pointwise [ctrlTabs]
  rw [dif_neg (by simp)]
  rfl

variable (s u : FVec Ideal S1x8 .f32) (et : FVec Ideal S8x240x52 .f32) (ct : FVec Ideal S8x240x4 .f32)

/-- The tables' embedding rows. -/
theorem tables_emb (l : Fin 8) (o : Fin 52) (n : Fin 240) :
    tables (F := Ideal) s u et ct (ix3 l ⟨o, by omega⟩ n) = et (ix3 l n o) * s (ix2 0 l) := by
  pointwise [tables]

/-- The tables' control rows. -/
theorem tables_ctrl (l : Fin 8) (o : Fin 4) (n : Fin 240) :
    tables (F := Ideal) s u et ct (ix3 l ⟨52 + o, by omega⟩ n) = ct (ix3 l n o) * u (ix2 0 l) := by
  pointwise [tables]

/-- The tables' last row. -/
theorem tables_one (l : Fin 8) (n : Fin 240) : tables (F := Ideal) s u et ct (ix3 l 56 n) = 1 := by
  pointwise [tables]

/-- A root's squared length. -/
theorem rootLens_at (R : FVec Ideal S240x8 .f32) (n : Fin 240) :
    rootLens (F := Ideal) R (ix2 n 0) = ∑ k, R (ix2 n k) * R (ix2 n k) := by
  pointwise [rootLens]

/-- A root times minus two. -/
theorem negRoots_at (R : FVec Ideal S240x8 .f32) (n : Fin 240) (k : Fin 8) :
    negRoots (F := Ideal) R (ix2 n k) = Ideal.ofBits .f32 0xC0000000#32 * R (ix2 n k) := by
  pointwise [negRoots]

end Cert.Rcpl.Ker

end
-- ==== Proof.Agree.lean ====
/- The kernel's tables and scales against the reference's, at every level. -/
module

public import proofs.«01_k».proof.Proof.Levels
public import proofs.«01_k».proof.Proof.KerLevel
public import proofs.«01_k».proof.Proof.RefLevel
public import proofs.«01_k».proof.Proof.KerHostAt

@[expose] public section

set_option maxRecDepth 16384

noncomputable section

namespace Cert.Rcpl

open Idealize.ShloMosaic Idealize.ShloMosaic.TcCoe Idealize.SL.Sem

/-- The decay is a positive real or plus infinity. -/
def Decay (δ : EReal) : Prop := (∃ r : ℝ, 0 < r ∧ δ = r) ∨ δ = ⊤

/-- The exponential of anything but minus infinity. -/
theorem decay_exp {x : EReal} (h : x ≠ ⊥) : Decay (Ideal.exp x) := by
  induction x using EReal.rec with
  | bot => exact absurd rfl h
  | coe r => exact .inl ⟨Real.exp r, Real.exp_pos r, Ideal.exp_coe r⟩
  | top => exact .inr Ideal.exp_top

/-- Powers of plus infinity. -/
theorem top_pow (n : ℕ) : (⊤ : EReal) ^ (n + 1) = ⊤ := by
  induction n with
  | zero => exact pow_one _
  | succ n ih => rw [pow_succ, ih, EReal.top_mul_top]

/-- A scale is a positive real, or zero from the second level on. -/
theorem scale_cases {δ : EReal} (h : Decay δ) (n : ℕ) :
    (∃ σ : ℝ, 0 < σ ∧ Ideal.div ((2 : ℝ) : EReal) (δ ^ n) = σ) ∨ (n ≠ 0 ∧ Ideal.div ((2 : ℝ) : EReal) (δ ^ n) = 0) := by
  rcases h with ⟨r, hr, rfl⟩ | rfl
  · exact .inl ⟨2 * (1 / r ^ n), by positivity, by rw [← EReal.coe_pow, Row.div_real _ (by positivity)]⟩
  · cases n with
    | zero => exact .inl ⟨2 * (1 / 1), by norm_num, by rw [pow_zero, ← EReal.coe_one, Row.div_real _ one_pos]⟩
    | succ n =>
      refine .inr ⟨Nat.succ_ne_zero n, ?_⟩
      rw [top_pow, Ideal.div, if_neg EReal.top_ne_zero, EReal.inv_top, mul_zero]

namespace Ker

open Cert.KernelIdeal Cert.KernelIdeal.Gen

/-- The kernel's scales: two over the powers of the decay. -/
theorem scales_at (d : FVec Ideal S_ .f32) (k : Fin 8) :
    scales (F := Ideal) d (ix2 0 k) = Ideal.div ((2 : ℝ) : EReal) (d ix0 ^ (k : ℕ)) := by
  rw [← Row.bits_two]
  unfold scales
  rw [rowOf_at]
  fin_cases k
  · show two (F := Ideal) _ ix0 = Ideal.div _ (d ix0 ^ 0)
    rw [pow_zero, ← Ideal.ofBits_one_f32]; rfl
  · show two (F := Ideal) d ix0 = Ideal.div _ (d ix0 ^ 1)
    rw [pow_one]; rfl
  · show Ideal.div (Ideal.ofBits .f32 0x40000000#32) (d ix0 * d ix0) = Ideal.div _ (d ix0 ^ 2)
    simp only [pow_succ, pow_zero, one_mul, mul_assoc]
  · show Ideal.div (Ideal.ofBits .f32 0x40000000#32) (d ix0 * d ix0 * d ix0) = Ideal.div _ (d ix0 ^ 3)
    simp only [pow_succ, pow_zero, one_mul, mul_assoc]
  · show Ideal.div (Ideal.ofBits .f32 0x40000000#32) (d ix0 * d ix0 * (d ix0 * d ix0)) = Ideal.div _ (d ix0 ^ 4)
    simp only [pow_succ, pow_zero, one_mul, mul_assoc]
  · show Ideal.div (Ideal.ofBits .f32 0x40000000#32) (d ix0 * (d ix0 * d ix0 * (d ix0 * d ix0))) = Ideal.div _ (d ix0 ^ 5)
    simp only [pow_succ, pow_zero, one_mul, mul_assoc]
  · show Ideal.div (Ideal.ofBits .f32 0x40000000#32) (d ix0 * d ix0 * (d ix0 * d ix0 * (d ix0 * d ix0))) = Ideal.div _ (d ix0 ^ 6)
    simp only [pow_succ, pow_zero, one_mul, mul_assoc]
  · show Ideal.div (Ideal.ofBits .f32 0x40000000#32) (d ix0 * (d ix0 * d ix0) * (d ix0 * d ix0 * (d ix0 * d ix0))) = Ideal.div _ (d ix0 ^ 7)
    simp only [pow_succ, pow_zero, one_mul, mul_assoc]

end Ker

/-- The factors of the controls. -/
def phi (P : ℕ → Ker.Level Ideal) : ℕ → EReal
  | 0 => 1
  | n + 1 => (P (n + 1)).s

/-- The factors of a level. -/
theorem factors_of {s : EReal} (h : (∃ σ : ℝ, 0 < σ ∧ s = σ) ∨ s = 0) : Row.Factors s s := by
  rcases h with ⟨σ, hσ, rfl⟩ | rfl
  · exact .inr ⟨σ, σ, hσ, hσ.le, rfl, rfl⟩
  · exact .inl ⟨rfl, rfl⟩

/-- The kernel's levels are made of the reference's. -/
theorem agree (d : FVec Ideal Cert.KernelIdeal.S_ .f32) (et : FVec Ideal Cert.KernelIdeal.S8x240x52 .f32)
    (c0 : FVec Ideal Cert.KernelIdeal.S240x4 .f32) (ct : FVec Ideal Cert.KernelIdeal.S7x240x4 .f32) (hd : Decay (d ix0))
    (x1 : Vec Ideal Cert.KernelIdeal.S1x8 .f32) (x10 : Vec Ideal Cert.KernelIdeal.S8x57x240 .f32)
    (h1 : x1 = Ker.scales (F := Ideal) d)
    (h10 : x10 = Ker.tables (F := Ideal) (Ker.scales d) (Ker.ctrlScales (Ker.scales d)) et (Ker.ctrlTabs c0 ct))
    (n : ℕ) (hn : n < 8) :
    Agree (Ker.levels (F := Ideal) x1 x10 n) (Ref.levels (F := Ideal) d et c0 ct n)
      (phi (Ker.levels (F := Ideal) x1 x10) n) := by
  obtain ⟨k, rfl⟩ : ∃ k : Fin 8, n = k := ⟨⟨n, hn⟩, rfl⟩
  have hs : (Ker.levels (F := Ideal) x1 x10 k).s = Ideal.div ((2 : ℝ) : EReal) (d ix0 ^ (k : ℕ)) := by
    rw [Ker.level_s, h1, Ker.scales_at]
  have hu : Ker.ctrlScales (F := Ideal) (Ker.scales d) (ix2 0 k) = phi (Ker.levels (F := Ideal) x1 x10) k := by
    rw [Ker.ctrlScales_at, Ker.scales_at, ← hs]
    cases k using Fin.cases with
    | zero => exact if_pos rfl
    | succ k => exact if_neg (Fin.succ_ne_zero k)
  have hc := scale_cases hd k
  rw [← hs] at hc
  refine ⟨?_, ⟨factors_of (hc.imp_right And.right), ?_⟩, ⟨_, ?_, Ref.level_t d et c0 ct k, ?_⟩, fun o n => ?_, fun o n => ?_,
    fun n => ?_⟩
  · rw [Ref.level_s, hs]
  · cases k using Fin.cases with
    | zero =>
      rcases hc with ⟨σ, hσ, h⟩ | ⟨h, -⟩
      · exact .inr ⟨σ, 1, hσ, zero_le_one, h, EReal.coe_one.symm⟩
      · exact absurd rfl h
    | succ k => exact factors_of (hc.imp_right And.right)
  · positivity
  · rw [Ker.level_c]
    congr 1
    rw [div_pow]
    field_simp
  · rw [Ref.level_e, hs, Ker.level_tab, h10, Ker.tables_emb, Ker.scales_at]
  · rw [← hu, Ker.level_tab, h10, Ker.tables_ctrl]
    cases k using Fin.cases with
    | zero => exact congrArg (fun x => x * Ker.ctrlScales (F := Ideal) (Ker.scales d) (ix2 0 _)) (Ker.ctrlTabs_zero c0 ct n o)
    | succ k => exact congrArg (fun x => x * Ker.ctrlScales (F := Ideal) (Ker.scales d) (ix2 0 _)) ((Ker.ctrlTabs_succ c0 ct k n o).trans (Ref.level_c d et c0 ct k n o).symm)
  · rw [Ker.level_tab, h10, Ker.tables_one]

end Cert.Rcpl

end
-- ==== Proof.NormReal.lean ====
/- A row scaled to a fixed norm is made of real numbers, whatever the row was. -/
module

public import proofs.«01_k».proof.Proof.Net

@[expose] public section

noncomputable section

namespace Cert.Rcpl.Row

open Idealize.ShloMosaic

/-- The small number added to the norm. -/
theorem bits_eps : Ideal.ofBits .f32 0x2B8CBCCC#32 = ((9223372 / 2 ^ 63 : ℝ) : EReal) := by
  simp [Ideal.ofBits, Ideal.ieee]; rw [← EReal.coe_mul]; norm_num

/-- The norm asked for. -/
theorem bits_root : Ideal.ofBits .f32 0x3FB504F3#32 = ((11863283 / 2 ^ 23 : ℝ) : EReal) := by
  simp [Ideal.ofBits, Ideal.ieee]; rw [← EReal.coe_mul]; norm_num

/-- A square is not negative. -/
theorem sq_nonneg' (x : EReal) : 0 ≤ x * x := by
  induction x using EReal.rec with
  | bot => rw [EReal.bot_mul_bot]; exact le_top
  | coe r => rw [← EReal.coe_mul]; exact EReal.coe_nonneg.2 (mul_self_nonneg r)
  | top => rw [EReal.top_mul_top]; exact le_top

/-- A square is finite only of a real number. -/
theorem real_of_sq {x : EReal} (h : x * x ≠ ⊤) : ∃ r : ℝ, x = r := by
  induction x using EReal.rec with
  | bot => exact absurd EReal.bot_mul_bot h
  | coe r => exact ⟨r, rfl⟩
  | top => exact absurd EReal.top_mul_top h

/-- A sum of squares is finite only of real numbers. -/
theorem real_of_sum_sq {q : Fin 8 → EReal} (h : ∑ i, q i * q i ≠ ⊤) (k : Fin 8) : ∃ r : ℝ, q k = r :=
  real_of_sq fun hk => h (top_le_iff.1 (hk ▸ Finset.single_le_sum (f := fun i => q i * q i)
    (fun i _ => sq_nonneg' (q i)) (Finset.mem_univ k)))

/-- The scaled row is real. -/
theorem normRow_real (q : Fin 8 → EReal) (k : Fin 8) : ∃ ξ : ℝ, normRow q k = ξ := by
  unfold normRow
  by_cases h : ∑ i, q i * q i = ⊤
  · refine ⟨0, ?_⟩
    rw [h, bits_eps, Ideal.sqrt_top, EReal.top_add_coe, Ideal.div, if_neg EReal.top_ne_zero, EReal.inv_top, mul_zero,
      zero_mul, EReal.coe_zero]
  · choose r hr using real_of_sum_sq h
    refine ⟨r k * (1 / (Real.sqrt (∑ i, r i * r i) + 9223372 / 2 ^ 63)) * (11863283 / 2 ^ 23), ?_⟩
    have hs : ∑ i, q i * q i = ((∑ i, r i * r i : ℝ) : EReal) := by
      rw [coe_sum]; exact Finset.sum_congr rfl fun i _ => by rw [hr, EReal.coe_mul]
    have h0 : ¬ ∑ i, r i * r i < 0 := not_lt.2 (Finset.sum_nonneg fun i _ => mul_self_nonneg (r i))
    rw [hs, bits_eps, bits_root, Ideal.sqrt_coe, if_neg h0, ← EReal.coe_add, hr, div_real _ (by positivity),
      ← EReal.coe_mul]

end Cert.Rcpl.Row

end
-- ==== Proof.KerLoads.lean ====
/- The blocks the body loads whole. -/
module

public import proofs.«01_k».proof.Proof.KerStep
public import Idealize.ShloMosaic.Lib.Pointwise
public import Idealize.ShloMosaic.Lib.Pipeline.ValueKit

@[expose] public section

set_option maxRecDepth 16384

noncomputable section

namespace Cert.Rcpl.Ker

open Cert.KernelIdeal Cert.KernelIdeal.Gen Idealize.ShloMosaic Idealize.ShloMosaic.TcCoe Idealize.SL.Sem

/-! Each such block is the array it is loaded from. -/

/-- The first network's first weights, read whole. -/
theorem ld1 (x : Vec Ideal S32x14 .f32) : (View.ld x r0_1 : Vec Ideal S32x14 .f32) = x := by
  funext j; idx_vars j; pointwise []

/-- A block of the batch, read whole. -/
theorem ld2 (x : Vec Ideal S14x8192 .f32) : (View.ld x r0_2 : Vec Ideal S14x8192 .f32) = x := by
  funext j; idx_vars j; pointwise []

/-- The first network's first bias, read whole. -/
theorem ld3 (x : Vec Ideal S32x1 .f32) : (View.ld x r0_3 : Vec Ideal S32x1 .f32) = x := by
  funext j; idx_vars j; rw [Subsingleton.elim j1 0]; pointwise []

/-- The first network's second weights, read whole. -/
theorem ld4 (x : Vec Ideal S8x32 .f32) : (View.ld x r0_4 : Vec Ideal S8x32 .f32) = x := by
  funext j; idx_vars j; pointwise []

/-- The first network's second bias, read whole. -/
theorem ld5 (x : Vec Ideal S8x1 .f32) : (View.ld x r0_5 : Vec Ideal S8x1 .f32) = x := by
  funext j; idx_vars j; rw [Subsingleton.elim j1 0]; pointwise []

/-- The roots times minus two, read whole. -/
theorem ld8 (x : Vec Ideal S240x8 .f32) : (View.ld x r0_8 : Vec Ideal S240x8 .f32) = x := by
  funext j; idx_vars j; pointwise []

/-- The turned roots, read whole. -/
theorem ld10 (x : Vec Ideal S8x240 .f32) : (View.ld x r0_10 : Vec Ideal S8x240 .f32) = x := by
  funext j; idx_vars j; pointwise []

/-- Weights of the second network, read whole. -/
theorem ld25 (x : Vec Ideal S52x52 .f32) : (View.ld x r0_25 : Vec Ideal S52x52 .f32) = x := by
  funext j; idx_vars j; pointwise []

/-- A bias of the second network, read whole. -/
theorem ld26 (x : Vec Ideal S52x1 .f32) : (View.ld x r0_26 : Vec Ideal S52x1 .f32) = x := by
  funext j; idx_vars j; rw [Subsingleton.elim j1 0]; pointwise []

/-- The gate. -/
theorem ld0 (x : Vec Ideal S1x1 .f32) : k0_pay2 (F := Ideal) (View.ld x r0_0) = x (ix2 0 0) := by
  pointwise [k0_pay2]

/-- The roots' common squared length. -/
theorem ld6 (x : Vec Ideal S240x1 .f32) : oneOf (F := Ideal) (View.ld x r0_6) = x (ix2 0 0) := by
  pointwise [oneOf]

end Cert.Rcpl.Ker

end
-- ==== Proof.KerNet.lean ====
/- The kernel's two networks, read at a row and a column of the block. -/
module

public import proofs.«01_k».proof.Proof.KerStep
public import proofs.«01_k».proof.Proof.Net
public import Idealize.ShloMosaic.Lib.Pointwise

@[expose] public section

set_option maxRecDepth 16384

noncomputable section

namespace Cert.Rcpl.Ker

open Cert.KernelIdeal Cert.KernelIdeal.Gen Idealize.ShloMosaic Idealize.ShloMosaic.TcCoe Idealize.SL.Sem

variable {F : FTy → Type} [FloatOps F]

/-- The tanh approximation of gelu, over a block. -/
def geluB {s : Shape} (u : FVec F s .f32) : FVec F s .f32 :=
  mulf u (mulf (broadcast s (Scalar.ofBits .f32 0x3F000000#32)) (addf (broadcast s (Scalar.ofBits .f32 0x3F800000#32))
    (tanh (mulf (broadcast s (Scalar.ofBits .f32 0x3F4C422A#32))
      (addf u (mulf (broadcast s (Scalar.ofBits .f32 0x3D372713#32)) (mulf u (mulf u u))))))))

/-- The first network before its columns are normalised. -/
def rawB (w1 : Vec F S32x14 .f32) (x : Vec F S14x8192 .f32) (b1 : Vec F S32x1 .f32) (w2 : Vec F S8x32 .f32)
    (b2 : Vec F S8x1 .f32) : FVec F S8x8192 .f32 :=
  addf (matmul (φ₁ := .f32) (φ₂ := .f32) dot_S8x32_S32x8192_S8x8192_1_0_0_1_n_n none w2
      (geluB (addf (matmul (φ₁ := .f32) (φ₂ := .f32) dot_S32x14_S14x8192_S32x8192_1_0_0_1_n_n none w1
          (shapeCast S14x8192 x shapeCasts_S14x8192_S14x8192 : FVec F S14x8192 .f32) (constant S32x8192 .f32 0x00000000#32))
        (broadcastTo S32x8192 (shapeCast S32x1 b1 shapeCasts_S32x1_S32x1 : FVec F S32x1 .f32) broadcasts_S32x1_S32x8192)))
      (constant S8x8192 .f32 0x00000000#32))
    (broadcastTo S8x8192 (shapeCast S8x1 b2 shapeCasts_S8x1_S8x1 : FVec F S8x1 .f32) broadcasts_S8x1_S8x8192)

/-- The columns scaled to norm √2. -/
def normB (q : FVec F S8x8192 .f32) : FVec F S8x8192 .f32 :=
  mulf (divf q (broadcastTo S8x8192 (addf (sqrt (shapeCast S1x8192
      (multiReduction .add [0] S8192 (mulf q q) 0x00000000#32 reduces_S8x8192_S8192 (.inl rfl) rfl) shapeCasts_S8192_S1x8192))
    (broadcast S1x8192 (Scalar.ofBits .f32 0x2B8CBCCC#32))) broadcasts_S1x8192_S8x8192))
    (broadcast S8x8192 (Scalar.ofBits .f32 0x3FB504F3#32))

/-- The second network. -/
def deltaB (e : FVec F S52x8192 .f32) (w1 : Vec F S52x52 .f32) (b1 : Vec F S52x1 .f32) (w2 : Vec F S52x52 .f32)
    (b2 : Vec F S52x1 .f32) : FVec F S52x8192 .f32 :=
  addf (matmul (φ₁ := .f32) (φ₂ := .f32) dot_S52x52_S52x8192_S52x8192_1_0_0_1_n_n none w2
      (geluB (addf (matmul (φ₁ := .f32) (φ₂ := .f32) dot_S52x52_S52x8192_S52x8192_1_0_0_1_n_n none w1 e
          (constant S52x8192 .f32 0x00000000#32))
        (broadcastTo S52x8192 (shapeCast S52x1 b1 shapeCasts_S52x1_S52x1 : FVec F S52x1 .f32) broadcasts_S52x1_S52x8192)))
      (constant S52x8192 .f32 0x00000000#32))
    (broadcastTo S52x8192 (shapeCast S52x1 b2 shapeCasts_S52x1_S52x1 : FVec F S52x1 .f32) broadcasts_S52x1_S52x8192)

/-- The block's rows before the levels. -/
theorem pay3_eq (w1 : Vec F S32x14 .f32) (x : Vec F S14x8192 .f32) (b1 : Vec F S32x1 .f32) (w2 : Vec F S8x32 .f32)
    (b2 : Vec F S8x1 .f32) : k0_pay5 (k0_pay3 w1 x b1 w2 b2) k0_pay4 = normB (rawB w1 x b1 w2 b2) := rfl

/-- The block's refined embedding. -/
theorem pay55_eq (g : F .f32) (a : FVec F S56x8192 .f32) (o : FVec F S57x8192 .f32) (d : FVec F S1x8192 .f32)
    (w1 : Vec F S52x52 .f32) (b1 : Vec F S52x1 .f32) (w2 : Vec F S52x52 .f32) (b2 : Vec F S52x1 .f32) :
    k0_pay55 g a o d w1 b1 w2 b2
      = addf (extractStridedSlice S52x8192 ![0, 0] (k0_pay54 a o d) slices_S56x8192_o0_0_S52x8192)
        (mulf (broadcast S52x8192 g) (deltaB (extractStridedSlice S52x8192 ![0, 0] (k0_pay54 a o d)
          slices_S56x8192_o0_0_S52x8192) w1 b1 w2 b2)) := rfl

/-- The gelu of a block at an index. -/
theorem gelu_at {s : Shape} (u : FVec Ideal s .f32) (i : s.Idx) : geluB (F := Ideal) u i = Row.gelu (u i) := by
  have h1 : (Ideal.ofBits .f32 0x3F800000#32) = 1 := Ideal.ofBits_one_f32
  unfold Row.gelu
  rw [← h1, mul_assoc (u i) (u i) (u i)]
  rfl

/-- The first network at a row of the batch. -/
theorem raw_at (w1 : FVec Ideal S32x14 .f32) (x : FVec Ideal S14x8192 .f32) (b1 : FVec Ideal S32x1 .f32)
    (w2 : FVec Ideal S8x32 .f32) (b2 : FVec Ideal S8x1 .f32) (k : Fin 8) (j : Fin 8192) :
    rawB (F := Ideal) w1 x b1 w2 b2 (ix2 k j)
      = Row.layers (fun i => x (ix2 i j)) (fun m i => w1 (ix2 m i)) (fun m => b1 (ix2 m 0)) (fun k m => w2 (ix2 k m))
        (fun k => b2 (ix2 k 0)) k := by
  unfold Row.layers
  pointwise [rawB]
  refine congrArg (· + _) (Finset.sum_congr rfl fun m _ => ?_)
  rw [gelu_at, mul_comm]
  pointwise []
  refine congrArg (fun z => Row.gelu (z + _) * _) (Finset.sum_congr rfl fun i _ => mul_comm _ _)

/-- The normalised columns. -/
theorem norm_at (q : FVec Ideal S8x8192 .f32) (k : Fin 8) (j : Fin 8192) :
    normB (F := Ideal) q (ix2 k j) = Row.normRow (fun k => q (ix2 k j)) k := by
  unfold Row.normRow
  pointwise [normB]

/-- The second network at a row of the batch. -/
theorem delta_at (e : FVec Ideal S52x8192 .f32) (w1 : FVec Ideal S52x52 .f32) (b1 : FVec Ideal S52x1 .f32)
    (w2 : FVec Ideal S52x52 .f32) (b2 : FVec Ideal S52x1 .f32) (o : Fin 52) (j : Fin 8192) :
    deltaB (F := Ideal) e w1 b1 w2 b2 (ix2 o j)
      = Row.layers (fun i => e (ix2 i j)) (fun m i => w1 (ix2 m i)) (fun m => b1 (ix2 m 0)) (fun k m => w2 (ix2 k m))
        (fun k => b2 (ix2 k 0)) o := by
  unfold Row.layers
  pointwise [deltaB]
  refine congrArg (· + _) (Finset.sum_congr rfl fun m _ => ?_)
  rw [gelu_at, mul_comm]
  pointwise []
  refine congrArg (fun z => Row.gelu (z + _) * _) (Finset.sum_congr rfl fun i _ => mul_comm _ _)

end Cert.Rcpl.Ker

end
-- ==== Proof.RefNet.lean ====
/- The reference's two networks, read at a row and a column. -/
module

public import proofs.«01_k».proof.Proof.RefStep
public import proofs.«01_k».proof.Proof.Net
public import Idealize.ShloMosaic.Lib.Pointwise
public import Idealize.ShloMosaic.Lib.Routing.Ops

@[expose] public section

set_option maxRecDepth 16384

noncomputable section

namespace Cert.Rcpl.Ref

open Cert.ReferenceIdeal Cert.ReferenceIdeal.Gen Idealize.ShloMosaic Idealize.ShloMosaic.TcCoe Idealize.SL.Sem

/-- The gelu of an array at an index. -/
theorem gelu_at {s : Shape} (hb : S_.BroadcastsInDim s ![]) (u : FVec Ideal s .f32) (i : s.Idx) :
    geluArr (F := Ideal) hb u i = Row.gelu (u i) := by
  have h1 : (Ideal.ofBits .f32 0x3F800000#32) = 1 := Ideal.ofBits_one_f32
  unfold Row.gelu
  rw [← h1]
  rfl

/-- The first network before its rows are normalised. -/
theorem rawQ_at (x : FVec Ideal S16384x14 .f32) (w1 : FVec Ideal S32x14 .f32) (b1 : FVec Ideal S32 .f32)
    (w2 : FVec Ideal S8x32 .f32) (b2 : FVec Ideal S8 .f32) (j : Fin 16384) (k : Fin 8) :
    rawQ (F := Ideal) x w1 b1 w2 b2 (ix2 j k)
      = Row.layers (fun i => x (ix2 j i)) (fun m i => w1 (ix2 m i)) (fun m => b1 (ix1 m)) (fun k m => w2 (ix2 k m))
        (fun k => b2 (ix1 k)) k := by
  unfold Row.layers
  pointwise [rawQ]
  refine congrArg (· + _) (Finset.sum_congr rfl fun m _ => ?_)
  rw [gelu_at]
  pointwise []

/-- The rows scaled to norm √2. -/
theorem normed_at (q : FVec Ideal S16384x8 .f32) (j : Fin 16384) (k : Fin 8) :
    normed (F := Ideal) q (ix2 j k) = Row.normRow (fun k => q (ix2 j k)) k := by
  unfold Row.normRow
  pointwise [normed]

/-- The roots' squared lengths. -/
theorem rootLen_at (R : FVec Ideal S240x8 .f32) (n : Fin 240) :
    rootLen (F := Ideal) R (ix2 0 n) = ∑ k, R (ix2 n k) * R (ix2 n k) := by
  pointwise [rootLen]

/-- The refined embedding. -/
theorem refined_at (e : FVec Ideal S16384x52 .f32) (w1 : FVec Ideal S52x52 .f32) (b1 : FVec Ideal S52 .f32)
    (w2 : FVec Ideal S52x52 .f32) (b2 : FVec Ideal S52 .f32) (g : FVec Ideal S_ .f32) (j : Fin 16384) (o : Fin 52) :
    refined (F := Ideal) e w1 b1 w2 b2 g (ix2 j o)
      = e (ix2 j o) + g ix0 * Row.layers (fun i => e (ix2 j i)) (fun m i => w1 (ix2 m i)) (fun m => b1 (ix1 m))
        (fun k m => w2 (ix2 k m)) (fun k => b2 (ix1 k)) o := by
  unfold Row.layers
  pointwise [refined]
  refine congrArg (fun z => _ + _ * (z + _)) (Finset.sum_congr rfl fun m _ => ?_)
  rw [gelu_at]
  pointwise []

end Cert.Rcpl.Ref

end
-- ==== Proof.Block.lean ====
/- One block of the kernel against the reference, at one column of the block and its row of the batch. -/
module

public import proofs.«01_k».proof.Proof.Agree
public import proofs.«01_k».proof.Proof.NormReal
public import proofs.«01_k».proof.Proof.KerLoads
public import proofs.«01_k».proof.Proof.KerAt
public import proofs.«01_k».proof.Proof.KerNet
public import proofs.«01_k».proof.Proof.RefNet

@[expose] public section

set_option maxRecDepth 16384

noncomputable section

namespace Cert.Rcpl

open Cert.KernelIdeal Cert.KernelIdeal.Gen Idealize.ShloMosaic Idealize.ShloMosaic.TcCoe Idealize.SL.Sem

/-- The arrays the two programs are given. -/
structure Args where
  /-- the batch -/
  X : FVec Ideal S16384x14 .f32
  /-- the first network's first weights -/
  w1 : FVec Ideal S32x14 .f32
  /-- the first network's first bias -/
  b1 : FVec Ideal S32 .f32
  /-- the first network's second weights -/
  w2 : FVec Ideal S8x32 .f32
  /-- the first network's second bias -/
  b2 : FVec Ideal S8 .f32
  /-- the embedding tables -/
  et : FVec Ideal S8x240x52 .f32
  /-- the first control table -/
  c0 : FVec Ideal S240x4 .f32
  /-- the later control tables -/
  ct : FVec Ideal S7x240x4 .f32
  /-- the logarithm of the decay -/
  ld : FVec Ideal S_ .f32
  /-- the second network's first weights -/
  w3 : FVec Ideal S52x52 .f32
  /-- the second network's first bias -/
  b3 : FVec Ideal S52 .f32
  /-- the second network's second weights -/
  w4 : FVec Ideal S52x52 .f32
  /-- the second network's second bias -/
  b4 : FVec Ideal S52 .f32
  /-- the gate -/
  g : FVec Ideal S_ .f32
  /-- the roots -/
  R : FVec Ideal S240x8 .f32

namespace Args

variable (a : Args)

/-- The decay. -/
def decay : FVec Ideal S_ .f32 := Host.exp a.ld

/-- The reference's levels. -/
def lv : ℕ → Ref.Level Ideal := Ref.levels (F := Ideal) a.decay a.et a.c0 a.ct

/-- The reference's rows before the levels. -/
def q : FVec Ideal Cert.ReferenceIdeal.S16384x8 .f32 := Ref.normed (F := Ideal) (Ref.rawQ a.X a.w1 a.b1 a.w2 a.b2)

/-- The reference's embedding after the levels. -/
def emb : FVec Ideal Cert.ReferenceIdeal.S16384x52 .f32 := Ref.emb (F := Ideal) a.lv (Ref.rootLen a.R) a.R a.q 8

/-- The reference's first result. -/
def program : FVec Ideal Cert.ReferenceIdeal.S16384x52 .f32 := Ref.refined (F := Ideal) a.emb a.w3 a.b3 a.w4 a.b4 a.g

/-- The reference's second result. -/
def control : FVec Ideal Cert.ReferenceIdeal.S16384x4 .f32 := Ref.ctrl (F := Ideal) a.lv (Ref.rootLen a.R) a.R a.q 8

/-- What the precondition says: the roots have one finite squared length, and the decay is not zero. -/
structure Good : Prop where
  /-- the squared lengths are one number -/
  same : ∀ n : Fin 240, ∑ k : Fin 8, a.R (ix2 n k) * a.R (ix2 n k) = ∑ k : Fin 8, a.R (ix2 0 k) * a.R (ix2 0 k)
  /-- it is finite -/
  finite : ∑ k : Fin 8, a.R (ix2 0 k) * a.R (ix2 0 k) ≠ ⊤
  /-- the decay is not zero -/
  decay : a.ld ix0 ≠ ⊥

variable {a}

/-- The roots are real and of one real squared length. -/
theorem Good.roots (h : a.Good) : Row.Roots (fun n => Ref.rootLen (F := Ideal) a.R (ix2 0 n)) (fun n k => a.R (ix2 n k))
    (fun n k => Ker.negRoots (F := Ideal) a.R (ix2 n k)) where
  len := by
    choose r hr using Row.real_of_sum_sq h.finite
    refine ⟨∑ k, r k * r k, fun n => ?_⟩
    rw [Ref.rootLen_at, h.same, Row.coe_sum]
    exact Finset.sum_congr rfl fun i _ => by rw [hr, EReal.coe_mul]
  real n k := Row.real_of_sum_sq (q := fun k => a.R (ix2 n k)) (by rw [h.same]; exact h.finite) k
  neg n k := Ker.negRoots_at a.R n k

end Args

/-- The blocks of one point, against the arrays: column `j` of the batch's block is row `i` of the batch. -/
structure Blocks (a : Args) (j : Fin 8192) (i : Fin 16384)
    (x0 : Vec Ideal S1x1 .f32) (x1 : Vec Ideal S1x8 .f32) (x2 : Vec Ideal S14x8192 .f32) (x3 : Vec Ideal S32x14 .f32)
    (x4 : Vec Ideal S32x1 .f32) (x5 : Vec Ideal S8x32 .f32) (x6 : Vec Ideal S8x1 .f32) (x7 : Vec Ideal S240x8 .f32)
    (x8 : Vec Ideal S8x240 .f32) (x9 : Vec Ideal S240x1 .f32) (x10 : Vec Ideal S8x57x240 .f32) (x11 : Vec Ideal S52x52 .f32)
    (x12 : Vec Ideal S52x1 .f32) (x13 : Vec Ideal S52x52 .f32) (x14 : Vec Ideal S52x1 .f32) : Prop where
  h0 : x0 (ix2 0 0) = a.g ix0
  h1 : x1 = Ker.scales (F := Ideal) a.decay
  h2 : ∀ k : Fin 14, x2 (ix2 k j) = a.X (ix2 i k)
  h3 : x3 = a.w1
  h4 : ∀ k : Fin 32, x4 (ix2 k 0) = a.b1 (ix1 k)
  h5 : x5 = a.w2
  h6 : ∀ k : Fin 8, x6 (ix2 k 0) = a.b2 (ix1 k)
  h7 : x7 = Ker.negRoots (F := Ideal) a.R
  h8 : ∀ (k : Fin 8) (n : Fin 240), x8 (ix2 k n) = a.R (ix2 n k)
  h9 : x9 = Ker.rootLens (F := Ideal) a.R
  h10 : x10 = Ker.tables (F := Ideal) (Ker.scales a.decay) (Ker.ctrlScales (Ker.scales a.decay)) a.et (Ker.ctrlTabs a.c0 a.ct)
  h11 : x11 = a.w3
  h12 : ∀ k : Fin 52, x12 (ix2 k 0) = a.b3 (ix1 k)
  h13 : x13 = a.w4
  h14 : ∀ k : Fin 52, x14 (ix2 k 0) = a.b4 (ix1 k)

section Block

variable {a : Args} {j : Fin 8192} {i : Fin 16384}
  {x0 : Vec Ideal S1x1 .f32} {x1 : Vec Ideal S1x8 .f32} {x2 : Vec Ideal S14x8192 .f32} {x3 : Vec Ideal S32x14 .f32}
  {x4 : Vec Ideal S32x1 .f32} {x5 : Vec Ideal S8x32 .f32} {x6 : Vec Ideal S8x1 .f32} {x7 : Vec Ideal S240x8 .f32}
  {x8 : Vec Ideal S8x240 .f32} {x9 : Vec Ideal S240x1 .f32} {x10 : Vec Ideal S8x57x240 .f32} {x11 : Vec Ideal S52x52 .f32}
  {x12 : Vec Ideal S52x1 .f32} {x13 : Vec Ideal S52x52 .f32} {x14 : Vec Ideal S52x1 .f32}
  (B : Blocks a j i x0 x1 x2 x3 x4 x5 x6 x7 x8 x9 x10 x11 x12 x13 x14)

include B

/-- The rows before the levels agree and are real. -/
theorem Blocks.q (k : Fin 8) : ∃ ξ : ℝ, a.q (ix2 i k) = ξ
    ∧ (k0_pay58 (F := Ideal) x0 x1 x2 x3 x4 x5 x6 x7 x8 x9 x10 x11 x12 x13 x14) (ix2 k j) = ξ := by
  have hK : (k0_pay58 (F := Ideal) x0 x1 x2 x3 x4 x5 x6 x7 x8 x9 x10 x11 x12 x13 x14)
      = Ker.normB (F := Ideal) (Ker.rawB (View.ld x3 r0_1) (View.ld x2 r0_2) (View.ld x4 r0_3) (View.ld x5 r0_4) (View.ld x6 r0_5)) := by
    unfold k0_pay58 k0_pay56 k0_pay57
    exact Ker.pay3_eq _ _ _ _ _
  rw [Ker.ld1, Ker.ld2, Ker.ld3, Ker.ld4, Ker.ld5] at hK
  obtain ⟨ξ, hξ⟩ := Row.normRow_real (fun k => Ref.rawQ (F := Ideal) a.X a.w1 a.b1 a.w2 a.b2 (ix2 i k)) k
  refine ⟨ξ, ?_, ?_⟩
  · rw [Args.q, Ref.normed_at]; exact hξ
  · rw [hK, Ker.norm_at, ← hξ]
    refine congrFun (congrArg Row.normRow (funext fun k => ?_)) k
    rw [Ker.raw_at, Ref.rawQ_at, funext B.h2, B.h3, funext B.h4, B.h5, funext B.h6]

/-- The levels agree. -/
theorem Blocks.agree (G : a.Good) : ∀ n, n < 8 → Agree (Ker.levels (F := Ideal) x1 x10 n) (a.lv n)
    (phi (Ker.levels (F := Ideal) x1 x10) n) :=
  Cert.Rcpl.agree a.decay a.et a.c0 a.ct (decay_exp G.decay) x1 x10 B.h1 B.h10

/-- The common squared length. -/
theorem Blocks.len : Ker.oneOf (F := Ideal) (View.ld x9 r0_6) = Ref.rootLen (F := Ideal) a.R (ix2 0 0) := by
  rw [Ker.ld6, B.h9, Ker.rootLens_at, Ref.rootLen_at]

/-- The embedding after the levels. -/
theorem Blocks.emb (G : a.Good) (o : Fin 52) :
    Ker.aAt (F := Ideal) x0 x1 x2 x3 x4 x5 x6 x7 x8 x9 x10 x11 x12 x13 x14 8 (ix2 ⟨o, by omega⟩ j) = a.emb (ix2 i o) := by
  unfold Ker.aAt
  rw [B.len, Ker.ld8, Ker.ld10, B.h7]
  exact emb_eq (B.agree G) G.roots (fun k n => B.h8 k n) (fun k => B.q k) o 8 le_rfl

/-- The control after the levels. -/
theorem Blocks.ctrl (G : a.Good) (o : Fin 4) :
    Ker.aAt (F := Ideal) x0 x1 x2 x3 x4 x5 x6 x7 x8 x9 x10 x11 x12 x13 x14 8 (ix2 ⟨52 + o, by omega⟩ j)
      = a.control (ix2 i o) := by
  unfold Ker.aAt
  rw [B.len, Ker.ld8, Ker.ld10, B.h7]
  exact ctrl_eq (B.agree G) G.roots (fun k n => B.h8 k n) (fun k => B.q k) rfl (fun _ => rfl) o 8 le_rfl

/-- The second result. -/
theorem Blocks.control (G : a.Good) (o : Fin 4) :
    k0_pay1 (F := Ideal) (k0_pay54 (k0_pay75 x0 x1 x2 x3 x4 x5 x6 x7 x8 x9 x10 x11 x12 x13 x14)
      (k0_pay77 x0 x1 x2 x3 x4 x5 x6 x7 x8 x9 x10 x11 x12 x13 x14)
      (k0_pay78 x0 x1 x2 x3 x4 x5 x6 x7 x8 x9 x10 x11 x12 x13 x14)) (ix2 o j) = a.control (ix2 i o) := by
  rw [Ker.acc8, ← B.ctrl G o]
  generalize Ker.aAt (F := Ideal) x0 x1 x2 x3 x4 x5 x6 x7 x8 x9 x10 x11 x12 x13 x14 8 = A
  pointwise [k0_pay1]

/-- The first result. -/
theorem Blocks.program (G : a.Good) (o : Fin 52) :
    k0_pay55 (F := Ideal) (k0_pay2 (View.ld x0 r0_0)) (k0_pay75 x0 x1 x2 x3 x4 x5 x6 x7 x8 x9 x10 x11 x12 x13 x14)
      (k0_pay77 x0 x1 x2 x3 x4 x5 x6 x7 x8 x9 x10 x11 x12 x13 x14)
      (k0_pay78 x0 x1 x2 x3 x4 x5 x6 x7 x8 x9 x10 x11 x12 x13 x14)
      (View.ld x11 r0_25) (View.ld x12 r0_26) (View.ld x13 r0_25) (View.ld x14 r0_26) (ix2 o j) = a.program (ix2 i o) := by
  rw [Ker.pay55_eq, Ker.acc8, Ker.ld0, Ker.ld25, Ker.ld26, Ker.ld25, Ker.ld26, Args.program, Ref.refined_at]
  have hE : ∀ o : Fin 52, extractStridedSlice S52x8192 ![0, 0]
      (Ker.aAt (F := Ideal) x0 x1 x2 x3 x4 x5 x6 x7 x8 x9 x10 x11 x12 x13 x14 8) slices_S56x8192_o0_0_S52x8192 (ix2 o j)
      = a.emb (ix2 i o) := fun o => by
    rw [← B.emb G o]
    generalize Ker.aAt (F := Ideal) x0 x1 x2 x3 x4 x5 x6 x7 x8 x9 x10 x11 x12 x13 x14 8 = A
    pointwise []
  generalize extractStridedSlice S52x8192 ![0, 0]
      (Ker.aAt (F := Ideal) x0 x1 x2 x3 x4 x5 x6 x7 x8 x9 x10 x11 x12 x13 x14 8) slices_S56x8192_o0_0_S52x8192 = E at hE ⊢
  show E (ix2 o j) + x0 (ix2 0 0) * Ker.deltaB (F := Ideal) E x11 x12 x13 x14 (ix2 o j) = _
  rw [Ker.delta_at, hE o, funext hE, B.h0, B.h11, funext B.h12, B.h13, funext B.h14]

end Block

end Cert.Rcpl

end
-- ==== Proof.KerVal.lean ====
/- The kernel's two output arrays, in terms of the arguments. -/
module

public import proofs.«01_k».proof.Proof.Block
public import proofs.«01_k».proof.Proof.KerHost
public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.Rcpl.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments, as the memory holds them. -/
def argsOf : Args where
  X := m ((c : Thread nD τ).loc main_arg0)
  w1 := m ((c : Thread nD τ).loc main_arg1)
  b1 := m ((c : Thread nD τ).loc main_arg2)
  w2 := m ((c : Thread nD τ).loc main_arg3)
  b2 := m ((c : Thread nD τ).loc main_arg4)
  et := m ((c : Thread nD τ).loc main_arg5)
  c0 := m ((c : Thread nD τ).loc main_arg6)
  ct := m ((c : Thread nD τ).loc main_arg7)
  ld := m ((c : Thread nD τ).loc main_arg8)
  w3 := m ((c : Thread nD τ).loc main_arg9)
  b3 := m ((c : Thread nD τ).loc main_arg10)
  w4 := m ((c : Thread nD τ).loc main_arg11)
  b4 := m ((c : Thread nD τ).loc main_arg12)
  g := m ((c : Thread nD τ).loc main_arg13)
  R := m ((c : Thread nD τ).loc main_arg14)

/-- The windows' index maps. -/
theorem idx : ∀ t : Fin cfg0.N, win0_0.index t = ![0, 0] ∧ win0_1.index t = ![0, 0] ∧ win0_2.index t = ![0, t.val]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] ∧ win0_14.index t = ![0, 0]
    ∧ win0_15.index t = ![0, t.val] ∧ win0_16.index t = ![0, t.val] :=
  (by decide +kernel : ∀ t : Fin grid0.N, _)

/-- The row of the batch at a column of a point's block. -/
def rowAt (t : Fin cfg0.N) (j : Fin 8192) : Fin 16384 :=
  ⟨t.val * 8192 + j.val, by have := t.isLt; have h : cfg0.N = 2 := (by decide +kernel); omega⟩

/-! Every input block, over the array it is cut from. -/

/-- The scales. -/
theorem blk1 (t : Fin cfg0.N) : (iblk m c 1 t : Vec Ideal S1x8 .f32) = V m c main_v33 := by
  funext y; idx_vars y; blk_ext [iblk, idx t]

/-- The gate. -/
theorem blk0 (t : Fin cfg0.N) : (iblk m c 0 t : Vec Ideal S1x1 .f32) = V m c main_v34 := by
  funext y; idx_vars y; blk_ext [iblk, idx t]

/-- The first network's first weights. -/
theorem blk3 (t : Fin cfg0.N) : (iblk m c 3 t : Vec Ideal S32x14 .f32) = m ((c : Thread nD τ).loc main_arg1) := by
  rw [← V_main_arg1 m c]; funext y; idx_vars y; blk_ext [iblk, idx t]

/-- The first network's first bias. -/
theorem blk4 (t : Fin cfg0.N) : (iblk m c 4 t : Vec Ideal S32x1 .f32) = V m c main_v56 := by
  funext y; idx_vars y; blk_ext [iblk, idx t]

/-- The first network's second weights. -/
theorem blk5 (t : Fin cfg0.N) : (iblk m c 5 t : Vec Ideal S8x32 .f32) = m ((c : Thread nD τ).loc main_arg3) := by
  rw [← V_main_arg3 m c]; funext y; idx_vars y; blk_ext [iblk, idx t]

/-- The first network's second bias. -/
theorem blk6 (t : Fin cfg0.N) : (iblk m c 6 t : Vec Ideal S8x1 .f32) = V m c main_v57 := by
  funext y; idx_vars y; blk_ext [iblk, idx t]

/-- The roots times minus two. -/
theorem blk7 (t : Fin cfg0.N) : (iblk m c 7 t : Vec Ideal S240x8 .f32) = V m c main_v59 := by
  funext y; idx_vars y; blk_ext [iblk, idx t]

/-- The turned roots. -/
theorem blk8 (t : Fin cfg0.N) : (iblk m c 8 t : Vec Ideal S8x240 .f32) = V m c main_v60 := by
  funext y; idx_vars y; blk_ext [iblk, idx t]

/-- The roots' squared lengths. -/
theorem blk9 (t : Fin cfg0.N) : (iblk m c 9 t : Vec Ideal S240x1 .f32) = V m c main_v37 := by
  funext y; idx_vars y; blk_ext [iblk, idx t]

/-- The tables of all levels. -/
theorem blk10 (t : Fin cfg0.N) : (iblk m c 10 t : Vec Ideal S8x57x240 .f32) = V m c main_v54 := by
  funext y; idx_vars y; blk_ext [iblk, idx t]

/-- The second network's first weights. -/
theorem blk11 (t : Fin cfg0.N) : (iblk m c 11 t : Vec Ideal S52x52 .f32) = m ((c : Thread nD τ).loc main_arg9) := by
  rw [← V_main_arg9 m c]; funext y; idx_vars y; blk_ext [iblk, idx t]

/-- The second network's first bias. -/
theorem blk12 (t : Fin cfg0.N) : (iblk m c 12 t : Vec Ideal S52x1 .f32) = V m c main_v61 := by
  funext y; idx_vars y; blk_ext [iblk, idx t]

/-- The second network's second weights. -/
theorem blk13 (t : Fin cfg0.N) : (iblk m c 13 t : Vec Ideal S52x52 .f32) = m ((c : Thread nD τ).loc main_arg11) := by
  rw [← V_main_arg11 m c]; funext y; idx_vars y; blk_ext [iblk, idx t]

/-- The second network's second bias. -/
theorem blk14 (t : Fin cfg0.N) : (iblk m c 14 t : Vec Ideal S52x1 .f32) = V m c main_v62 := by
  funext y; idx_vars y; blk_ext [iblk, idx t]

/-- A point's columns of the turned batch. -/
theorem blk2 (t : Fin cfg0.N) (k : Fin 14) (j : Fin 8192) :
    (iblk m c 2 t : Vec Ideal S14x8192 .f32) (ix2 k j) = V m c main_v55 (ix2 k (rowAt t j)) := by
  blk_ext [iblk, idx t, rowAt]

end Cert.Rcpl.Ker

end
-- ==== Proof.KerFinal.lean ====
/- The kernel's two output arrays are the reference's results, transposed. -/
module

public import proofs.«01_k».proof.Proof.KerVal

@[expose] public section

set_option maxRecDepth 16384

noncomputable section

namespace Cert.Rcpl.Ker

open Cert.KernelIdeal Cert.KernelIdeal.Gen Idealize.ShloMosaic Idealize.ShloMosaic.TcCoe Idealize.SL.Sem
open Idealize.ShloMosaic.Pipeline (Dat)

/-! The arrays the host lines transpose or widen, read at an index. -/

/-- The gate, as the one-by-one array. -/
theorem gate_at (g : FVec Ideal S_ .f32) : (shapeCast S1x1 g shapeCasts_S_S1x1 : FVec Ideal S1x1 .f32) (ix2 0 0) = g ix0 := by
  pointwise []

/-- The batch, turned. -/
theorem batch_at (X : FVec Ideal S16384x14 .f32) (k : Fin 14) (i : Fin 16384) :
    (transpose S14x16384 [1, 0] X transposes_S16384x14_S14x16384_1_0 : FVec Ideal S14x16384 .f32) (ix2 k i) = X (ix2 i k) := by
  pointwise []

/-- The roots, turned. -/
theorem roots_at (R : FVec Ideal S240x8 .f32) (k : Fin 8) (n : Fin 240) :
    (transpose S8x240 [1, 0] R transposes_S240x8_S8x240_1_0 : FVec Ideal S8x240 .f32) (ix2 k n) = R (ix2 n k) := by
  pointwise []

/-- The first network's first bias, as a column. -/
theorem bias32_at (b : FVec Ideal S32 .f32) (k : Fin 32) :
    (broadcastInDim S32x1 ![0] bcast_S32_S32x1_0 b : FVec Ideal S32x1 .f32) (ix2 k 0) = b (ix1 k) := by
  pointwise []

/-- The first network's second bias, as a column. -/
theorem bias8_at (b : FVec Ideal S8 .f32) (k : Fin 8) :
    (broadcastInDim S8x1 ![0] bcast_S8_S8x1_0 b : FVec Ideal S8x1 .f32) (ix2 k 0) = b (ix1 k) := by
  pointwise []

/-- A bias of the second network, as a column. -/
theorem bias52_at (b : FVec Ideal S52 .f32) (k : Fin 52) :
    (broadcastInDim S52x1 ![0] bcast_S52_S52x1_0 b : FVec Ideal S52x1 .f32) (ix2 k 0) = b (ix1 k) := by
  pointwise []

variable (m : (ℓ : Loc nD τ sig) → Buf (Elt Ideal) ℓ) (c : Dev nD)

/-- The blocks of a point. -/
theorem blocks (t : Fin cfg0.N) (j : Fin 8192) :
    Blocks (argsOf m c) j (rowAt t j) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) (iblk m c 14 t) where
  h0 := (congrFun ((blk0 m c t).trans (V_gate m c)) (ix2 0 0)).trans (gate_at (argsOf m c).g)
  h1 := (blk1 m c t).trans (V_scales m c)
  h2 k := (blk2 m c t k j).trans ((congrFun (V_batch m c) (ix2 k (rowAt t j))).trans (batch_at (argsOf m c).X k (rowAt t j)))
  h3 := blk3 m c t
  h4 k := (congrFun ((blk4 m c t).trans (V_b1 m c)) (ix2 k 0)).trans (bias32_at (argsOf m c).b1 k)
  h5 := blk5 m c t
  h6 k := (congrFun ((blk6 m c t).trans (V_b2 m c)) (ix2 k 0)).trans (bias8_at (argsOf m c).b2 k)
  h7 := (blk7 m c t).trans (V_neg m c)
  h8 k n := (congrFun ((blk8 m c t).trans (V_rootsT m c)) (ix2 k n)).trans (roots_at (argsOf m c).R k n)
  h9 := (blk9 m c t).trans (V_lens m c)
  h10 := (blk10 m c t).trans (V_tables m c)
  h11 := blk11 m c t
  h12 k := (congrFun ((blk12 m c t).trans (V_c1 m c)) (ix2 k 0)).trans (bias52_at (argsOf m c).b3 k)
  h13 := blk13 m c t
  h14 k := (congrFun ((blk14 m c t).trans (V_c2 m c)) (ix2 k 0)).trans (bias52_at (argsOf m c).b4 k)

/-- The first output array: the reference's first result, transposed. -/
def programT (a : Args) : FVec Ideal S52x16384 .f32 := fun y => a.program (ix2 (y 1) (y 0))

/-- The second output array: the reference's second result, transposed. -/
def controlT (a : Args) : FVec Ideal S4x16384 .f32 := fun y => a.control (ix2 (y 1) (y 0))

/-- The gate's block read whole. -/
theorem ldG (x : Vec Ideal S1x1 .f32) : (View.ld x r0_0 : Vec Ideal S1x1 .f32) = x := by
  funext j; idx_vars j; rw [Subsingleton.elim j0 0, Subsingleton.elim j1 0]; pointwise []

section Stored

variable {a : Args} {j : Fin 8192} {i : Fin 16384} {x0 : Vec Ideal S1x1 .f32} {x1 : Vec Ideal S1x8 .f32}
  {x2 : Vec Ideal S14x8192 .f32} {x3 : Vec Ideal S32x14 .f32} {x4 : Vec Ideal S32x1 .f32} {x5 : Vec Ideal S8x32 .f32}
  {x6 : Vec Ideal S8x1 .f32} {x7 : Vec Ideal S240x8 .f32} {x8 : Vec Ideal S8x240 .f32} {x9 : Vec Ideal S240x1 .f32}
  {x10 : Vec Ideal S8x57x240 .f32} {x11 : Vec Ideal S52x52 .f32} {x12 : Vec Ideal S52x1 .f32}
  {x13 : Vec Ideal S52x52 .f32} {x14 : Vec Ideal S52x1 .f32}

/-- What the body stores of the first result, its small blocks read whole. -/
theorem stored15 (B : Blocks a j i x0 x1 x2 x3 x4 x5 x6 x7 x8 x9 x10 x11 x12 x13 x14) (G : a.Good) (o : Fin 52) :
    k0_pay55 (F := Ideal) (k0_pay2 x0) (k0_pay75 x0 x1 x2 x3 x4 x5 x6 x7 x8 x9 x10 x11 x12 x13 x14)
      (k0_pay77 x0 x1 x2 x3 x4 x5 x6 x7 x8 x9 x10 x11 x12 x13 x14) (k0_pay78 x0 x1 x2 x3 x4 x5 x6 x7 x8 x9 x10 x11 x12 x13 x14) x11 x12 x13 x14 (ix2 o j)
      = a.program (ix2 i o) := by
  have h := B.program G o
  rwa [ldG, ld25, ld26, ld25, ld26] at h

end Stored

/-- Where a point's block of the first output lies. -/
theorem place15 (t : Fin cfg0.N) (y : S52x8192.Idx) :
    ((View.whole main_v63_0).slice (win0_15.rect t)).emb y = ix2 (y 0) (rowAt t (y 1)) := by
  idx_vars y
  blk_ext [idx t, rowAt]

/-- Where a point's block of the second output lies. -/
theorem place16 (t : Fin cfg0.N) (y : S4x8192.Idx) :
    ((View.whole main_v63_1).slice (win0_16.rect t)).emb y = ix2 (y 0) (rowAt t (y 1)) := by
  idx_vars y
  blk_ext [idx t, rowAt]

/-- An index of a block of the first output. -/
theorem split15 (y : S52x8192.Idx) : y = ix2 (y 0) (y 1) := by pointwise []

/-- An index of a block of the second output. -/
theorem split16 (y : S4x8192.Idx) : y = ix2 (y 0) (y 1) := by pointwise []

set_option maxHeartbeats 1000000 in
/-- The first output array after the run. -/
theorem final15 (G : (argsOf m c).Good) : (dats m 0 c).arrAt 15 (cfgs 0).N = programT (argsOf m c) := by
  refine (dats m 0 c).arrAt_eq_of_covers 15 _ (by decide +kernel) fun t _ y => ?_
  blk_simp
  rw [after0_15]
  frame_out
  refine Eq.trans ?_ (congrArg (programT (argsOf m c)) (place15 t y).symm)
  exact (congrArg _ (split15 y)).trans (stored15 (blocks m c t (y 1)) G (y 0))

set_option maxHeartbeats 1000000 in
/-- The second output array after the run. -/
theorem final16 (G : (argsOf m c).Good) : (dats m 0 c).arrAt 16 (cfgs 0).N = controlT (argsOf m c) := by
  refine (dats m 0 c).arrAt_eq_of_covers 16 _ (by decide +kernel) fun t _ y => ?_
  blk_simp
  rw [after0_16]
  frame_out
  refine Eq.trans ?_ (congrArg (controlT (argsOf m c)) (place16 t y).symm)
  exact (congrArg _ (split16 y)).trans ((blocks m c t (y 1)).control G (y 0))

end Cert.Rcpl.Ker

end
-- ==== Proof.KerRun.lean ====
/- What the kernel's run leaves in its two results. -/
module

public import proofs.«01_k».proof.Proof.KerFinal

@[expose] public section

set_option maxRecDepth 16384

noncomputable section

namespace Cert.Rcpl.Ker

open Cert.KernelIdeal Cert.KernelIdeal.Gen Idealize.ShloMosaic Idealize.ShloMosaic.TcCoe Idealize.SL.Sem
open Idealize.ShloMosaic.Pipeline (Dat)

/-- The last host lines turn the first output array. -/
theorem tail_program (W : Valuation τ sig (Elt Ideal)) :
    StableHlo.after ([hostOps1] : List _).flatten W (Proc.devRef .tc main_v64)
      = transpose S16384x52 [1, 0] (W (Proc.devRef .tc main_v63_0)) transposes_S52x16384_S16384x52_1_0 := by
  simp only [List.flatten_cons, List.flatten_nil, List.append_nil]
  after_results_simp

/-- The last host lines turn the second output array. -/
theorem tail_control (W : Valuation τ sig (Elt Ideal)) :
    StableHlo.after ([hostOps1] : List _).flatten W (Proc.devRef .tc main_v65)
      = transpose S16384x4 [1, 0] (W (Proc.devRef .tc main_v63_1)) transposes_S4x16384_S16384x4_1_0 := by
  simp only [List.flatten_cons, List.flatten_nil, List.append_nil]
  after_results_simp

/-- The windows stand on distinct arrays. -/
theorem arr_inj : Function.Injective (Pipeline.arrRef spec0) := by decide

/-- Turning the transposed first result gives the result. -/
theorem turn_program (a : Args) :
    transpose S16384x52 [1, 0] (programT a) transposes_S52x16384_S16384x52_1_0 = a.program := by
  unfold programT
  generalize a.program = X
  funext j
  pointwise []

/-- Turning the transposed second result gives the result. -/
theorem turn_control (a : Args) :
    transpose S16384x4 [1, 0] (controlT a) transposes_S4x16384_S16384x4_1_0 = a.control := by
  unfold controlT
  generalize a.control = X
  funext j
  pointwise []

variable (m : (ℓ : Loc nD τ sig) → Buf (Elt Ideal) ℓ)

/-- The first result. -/
theorem end_program (c : Dev nD) (G : (argsOf m c).Good) :
    Pipeline.afterTail₀ cfgs (dats m) 0 (V0 m) [hostOps1] c main_v64 = (argsOf m c).program := by
  unfold Pipeline.afterTail₀
  rw [tail_program]
  have h := Pipeline.withArrays_arr spec0 arr_inj c (V0 m c) (fun w => (dats m 0 c).arrAt w (cfgs 0).N) 15
  exact (congrArg (fun X => transpose S16384x52 [1, 0] X transposes_S52x16384_S16384x52_1_0) (h.trans (final15 m c G))).trans
    (turn_program (argsOf m c))

/-- The second result. -/
theorem end_control (c : Dev nD) (G : (argsOf m c).Good) :
    Pipeline.afterTail₀ cfgs (dats m) 0 (V0 m) [hostOps1] c main_v65 = (argsOf m c).control := by
  unfold Pipeline.afterTail₀
  rw [tail_control]
  have h := Pipeline.withArrays_arr spec0 arr_inj c (V0 m c) (fun w => (dats m 0 c).arrAt w (cfgs 0).N) 16
  exact (congrArg (fun X => transpose S16384x4 [1, 0] X transposes_S4x16384_S16384x4_1_0) (h.trans (final16 m c G))).trans
    (turn_control (argsOf m c))

/-- The kernel's run ends with the two results. -/
theorem results (ρ : Dev nD → PrngReg) (hG : ∀ c, (argsOf m c).Good) :
    θ_run (defs (F := Ideal)) (onTc (τ := τ) (main (F := Ideal))) ⟨m, fun _ => 0, ρ⟩ fun r => ∀ c : Dev nD,
      r.2.mem ((c.tc : Thread nD τ).loc main_v64) = (argsOf m c).program
      ∧ r.2.mem ((c.tc : Thread nD τ).loc main_v65) = (argsOf m c).control := by
  run_from Cert.KernelIdeal.Gen.run_main m ρ
  · exact end_program m c (hG c)
  · exact end_control m c (hG c)

end Cert.Rcpl.Ker

end
-- ==== Proof.RefEnd.lean ====
/- What the reference's run leaves: its two results, its arguments as they were, and every counter at zero. -/
module

public import proofs.«01_k».proof.Proof.RefVal
public import proofs.«01_k».proof.Proof.KerVal
public import Idealize.ShloMosaic.Lib.Quiescent

@[expose] public section

set_option maxRecDepth 16384

noncomputable section

namespace Cert.Rcpl.Ref

open Cert.ReferenceIdeal Cert.ReferenceIdeal.Gen Idealize.ShloMosaic Idealize.ShloMosaic.TcCoe Idealize.ShloMosaic.StableHlo Idealize.SL.Sem

/-- The arguments, as the reference's memory holds them. -/
def argsOf (m : (ℓ : Loc nD τ sig) → Buf (Elt Ideal) ℓ) (c : Dev nD) : Args where
  X := m ((c.tc : Thread nD τ).loc main_arg0)
  w1 := m ((c.tc : Thread nD τ).loc main_arg1)
  b1 := m ((c.tc : Thread nD τ).loc main_arg2)
  w2 := m ((c.tc : Thread nD τ).loc main_arg3)
  b2 := m ((c.tc : Thread nD τ).loc main_arg4)
  et := m ((c.tc : Thread nD τ).loc main_arg5)
  c0 := m ((c.tc : Thread nD τ).loc main_arg6)
  ct := m ((c.tc : Thread nD τ).loc main_arg7)
  ld := m ((c.tc : Thread nD τ).loc main_arg8)
  w3 := m ((c.tc : Thread nD τ).loc main_arg9)
  b3 := m ((c.tc : Thread nD τ).loc main_arg10)
  w4 := m ((c.tc : Thread nD τ).loc main_arg11)
  b4 := m ((c.tc : Thread nD τ).loc main_arg12)
  g := m ((c.tc : Thread nD τ).loc main_arg13)
  R := m ((c.tc : Thread nD τ).loc main_arg14)

/-- The first result, from the launch contents. -/
theorem program_launch (m : (ℓ : Loc nD τ sig) → Buf (Elt Ideal) ℓ) (c : Dev nD) :
    programOf (launchContents m c) = (argsOf m c).program := rfl

/-- The second result, from the launch contents. -/
theorem control_launch (m : (ℓ : Loc nD τ sig) → Buf (Elt Ideal) ℓ) (c : Dev nD) :
    controlOf (launchContents m c) = (argsOf m c).control := rfl

/-- The reference's run. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v456) = (argsOf m c).program
        ∧ r.2.mem ((c.tc : Thread nD τ).loc main_v426) = (argsOf m c).control
        ∧ ∀ b ∈ argRefs, r.2.mem ((c.tc : Thread nD τ).loc b) = m ((c.tc : Thread nD τ).loc b))
      ∧ r.2.sem = fun _ => 0 :=
  (θ_run (defs (F := Ideal)) _ _).mono (fun r h => ⟨fun c =>
    have hr := result (launchContents m c)
    ⟨((h c main_v456).trans hr.1).trans (program_launch m c), ((h c main_v426).trans hr.2.1).trans (control_launch m c),
      fun b hb => (h c b).trans (hr.2.2 b hb)⟩, sem_eq_zero_of_no_sems (by decide) r.2⟩) (run m ρ)

end Cert.Rcpl.Ref

end
-- ==== Proof.Precond.lean ====
/- The precondition, read: the roots have one finite squared length, and the decay is not zero. -/
module

public import proofs.«01_k».proof.Pre_roots_on_a_sphere
public import Idealize.ShloMosaic.Lib.ReduceAll
public import Idealize.ShloMosaic.Lib.Pointwise
public import Idealize.ShloMosaic.Lib.Affine
public import proofs.«01_k».proof.Proof.Row

@[expose] public section

set_option maxRecDepth 16384

noncomputable section

namespace Cert.Rcpl.Pre

open Cert.Pre_roots_on_a_sphere Idealize.ShloMosaic

/-- The side conditions of the precondition's operations. -/
theorem facts : Cert.Pre_roots_on_a_sphere.Facts where
  reducesTo_S240x8_S240_d1 := by decide
  h_S_ := by decide
  slices_S240_S1_0 := by decide
  shapeCasts_S1_S_ := by decide
  bcast_S_S240 := by decide
  reducesTo_S240_S_d0 := by decide

variable [Cert.Pre_roots_on_a_sphere.Facts]

/-- The squared lengths of the roots. -/
def lens (R : FVec Ideal S240x8 .f32) : FVec Ideal S240 .f32 :=
  Host.reduceAdd (mulf R R) (constant S_ .f32 0x00000000#32) Facts.reducesTo_S240x8_S240_d1 Facts.h_S_

/-- A squared length is the sum of the squares. -/
theorem lens_at (R : FVec Ideal S240x8 .f32) (n : Fin 240) : lens R (ix1 n) = ∑ k, R (ix2 n k) * R (ix2 n k) := by
  pointwise [lens]

/-- The first of them as a number. -/
def head (v : FVec Ideal S240 .f32) : FVec Ideal S_ .f32 :=
  shapeCast S_ (extractStridedSlice S1 ![0] v Facts.slices_S240_S1_0) Facts.shapeCasts_S1_S_

/-- The head of a list is its first entry. -/
theorem head_at (v : FVec Ideal S240 .f32) : head v ix0 = v (ix1 0) := by
  pointwise [head]

/-- The first of them, at every position. -/
theorem heads_at (v : FVec Ideal S_ .f32) (n : Fin 240) :
    broadcastInDim S240 ![] Facts.bcast_S_S240 v (ix1 n) = v ix0 := by
  pointwise []

/-- What the precondition says. -/
theorem decode (a0 : FVec Ideal S16384x14 .f32) (a1 : FVec Ideal S32x14 .f32) (a2 : FVec Ideal S32 .f32)
    (a3 : FVec Ideal S8x32 .f32) (a4 : FVec Ideal S8 .f32) (a5 : FVec Ideal S8x240x52 .f32) (a6 : FVec Ideal S240x4 .f32)
    (a7 : FVec Ideal S7x240x4 .f32) (ld : FVec Ideal S_ .f32) (a9 : FVec Ideal S52x52 .f32) (a10 : FVec Ideal S52 .f32)
    (a11 : FVec Ideal S52x52 .f32) (a12 : FVec Ideal S52 .f32) (a13 : FVec Ideal S_ .f32) (R : FVec Ideal S240x8 .f32)
    (h : fn (F := Ideal) a0 a1 a2 a3 a4 a5 a6 a7 ld a9 a10 a11 a12 a13 R = fun _ => 1#1) :
    (∀ n : Fin 240, ∑ k : Fin 8, R (ix2 n k) * R (ix2 n k) = ∑ k : Fin 8, R (ix2 0 k) * R (ix2 0 k))
      ∧ ∑ k : Fin 8, R (ix2 0 k) * R (ix2 0 k) ≠ ⊤ ∧ ld ix0 ≠ ⊥ := by
  have h0 : IntOp.andi (IntOp.andi
      (Host.reduce IntOp.andi (cmpf .oeq (lens R) (broadcastInDim S240 ![] Facts.bcast_S_S240 (head (lens R))))
        (constantI S_ 1 1#1) Facts.reducesTo_S240_S_d0 Facts.h_S_ ix0)
      (cmpf .olt (head (lens R)) (constant S_ .f32 0x7F800000#32) ix0))
      (cmpf .ogt ld (constant S_ .f32 0xFF800000#32) ix0) = 1#1 := congrFun h ix0
  obtain ⟨h1, h2⟩ := IntOp.andi_eq_one.1 h0
  obtain ⟨h3, h4⟩ := IntOp.andi_eq_one.1 h1
  have e : ∀ n : Fin 240, lens R (ix1 n) = lens R (ix1 0) := fun n => by
    have := Host.reduce_andi_all _ _ _ _ _ h3 (ix1 n)
    have t : cmpf .oeq (lens R) (broadcastInDim S240 ![] Facts.bcast_S_S240 (head (lens R))) (ix1 n)
        = BitVec.ofBool (decide (lens R (ix1 n) = broadcastInDim S240 ![] Facts.bcast_S_S240 (head (lens R)) (ix1 n))) := rfl
    rw [t, heads_at, head_at] at this
    by_contra hne
    rw [decide_eq_false hne] at this
    exact absurd this (by decide)
  refine ⟨fun n => ?_, ?_, ?_⟩
  · rw [← lens_at, ← lens_at]; exact e n
  · have t : cmpf .olt (head (lens R)) (constant S_ .f32 0x7F800000#32) ix0
        = BitVec.ofBool (decide (head (lens R) ix0 < Ideal.ofBits .f32 0x7F800000#32)) := rfl
    rw [t, head_at, lens_at, Row.bits_top] at h4
    intro ht
    rw [decide_eq_false (by rw [ht]; exact lt_irrefl _)] at h4
    exact absurd h4 (by decide)
  · have t : cmpf .ogt ld (constant S_ .f32 0xFF800000#32) ix0
        = BitVec.ofBool (decide (Ideal.ofBits .f32 0xFF800000#32 < ld ix0)) := rfl
    rw [t, Row.bits_bot] at h2
    intro ht
    rw [decide_eq_false (by rw [ht]; exact lt_irrefl _)] at h2
    exact absurd h2 (by decide)

end Cert.Rcpl.Pre

end
-- ==== Proof.Equal.lean ====
/- The two programs, run on the same arguments, end with the same results. -/
module

public import proofs.«01_k».proof.Defs
public import proofs.«01_k».proof.Proof.KerRun
public import proofs.«01_k».proof.Proof.RefEnd
public import proofs.«01_k».proof.Proof.Precond

@[expose] public section

set_option maxRecDepth 16384

noncomputable section

namespace Cert.Rcpl

open Idealize.ShloMosaic Idealize.ShloMosaic.TcCoe Idealize.SL.Sem

/-- The facts of the kernel's program. -/
local instance : Cert.KernelIdeal.Facts := Cert.KernelIdeal.Gen.facts
/-- The facts of the reference's program. -/
local instance : Cert.ReferenceIdeal.Facts := Cert.ReferenceIdeal.Gen.facts
/-- The facts of the precondition's program. -/
local instance : Cert.Pre_roots_on_a_sphere.Facts := Pre.facts

/-- Arguments that satisfy the precondition are good. -/
theorem good (m : (ℓ : Loc Cert.KernelIdeal.nD Cert.KernelIdeal.τ Cert.KernelIdeal.sig) → Buf (Elt Ideal) ℓ)
    (h : Cert.Pre_KernelIdeal_roots_on_a_sphere m) (c : Dev Cert.KernelIdeal.nD) : (Ker.argsOf m c).Good := by
  have d := Pre.decode _ _ _ _ _ _ _ _ _ _ _ _ _ _ _ (h c)
  exact ⟨d.1, d.2.1, d.2.2⟩

/-- The reference keeps its arguments and its counters end at zero. -/
theorem reference_frame : Cert.quiescent_ReferenceIdeal := fun m ρ _ =>
  (θ_run _ _ _).mono (fun _ h => ⟨fun c => by
    have k := (h.1 c).2.2
    refine ⟨?_, ?_, ?_, ?_, ?_, ?_, ?_, ?_, ?_, ?_, ?_, ?_, ?_, ?_, ?_⟩ <;> exact k _ (by decide), h.2⟩) (Ref.ends m ρ)

/-- So it does where the precondition holds. -/
theorem reference_frame_pre : Cert.quiescent_ReferenceIdeal_pre_roots_on_a_sphere := fun m ρ _ =>
  reference_frame m ρ True.intro

/-- The results are equal. -/
theorem equal : Cert.algebraic_KernelIdeal_ReferenceIdeal_pre_roots_on_a_sphere := by
  intro m g m' g' hpre hagree
  have hargs : ∀ c, Ref.argsOf m' c = Ker.argsOf m c := fun c => by
    obtain ⟨h0, h1, h2, h3, h4, h5, h6, h7, h8, h9, h10, h11, h12, h13, h14⟩ := hagree c
    exact (Args.mk.injEq ..).mpr ⟨h0, h1, h2, h3, h4, h5, h6, h7, h8, h9, h10, h11, h12, h13, h14⟩
  refine ⟨fun c => (Ker.argsOf m c).program, fun c => (Ker.argsOf m c).control, ?_, ?_⟩
  · run_from Ker.results m g (good m hpre) & Cert.KernelIdeal.Gen.unchanged m g
  · refine (θ_run _ _ _).mono (fun _ h c => ?_) (Ref.ends m' g')
    obtain ⟨hp, hc, k⟩ := h.1 c
    refine ⟨hp.trans (congrArg Args.program (hargs c)), hc.trans (congrArg Args.control (hargs c)),
      ?_, ?_, ?_, ?_, ?_, ?_, ?_, ?_, ?_, ?_, ?_, ?_, ?_, ?_, ?_⟩ <;> exact k _ (by decide)

end Cert.Rcpl

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim. -/
theorem claim : Cert.Claim := ⟨Cert.Kernel.Gen.facts, Cert.KernelIdeal.Gen.facts, Cert.ReferenceIdeal.Gen.facts, Cert.Rcpl.Pre.facts,
  fun m ρ _ => Cert.Kernel.Gen.frame m ρ, fun m ρ _ => Cert.KernelIdeal.Gen.frame m ρ, fun m ρ _ => Cert.KernelIdeal.Gen.frame m ρ,
  Cert.Rcpl.reference_frame, Cert.Rcpl.reference_frame_pre, trivial, Cert.Rcpl.equal⟩

end Cert.Proof

end
